-- ==== Defs.lean ====
def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaRefIdeal (m : (ℓ : Loc Cert.XaRefIdeal.nD Cert.XaRefIdeal.τ Cert.XaRefIdeal.sig) → Buf (Elt Ideal) ℓ) : Prop :=
  True

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_finite_xa [hPre_finite_xa : Cert.Pre_finite_xa.Facts] (m : (ℓ : Loc Cert.MainIdeal.nD Cert.MainIdeal.τ Cert.MainIdeal.sig) → Buf (Elt Ideal) ℓ) : Prop :=
  ∀ c : Dev Cert.MainIdeal.nD,
    (Cert.Pre_finite_xa.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6))) = (fun _ => 1#1)

def Pre_MainRefIdeal (m : (ℓ : Loc Cert.MainRefIdeal.nD Cert.MainRefIdeal.τ Cert.MainRefIdeal.sig) → Buf (Elt Ideal) ℓ) : Prop :=
  True

def Pre_MainRefIdeal_finite_xa [hPre_finite_xa : Cert.Pre_finite_xa.Facts] (m : (ℓ : Loc Cert.MainRefIdeal.nD Cert.MainRefIdeal.τ Cert.MainRefIdeal.sig) → Buf (Elt Ideal) ℓ) : Prop :=
  ∀ c : Dev Cert.MainRefIdeal.nD,
    (Cert.Pre_finite_xa.fn (F := Ideal) (m ((c.tc : Thread Cert.MainRefIdeal.nD Cert.MainRefIdeal.τ).loc Cert.MainRefIdeal.main_arg0)) (m ((c.tc : Thread Cert.MainRefIdeal.nD Cert.MainRefIdeal.τ).loc Cert.MainRefIdeal.main_arg1)) (m ((c.tc : Thread Cert.MainRefIdeal.nD Cert.MainRefIdeal.τ).loc Cert.MainRefIdeal.main_arg2)) (m ((c.tc : Thread Cert.MainRefIdeal.nD Cert.MainRefIdeal.τ).loc Cert.MainRefIdeal.main_arg3)) (m ((c.tc : Thread Cert.MainRefIdeal.nD Cert.MainRefIdeal.τ).loc Cert.MainRefIdeal.main_arg4)) (m ((c.tc : Thread Cert.MainRefIdeal.nD Cert.MainRefIdeal.τ).loc Cert.MainRefIdeal.main_arg5)) (m ((c.tc : Thread Cert.MainRefIdeal.nD Cert.MainRefIdeal.τ).loc Cert.MainRefIdeal.main_arg6))) = (fun _ => 1#1)

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_finite_t [hPre_finite_t : Cert.Pre_finite_t.Facts] (m : (ℓ : Loc Cert.DaIdeal.nD Cert.DaIdeal.τ Cert.DaIdeal.sig) → Buf (Elt Ideal) ℓ) : Prop :=
  ∀ c : Dev Cert.DaIdeal.nD,
    (Cert.Pre_finite_t.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2))) = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_finite_t [hPre_finite_t : Cert.Pre_finite_t.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_finite_t.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2))) = (fun _ => 1#1)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6))
      ∧ r.2.sem = fun _ => 0)

def quiescent_MainIdeal_pre_finite_xa [hMainIdeal : Cert.MainIdeal.Facts] [hPre_finite_xa : Cert.Pre_finite_xa.Facts] : Prop :=
  ∀ (m : (ℓ : Loc Cert.MainIdeal.nD Cert.MainIdeal.τ Cert.MainIdeal.sig) → Buf (Elt Ideal) ℓ) (g : Dev Cert.MainIdeal.nD → PrngReg), Pre_MainIdeal_finite_xa m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6))
      ∧ r.2.sem = fun _ => 0)

def quiescent_MainRefIdeal_pre_finite_xa [hMainRefIdeal : Cert.MainRefIdeal.Facts] [hPre_finite_xa : Cert.Pre_finite_xa.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal_finite_xa m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaIdeal_pre_finite_t [hDaIdeal : Cert.DaIdeal.Facts] [hPre_finite_t : Cert.Pre_finite_t.Facts] : Prop :=
  ∀ (m : (ℓ : Loc Cert.DaIdeal.nD Cert.DaIdeal.τ Cert.DaIdeal.sig) → Buf (Elt Ideal) ℓ) (g : Dev Cert.DaIdeal.nD → PrngReg), Pre_DaIdeal_finite_t m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def quiescent_DaRefIdeal_pre_finite_t [hDaRefIdeal : Cert.DaRefIdeal.Facts] [hPre_finite_t : Cert.Pre_finite_t.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_finite_t m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def preserves_Xa_XaIdeal : Prop :=
  True

def algebraic_XaIdeal_XaRefIdeal [hXaIdeal : Cert.XaIdeal.Facts] [hXaRefIdeal : Cert.XaRefIdeal.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)) →
    ∃ (v0 : (c : Dev Cert.XaIdeal.nD) → Buf (Elt Ideal) ((c.tc : Thread Cert.XaIdeal.nD Cert.XaIdeal.τ).loc Cert.XaIdeal.main_v2)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v2) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v8) = v0 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2))

def preserves_Main_MainIdeal : Prop :=
  True

def algebraic_MainIdeal_MainRefIdeal_pre_finite_xa [hMainIdeal : Cert.MainIdeal.Facts] [hMainRefIdeal : Cert.MainRefIdeal.Facts] [hPre_finite_xa : Cert.Pre_finite_xa.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal_finite_xa m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)) →
    ∃ (v0 : (c : Dev Cert.MainIdeal.nD) → Buf (Elt Ideal) ((c.tc : Thread Cert.MainIdeal.nD Cert.MainIdeal.τ).loc Cert.MainIdeal.main_v3_0)) (v1 : (c : Dev Cert.MainIdeal.nD) → Buf (Elt Ideal) ((c.tc : Thread Cert.MainIdeal.nD Cert.MainIdeal.τ).loc Cert.MainIdeal.main_v3_1)) (v2 : (c : Dev Cert.MainIdeal.nD) → Buf (Elt Ideal) ((c.tc : Thread Cert.MainIdeal.nD Cert.MainIdeal.τ).loc Cert.MainIdeal.main_v3_2)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v3_0) = v0 c
          ∧ r.2.mem ((c.tc : Thread Cert.MainIdeal.nD Cert.MainIdeal.τ).loc Cert.MainIdeal.main_v3_1) = v1 c
          ∧ r.2.mem ((c.tc : Thread Cert.MainIdeal.nD Cert.MainIdeal.τ).loc Cert.MainIdeal.main_v3_2) = v2 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v33) = v0 c
          ∧ r.2.mem ((c.tc : Thread Cert.MainRefIdeal.nD Cert.MainRefIdeal.τ).loc Cert.MainRefIdeal.main_v32) = v1 c
          ∧ r.2.mem ((c.tc : Thread Cert.MainRefIdeal.nD Cert.MainRefIdeal.τ).loc Cert.MainRefIdeal.main_v34) = v2 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6))

def preserves_Da_DaIdeal : Prop :=
  True

def algebraic_DaIdeal_DaRefIdeal_pre_finite_t [hDaIdeal : Cert.DaIdeal.Facts] [hDaRefIdeal : Cert.DaRefIdeal.Facts] [hPre_finite_t : Cert.Pre_finite_t.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal_finite_t m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)) →
    ∃ (v0 : (c : Dev Cert.DaIdeal.nD) → Buf (Elt Ideal) ((c.tc : Thread Cert.DaIdeal.nD Cert.DaIdeal.τ).loc Cert.DaIdeal.main_v2)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v2) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v10) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2))

def Claim : Prop :=
  ∃ (hXa : Cert.Xa.Facts) (hXaIdeal : Cert.XaIdeal.Facts) (hXaRefIdeal : Cert.XaRefIdeal.Facts) (hMain : Cert.Main.Facts) (hMainIdeal : Cert.MainIdeal.Facts) (hMainRefIdeal : Cert.MainRefIdeal.Facts) (hDa : Cert.Da.Facts) (hDaIdeal : Cert.DaIdeal.Facts) (hDaRefIdeal : Cert.DaRefIdeal.Facts) (hPre_finite_xa : Cert.Pre_finite_xa.Facts) (hPre_finite_t : Cert.Pre_finite_t.Facts),
    quiescent_Xa (hXa := hXa)
    ∧ quiescent_XaIdeal (hXaIdeal := hXaIdeal)
    ∧ quiescent_XaRefIdeal (hXaRefIdeal := hXaRefIdeal)
    ∧ quiescent_Main (hMain := hMain)
    ∧ quiescent_MainIdeal (hMainIdeal := hMainIdeal)
    ∧ quiescent_MainIdeal_pre_finite_xa (hMainIdeal := hMainIdeal) (hPre_finite_xa := hPre_finite_xa)
    ∧ quiescent_MainRefIdeal (hMainRefIdeal := hMainRefIdeal)
    ∧ quiescent_MainRefIdeal_pre_finite_xa (hMainRefIdeal := hMainRefIdeal) (hPre_finite_xa := hPre_finite_xa)
    ∧ quiescent_Da (hDa := hDa)
    ∧ quiescent_DaIdeal (hDaIdeal := hDaIdeal)
    ∧ quiescent_DaIdeal_pre_finite_t (hDaIdeal := hDaIdeal) (hPre_finite_t := hPre_finite_t)
    ∧ quiescent_DaRefIdeal (hDaRefIdeal := hDaRefIdeal)
    ∧ quiescent_DaRefIdeal_pre_finite_t (hDaRefIdeal := hDaRefIdeal) (hPre_finite_t := hPre_finite_t)
    ∧ preserves_Xa_XaIdeal
    ∧ algebraic_XaIdeal_XaRefIdeal (hXaIdeal := hXaIdeal) (hXaRefIdeal := hXaRefIdeal)
    ∧ preserves_Main_MainIdeal
    ∧ algebraic_MainIdeal_MainRefIdeal_pre_finite_xa (hMainIdeal := hMainIdeal) (hMainRefIdeal := hMainRefIdeal) (hPre_finite_xa := hPre_finite_xa)
    ∧ preserves_Da_DaIdeal
    ∧ algebraic_DaIdeal_DaRefIdeal_pre_finite_t (hDaIdeal := hDaIdeal) (hDaRefIdeal := hDaRefIdeal) (hPre_finite_t := hPre_finite_t)
-- ==== Pre_finite_t.lean ====
abbrev S3x4096x7168 : Shape := ⟨3, ![3, 4096, 7168]⟩
abbrev S3x4096x224 : Shape := ⟨3, ![3, 4096, 224]⟩
abbrev S12288x32 : Shape := ⟨2, ![12288, 32]⟩
abbrev S_ : Shape := ⟨0, ![]⟩

class Facts : Prop where
  bcast_S_S12288x32 : S_.BroadcastsInDim S12288x32 (![] : Fin 0 → Fin S12288x32.rank)

variable [Facts]

def fn {F : FTy → Type} [FloatOps F] (main_arg0 : FVec F S3x4096x7168 .fp8e4m3) (main_arg1 : FVec F S3x4096x224 .f32) (main_arg2 : FVec F S12288x32 .f32) : IVec S12288x32 1 :=
  let main_v0 : FVec F S12288x32 .f32 := Host.absf main_arg2
  let main_cst : FVec F S_ .f32 := constant S_ .f32 0x7F800000#32
  let main_v1 : FVec F S12288x32 .f32 := broadcastInDim S12288x32 ![] bcast_S_S12288x32 main_cst
  let main_v2 : IVec S12288x32 1 := cmpf .olt main_v0 main_v1
  main_v2
-- ==== Pre_finite_xa.lean ====
abbrev S3x4096x18432 : Shape := ⟨3, ![3, 4096, 18432]⟩
abbrev S3x4096x576 : Shape := ⟨3, ![3, 4096, 576]⟩
abbrev S7168x18432 : Shape := ⟨2, ![7168, 18432]⟩
abbrev S18432 : Shape := ⟨1, ![18432]⟩
abbrev S32x18432 : Shape := ⟨2, ![32, 18432]⟩
abbrev S7168x32 : Shape := ⟨2, ![7168, 32]⟩
abbrev S12288x32 : Shape := ⟨2, ![12288, 32]⟩
abbrev S_ : Shape := ⟨0, ![]⟩

class Facts : Prop where
  bcast_S_S12288x32 : S_.BroadcastsInDim S12288x32 (![] : Fin 0 → Fin S12288x32.rank)

variable [Facts]

def fn {F : FTy → Type} [FloatOps F] (main_arg0 : FVec F S3x4096x18432 .fp8e5m2) (main_arg1 : FVec F S3x4096x576 .f32) (main_arg2 : FVec F S7168x18432 .fp8e4m3) (main_arg3 : FVec F S18432 .f32) (main_arg4 : FVec F S32x18432 .bf16) (main_arg5 : FVec F S7168x32 .bf16) (main_arg6 : FVec F S12288x32 .f32) : IVec S12288x32 1 :=
  let main_v0 : FVec F S12288x32 .f32 := Host.absf main_arg6
  let main_cst : FVec F S_ .f32 := constant S_ .f32 0x7F800000#32
  let main_v1 : FVec F S12288x32 .f32 := broadcastInDim S12288x32 ![] bcast_S_S12288x32 main_cst
  let main_v2 : IVec S12288x32 1 := cmpf .olt main_v0 main_v1
  main_v2
-- ==== Xa.lean ====
abbrev S3x4096x7168 : Shape := ⟨3, ![3, 4096, 7168]⟩
abbrev S3x4096x224 : Shape := ⟨3, ![3, 4096, 224]⟩
abbrev S7168x32 : Shape := ⟨2, ![7168, 32]⟩
abbrev S12288x7168 : Shape := ⟨2, ![12288, 7168]⟩
abbrev S12288x224 : Shape := ⟨2, ![12288, 224]⟩
abbrev S12288x32 : Shape := ⟨2, ![12288, 32]⟩
abbrev S512x512 : Shape := ⟨2, ![512, 512]⟩
abbrev S512x128 : Shape := ⟨2, ![512, 128]⟩
abbrev S512x32 : Shape := ⟨2, ![512, 32]⟩
abbrev S512x128x1 : Shape := ⟨3, ![512, 128, 1]⟩

abbrev nBuf : Space → Nat
  | .hbm => 6
  | .vmem => 8
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096x224, .f32⟩
  | .hbm, ⟨2, _⟩ => ⟨S7168x32, .bf16⟩
  | .hbm, ⟨3, _⟩ => ⟨S12288x7168, .fp8e4m3⟩
  | .hbm, ⟨4, _⟩ => ⟨S12288x224, .f32⟩
  | .hbm, ⟨5, _⟩ => ⟨S12288x32, .f32⟩
  | .local _ .vmem, ⟨0, _⟩ => ⟨S512x512, .fp8e4m3⟩
  | .local _ .vmem, ⟨1, _⟩ => ⟨S512x512, .fp8e4m3⟩
  | .local _ .vmem, ⟨2, _⟩ => ⟨S512x128, .f32⟩
  | .local _ .vmem, ⟨3, _⟩ => ⟨S512x128, .f32⟩
  | .local _ .vmem, ⟨4, _⟩ => ⟨S512x32, .bf16⟩
  | .local _ .vmem, ⟨5, _⟩ => ⟨S512x32, .bf16⟩
  | .local _ .vmem, ⟨6, _⟩ => ⟨S512x32, .f32⟩
  | .local _ .vmem, ⟨7, _⟩ => ⟨S512x32, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== XaRefIdeal.lean ====
abbrev S3x4096x7168 : Shape := ⟨3, ![3, 4096, 7168]⟩
abbrev S3x4096x224 : Shape := ⟨3, ![3, 4096, 224]⟩
abbrev S7168x32 : Shape := ⟨2, ![7168, 32]⟩
abbrev S3x4096x224x32 : Shape := ⟨4, ![3, 4096, 224, 32]⟩
abbrev S3x4096x224x1 : Shape := ⟨4, ![3, 4096, 224, 1]⟩
abbrev S3x4096x32 : Shape := ⟨3, ![3, 4096, 32]⟩
abbrev S12288x32 : Shape := ⟨2, ![12288, 32]⟩

abbrev nBuf : Space → Nat
  | .hbm => 12
  | .vmem => 2
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096x224, .f32⟩
  | .hbm, ⟨2, _⟩ => ⟨S7168x32, .bf16⟩
  | .hbm, ⟨3, _⟩ => ⟨S3x4096x7168, .bf16⟩
  | .hbm, ⟨4, _⟩ => ⟨S3x4096x224x32, .bf16⟩
  | .hbm, ⟨5, _⟩ => ⟨S3x4096x224, .bf16⟩
  | .hbm, ⟨6, _⟩ => ⟨S3x4096x224x1, .bf16⟩
  | .hbm, ⟨7, _⟩ => ⟨S3x4096x224x32, .bf16⟩
  | .hbm, ⟨8, _⟩ => ⟨S3x4096x224x32, .bf16⟩
  | .hbm, ⟨9, _⟩ => ⟨S3x4096x7168, .bf16⟩
  | .hbm, ⟨10, _⟩ => ⟨S3x4096x32, .f32⟩
  | .hbm, ⟨11, _⟩ => ⟨S12288x32, .f32⟩
  | .local _ .vmem, ⟨0, _⟩ => ⟨S3x4096x7168, .fp8e4m3⟩
  | .local _ .vmem, ⟨1, _⟩ => ⟨S3x4096x7168, .bf16⟩
  | _, _ => ⟨S3x4096x7168, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Main.lean ====
abbrev S3x4096x18432 : Shape := ⟨3, ![3, 4096, 18432]⟩
abbrev S3x4096x576 : Shape := ⟨3, ![3, 4096, 576]⟩
abbrev S7168x18432 : Shape := ⟨2, ![7168, 18432]⟩
abbrev S18432 : Shape := ⟨1, ![18432]⟩
abbrev S32x18432 : Shape := ⟨2, ![32, 18432]⟩
abbrev S7168x32 : Shape := ⟨2, ![7168, 32]⟩
abbrev S12288x32 : Shape := ⟨2, ![12288, 32]⟩
abbrev S12288x18432 : Shape := ⟨2, ![12288, 18432]⟩
abbrev S12288x576 : Shape := ⟨2, ![12288, 576]⟩
abbrev S1x18432 : Shape := ⟨2, ![1, 18432]⟩
abbrev S12288x7168 : Shape := ⟨2, ![12288, 7168]⟩
abbrev S512x512 : Shape := ⟨2, ![512, 512]⟩
abbrev S512x128 : Shape := ⟨2, ![512, 128]⟩
abbrev S7168x512 : Shape := ⟨2, ![7168, 512]⟩
abbrev S1x512 : Shape := ⟨2, ![1, 512]⟩
abbrev S32x512 : Shape := ⟨2, ![32, 512]⟩
abbrev S512x32 : Shape := ⟨2, ![512, 32]⟩
abbrev S512x7168 : Shape := ⟨2, ![512, 7168]⟩
abbrev S512x128x1 : Shape := ⟨3, ![512, 128, 1]⟩
abbrev S1024x512 : Shape := ⟨2, ![1024, 512]⟩
abbrev S512x1024 : Shape := ⟨2, ![512, 1024]⟩
abbrev S512x96 : Shape := ⟨2, ![512, 96]⟩
abbrev S96x512 : Shape := ⟨2, ![96, 512]⟩
abbrev S1024x32 : Shape := ⟨2, ![1024, 32]⟩
abbrev S1024x96 : Shape := ⟨2, ![1024, 96]⟩

abbrev nBuf : Space → Nat
  | .hbm => 13
  | .vmem => 19
  | .smem => 0
  | _ => 0

abbrev bufTy : (tb : Table) → Fin (tcTables nBuf tb) → BufTy
  | .hbm, ⟨0, _⟩ => ⟨S3x4096x18432, .fp8e5m2⟩
  | .hbm, ⟨1, _⟩ => ⟨S3x4096x576, .f32⟩
  | .hbm, ⟨2, _⟩ => ⟨S7168x18432, .fp8e4m3⟩
  | .hbm, ⟨3, _⟩ => ⟨S18432, .f32⟩
  | .hbm, ⟨4, _⟩ => ⟨S32x18432, .bf16⟩
  | .hbm, ⟨5, _⟩ => ⟨S7168x32, .bf16⟩
  | .hbm, ⟨6, _⟩ => ⟨S12288x32, .f32⟩
  | .hbm, ⟨7, _⟩ => ⟨S12288x18432, .fp8e5m2⟩
  | .hbm, ⟨8, _⟩ => ⟨S12288x576, .f32⟩
  | .hbm, ⟨9, _⟩ => ⟨S1x18432, .f32⟩
  | .hbm, ⟨10, _⟩ => ⟨S12288x7168, .bf16⟩
  | .hbm, ⟨11, _⟩ => ⟨S32x18432, .f32⟩
  | .hbm, ⟨12, _⟩ => ⟨S12288x32, .f32⟩
  | .local _ .vmem, ⟨0, _⟩ => ⟨S512x512, .fp8e5m2⟩
  | .local _ .vmem, ⟨1, _⟩ => ⟨S512x512, .fp8e5m2⟩
  | .local _ .vmem, ⟨2, _⟩ => ⟨S512x128, .f32⟩
  | .local _ .vmem, ⟨3, _⟩ => ⟨S512x128, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S1x512, .f32⟩
  | .local _ .vmem, ⟨7, _⟩ => ⟨S1x512, .f32⟩
  | .local _ .vmem, ⟨8, _⟩ => ⟨S32x512, .bf16⟩
  | .local _ .vmem, ⟨9, _⟩ => ⟨S32x512, .bf16⟩
  | .local _ .vmem, ⟨10, _⟩ => ⟨S7168x32, .bf16⟩
  | .local _ .vmem, ⟨11, _⟩ => ⟨S512x32, .f32⟩
  | .local _ .vmem, ⟨12, _⟩ => ⟨S512x32, .f32⟩
  | .local _ .vmem, ⟨13, _⟩ => ⟨S512x7168, .bf16⟩
  | .local _ .vmem, ⟨14, _⟩ => ⟨S512x7168, .bf16⟩
  | .local _ .vmem, ⟨15, _⟩ => ⟨S32x18432, .f32⟩
  | .local _ .vmem, ⟨16, _⟩ => ⟨S512x32, .f32⟩
  | .local _ .vmem, ⟨17, _⟩ => ⟨S512x32, .f32⟩
  | .local _ .vmem, ⟨18, _⟩ => ⟨S512x7168, .f32⟩
  | _, _ => ⟨S3x4096x18432, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![24, 36], ![false, false]⟩

def k0_mult1 (i : grid0.Coords) : BitVec 32 :=
  let arg1 : BitVec 32 := BitVec.ofNat 32 (i 1).val
  let c512_i32 : BitVec 32 := 512#32
  let v187 : BitVec 32 := Scalar.muli arg1 c512_i32
  v187
def k0_cond2 (i : grid0.Coords) : BitVec 1 :=
  let arg0 : BitVec 32 := BitVec.ofNat 32 (i 0).val
  let c0_i32_75 : BitVec 32 := 0#32
  let v189 : BitVec 1 := Scalar.cmpi .eq arg0 c0_i32_75
  let v190 : BitVec 32 := Scalar.extui v189
  let c0_i32_76 : BitVec 32 := 0#32
  let v191 : BitVec 1 := Scalar.cmpi .ne v190 c0_i32_76
  v191

def k0_off1 (i : grid0.Coords) : Fin 2 → Nat :=
  let c0_80 : Index := 0#32
  let arg1 : BitVec 32 := BitVec.ofNat 32 (i 1).val
  let c512_i32 : BitVec 32 := 512#32
  let v187 : BitVec 32 := Scalar.muli arg1 c512_i32
  let v188 : BitVec 32 := v187
  let v198 : Index := Scalar.indexCast v188
  ![0, v198.toNat]
def k0_cond3 (i : grid0.Coords) : BitVec 1 :=
  let arg0 : BitVec 32 := BitVec.ofNat 32 (i 0).val
  let c0_i32_77 : BitVec 32 := 0#32
  let v192 : BitVec 1 := Scalar.cmpi .ne arg0 c0_i32_77
  let v193 : BitVec 32 := Scalar.extui v192
  let c0_i32_78 : BitVec 32 := 0#32
  let v194 : BitVec 1 := Scalar.cmpi .ne v193 c0_i32_78
  v194

def k0_off2 (i : grid0.Coords) : Fin 2 → Nat :=
  let c0_80 : Index := 0#32
  let arg1 : BitVec 32 := BitVec.ofNat 32 (i 1).val
  let c512_i32 : BitVec 32 := 512#32
  let v187 : BitVec 32 := Scalar.muli arg1 c512_i32
  let v188 : BitVec 32 := v187
  let v198 : Index := Scalar.indexCast v188
  ![0, v198.toNat]
def k0_cond4 (i : grid0.Coords) : BitVec 1 :=
  let arg1 : BitVec 32 := BitVec.ofNat 32 (i 1).val
  let c35_i32 : BitVec 32 := 35#32
  let v195 : BitVec 1 := Scalar.cmpi .eq arg1 c35_i32
  let v196 : BitVec 32 := Scalar.extui v195
  let c0_i32_79 : BitVec 32 := 0#32
  let v197 : BitVec 1 := Scalar.cmpi .ne v196 c0_i32_79
  v197

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S7168x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S32x18432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MainRefIdeal.lean ====
abbrev S3x4096x18432 : Shape := ⟨3, ![3, 4096, 18432]⟩
abbrev S3x4096x576 : Shape := ⟨3, ![3, 4096, 576]⟩
abbrev S7168x18432 : Shape := ⟨2, ![7168, 18432]⟩
abbrev S18432 : Shape := ⟨1, ![18432]⟩
abbrev S32x18432 : Shape := ⟨2, ![32, 18432]⟩
abbrev S7168x32 : Shape := ⟨2, ![7168, 32]⟩
abbrev S12288x32 : Shape := ⟨2, ![12288, 32]⟩
abbrev S3x4096x576x32 : Shape := ⟨4, ![3, 4096, 576, 32]⟩
abbrev S3x4096x576x1 : Shape := ⟨4, ![3, 4096, 576, 1]⟩
abbrev S3x4096x32 : Shape := ⟨3, ![3, 4096, 32]⟩
abbrev S1x18432 : Shape := ⟨2, ![1, 18432]⟩
abbrev S3x4096x7168 : Shape := ⟨3, ![3, 4096, 7168]⟩
abbrev S_ : Shape := ⟨0, ![]⟩
abbrev S12288x7168 : Shape := ⟨2, ![12288, 7168]⟩

abbrev nBuf : Space → Nat
  | .hbm => 46
  | .vmem => 5
  | .smem => 0
  | _ => 0

abbrev bufTy : (tb : Table) → Fin (tcTables nBuf tb) → BufTy
  | .hbm, ⟨0, _⟩ => ⟨S3x4096x18432, .fp8e5m2⟩
  | .hbm, ⟨1, _⟩ => ⟨S3x4096x576, .f32⟩
  | .hbm, ⟨2, _⟩ => ⟨S7168x18432, .fp8e4m3⟩
  | .hbm, ⟨3, _⟩ => ⟨S18432, .f32⟩
  | .hbm, ⟨4, _⟩ => ⟨S32x18432, .bf16⟩
  | .hbm, ⟨5, _⟩ => ⟨S7168x32, .bf16⟩
  | .hbm, ⟨6, _⟩ => ⟨S12288x32, .f32⟩
  | .hbm, ⟨7, _⟩ => ⟨S3x4096x18432, .bf16⟩
  | .hbm, ⟨8, _⟩ => ⟨S3x4096x18432, .f32⟩
  | .hbm, ⟨9, _⟩ => ⟨S7168x18432, .bf16⟩
  | .hbm, ⟨10, _⟩ => ⟨S3x4096x576x32, .bf16⟩
  | .hbm, ⟨11, _⟩ => ⟨S3x4096x576, .bf16⟩
  | .hbm, ⟨12, _⟩ => ⟨S3x4096x576x1, .bf16⟩
  | .hbm, ⟨13, _⟩ => ⟨S3x4096x576x32, .bf16⟩
  | .hbm, ⟨14, _⟩ => ⟨S3x4096x576x32, .bf16⟩
  | .hbm, ⟨15, _⟩ => ⟨S3x4096x18432, .bf16⟩
  | .hbm, ⟨16, _⟩ => ⟨S3x4096x32, .f32⟩
  | .hbm, ⟨17, _⟩ => ⟨S18432, .bf16⟩
  | .hbm, ⟨18, _⟩ => ⟨S1x18432, .bf16⟩
  | .hbm, ⟨19, _⟩ => ⟨S7168x18432, .bf16⟩
  | .hbm, ⟨20, _⟩ => ⟨S7168x18432, .bf16⟩
  | .hbm, ⟨21, _⟩ => ⟨S3x4096x7168, .f32⟩
  | .hbm, ⟨22, _⟩ => ⟨S3x4096x32, .bf16⟩
  | .hbm, ⟨23, _⟩ => ⟨S3x4096x32, .f32⟩
  | .hbm, ⟨24, _⟩ => ⟨S7168x32, .f32⟩
  | .hbm, ⟨25, _⟩ => ⟨S3x4096x7168, .f32⟩
  | .hbm, ⟨26, _⟩ => ⟨S3x4096x32, .f32⟩
  | .hbm, ⟨27, _⟩ => ⟨S3x4096x7168, .f32⟩
  | .hbm, ⟨28, _⟩ => ⟨S3x4096x7168, .f32⟩
  | .hbm, ⟨29, _⟩ => ⟨S_, .f32⟩
  | .hbm, ⟨30, _⟩ => ⟨S3x4096x7168, .f32⟩
  | .hbm, ⟨31, _⟩ => ⟨S3x4096x7168, .f32⟩
  | .hbm, ⟨32, _⟩ => ⟨S3x4096x7168, .f32⟩
  | .hbm, ⟨33, _⟩ => ⟨S3x4096x7168, .bf16⟩
  | .hbm, ⟨34, _⟩ => ⟨S3x4096x576x32, .f32⟩
  | .hbm, ⟨35, _⟩ => ⟨S3x4096x576x1, .f32⟩
  | .hbm, ⟨36, _⟩ => ⟨S3x4096x576x32, .f32⟩
  | .hbm, ⟨37, _⟩ => ⟨S3x4096x576x32, .f32⟩
  | .hbm, ⟨38, _⟩ => ⟨S3x4096x18432, .f32⟩
  | .hbm, ⟨39, _⟩ => ⟨S3x4096x32, .f32⟩
  | .hbm, ⟨40, _⟩ => ⟨S32x18432, .f32⟩
  | .hbm, ⟨41, _⟩ => ⟨S_, .f32⟩
  | .hbm, ⟨42, _⟩ => ⟨S32x18432, .f32⟩
  | .hbm, ⟨43, _⟩ => ⟨S32x18432, .f32⟩
  | .hbm, ⟨44, _⟩ => ⟨S12288x7168, .bf16⟩
  | .hbm, ⟨45, _⟩ => ⟨S12288x32, .f32⟩
  | .local _ .vmem, ⟨0, _⟩ => ⟨S3x4096x18432, .fp8e5m2⟩
  | .local _ .vmem, ⟨1, _⟩ => ⟨S7168x18432, .fp8e4m3⟩
  | .local _ .vmem, ⟨2, _⟩ => ⟨S3x4096x18432, .bf16⟩
  | .local _ .vmem, ⟨3, _⟩ => ⟨S3x4096x18432, .f32⟩
  | .local _ .vmem, ⟨4, _⟩ => ⟨S7168x18432, .bf16⟩
  | _, _ => ⟨S3x4096x18432, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x4096x18432 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x18432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Da.lean ====
abbrev S3x4096x7168 : Shape := ⟨3, ![3, 4096, 7168]⟩
abbrev S3x4096x224 : Shape := ⟨3, ![3, 4096, 224]⟩
abbrev S12288x32 : Shape := ⟨2, ![12288, 32]⟩
abbrev S12288x7168 : Shape := ⟨2, ![12288, 7168]⟩
abbrev S12288x224 : Shape := ⟨2, ![12288, 224]⟩
abbrev S32x7168 : Shape := ⟨2, ![32, 7168]⟩
abbrev S512x512 : Shape := ⟨2, ![512, 512]⟩
abbrev S512x128 : Shape := ⟨2, ![512, 128]⟩
abbrev S512x32 : Shape := ⟨2, ![512, 32]⟩
abbrev S32x512 : Shape := ⟨2, ![32, 512]⟩
abbrev S512x128x1 : Shape := ⟨3, ![512, 128, 1]⟩
abbrev S512x96 : Shape := ⟨2, ![512, 96]⟩
abbrev S96x512 : Shape := ⟨2, ![96, 512]⟩

abbrev nBuf : Space → Nat
  | .hbm => 6
  | .vmem => 8
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096x224, .f32⟩
  | .hbm, ⟨2, _⟩ => ⟨S12288x32, .f32⟩
  | .hbm, ⟨3, _⟩ => ⟨S12288x7168, .fp8e4m3⟩
  | .hbm, ⟨4, _⟩ => ⟨S12288x224, .f32⟩
  | .hbm, ⟨5, _⟩ => ⟨S32x7168, .f32⟩
  | .local _ .vmem, ⟨0, _⟩ => ⟨S512x512, .fp8e4m3⟩
  | .local _ .vmem, ⟨1, _⟩ => ⟨S512x512, .fp8e4m3⟩
  | .local _ .vmem, ⟨2, _⟩ => ⟨S512x128, .f32⟩
  | .local _ .vmem, ⟨3, _⟩ => ⟨S512x128, .f32⟩
  | .local _ .vmem, ⟨4, _⟩ => ⟨S512x32, .f32⟩
  | .local _ .vmem, ⟨5, _⟩ => ⟨S512x32, .f32⟩
  | .local _ .vmem, ⟨6, _⟩ => ⟨S32x512, .f32⟩
  | .local _ .vmem, ⟨7, _⟩ => ⟨S32x512, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 24], ![false, false]⟩

def k0_cond1 (i : grid0.Coords) : BitVec 1 :=
  let arg1 : BitVec 32 := BitVec.ofNat 32 (i 1).val
  let c0_i32_21 : BitVec 32 := 0#32
  let v105 : BitVec 1 := Scalar.cmpi .eq arg1 c0_i32_21
  let v106 : BitVec 32 := Scalar.extui v105
  let c0_i32_22 : BitVec 32 := 0#32
  let v107 : BitVec 1 := Scalar.cmpi .ne v106 c0_i32_22
  v107

def k0_cond2 (i : grid0.Coords) : BitVec 1 :=
  let arg1 : BitVec 32 := BitVec.ofNat 32 (i 1).val
  let c0_i32_23 : BitVec 32 := 0#32
  let v108 : BitVec 1 := Scalar.cmpi .ne arg1 c0_i32_23
  let v109 : BitVec 32 := Scalar.extui v108
  let c0_i32_24 : BitVec 32 := 0#32
  let v110 : BitVec 1 := Scalar.cmpi .ne v109 c0_i32_24
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DaRefIdeal.lean ====
abbrev S3x4096x7168 : Shape := ⟨3, ![3, 4096, 7168]⟩
abbrev S3x4096x224 : Shape := ⟨3, ![3, 4096, 224]⟩
abbrev S12288x32 : Shape := ⟨2, ![12288, 32]⟩
abbrev S3x4096x224x32 : Shape := ⟨4, ![3, 4096, 224, 32]⟩
abbrev S3x4096x224x1 : Shape := ⟨4, ![3, 4096, 224, 1]⟩
abbrev S3x4096x32 : Shape := ⟨3, ![3, 4096, 32]⟩
abbrev S7168x32 : Shape := ⟨2, ![7168, 32]⟩
abbrev S_ : Shape := ⟨0, ![]⟩
abbrev S32x7168 : Shape := ⟨2, ![32, 7168]⟩

abbrev nBuf : Space → Nat
  | .hbm => 15
  | .vmem => 2
  | .smem => 0
  | _ => 0

abbrev bufTy : (tb : Table) → Fin (tcTables nBuf tb) → BufTy
  | .hbm, ⟨0, _⟩ => ⟨S3x4096x7168, .fp8e4m3⟩
  | .hbm, ⟨1, _⟩ => ⟨S3x4096x224, .f32⟩
  | .hbm, ⟨2, _⟩ => ⟨S12288x32, .f32⟩
  | .hbm, ⟨3, _⟩ => ⟨S3x4096x7168, .f32⟩
  | .hbm, ⟨4, _⟩ => ⟨S3x4096x224x32, .f32⟩
  | .hbm, ⟨5, _⟩ => ⟨S3x4096x224x1, .f32⟩
  | .hbm, ⟨6, _⟩ => ⟨S3x4096x224x32, .f32⟩
  | .hbm, ⟨7, _⟩ => ⟨S3x4096x224x32, .f32⟩
  | .hbm, ⟨8, _⟩ => ⟨S3x4096x7168, .f32⟩
  | .hbm, ⟨9, _⟩ => ⟨S3x4096x32, .f32⟩
  | .hbm, ⟨10, _⟩ => ⟨S7168x32, .f32⟩
  | .hbm, ⟨11, _⟩ => ⟨S_, .f32⟩
  | .hbm, ⟨12, _⟩ => ⟨S7168x32, .f32⟩
  | .hbm, ⟨13, _⟩ => ⟨S7168x32, .f32⟩
  | .hbm, ⟨14, _⟩ => ⟨S32x7168, .f32⟩
  | .local _ .vmem, ⟨0, _⟩ => ⟨S3x4096x7168, .fp8e4m3⟩
  | .local _ .vmem, ⟨1, _⟩ => ⟨S3x4096x7168, .f32⟩
  | _, _ => ⟨S3x4096x7168, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Common.lean ====
/- What the three kernels share: one 128-lane block of scales spread over the lanes of a tile (a gather along the lanes at
   `first + lane / 32`), and the dequantised tile of 512 columns read at an index. -/
module

public import Idealize.ShloMosaic.Lib.Pipeline.Value
public import Idealize.ShloMosaic.Lib.ValueIdxCore
public import Idealize.ShloMosaic.Lib.Pointwise

@[expose] public section

set_option maxRecDepth 16384

noncomputable section

namespace Cert.Common

open Idealize.ShloMosaic hiding ix2
open Idealize.ShloMosaic.ValueIdx

variable {F : FTy → Type} [FloatOps F]

abbrev T128 : Shape := ⟨2, ![512, 128]⟩
abbrev T512 : Shape := ⟨2, ![512, 512]⟩

/-- The lane a gather reads: the first scale's lane plus the lane's block of 32. -/
def lanes (a : BitVec 32) (hi : T128.Iotas .tc 32 [1]) : IVec T128 32 :=
  addi (broadcast T128 a) (shrui (iota .tc T128 32 [1] hi) (broadcast T128 5#32))

/-- The index vector as the gather takes it: a negative index wrapped by 128. -/
def wrapped (v : IVec T128 32) (h : T128.ShapeCasts ⟨3, ![512, 128, 1]⟩) (h' : (⟨3, ![512, 128, 1]⟩ : Shape).ShapeCasts T128) : IVec T128 32 :=
  shapeCast T128 (shapeCast ⟨3, ![512, 128, 1]⟩
    (select (cmpi .slt v (broadcast T128 0#32)) (addi v (broadcast T128 128#32)) v) h) h'

theorem lanes_apply (a : BitVec 32) (hi : T128.Iotas .tc 32 [1]) (r : Fin 512) (l : Fin 128) (ha : a.toNat + 4 ≤ 128) :
    (lanes a hi (ix2 r l)).toNat = a.toNat + l.val / 32 := by
  have e : lanes a hi (ix2 r l) = a + (BitVec.ofNat 32 (0 * 128 + l.val)) >>> 5 := by
    rfl
  rw [e, BitVec.toNat_add, BitVec.toNat_ushiftRight, BitVec.toNat_ofNat, Nat.shiftRight_eq_div_pow]
  have := l.isLt
  omega

theorem wrapped_apply (v : IVec T128 32) (h : T128.ShapeCasts ⟨3, ![512, 128, 1]⟩) (h' : (⟨3, ![512, 128, 1]⟩ : Shape).ShapeCasts T128) (r : Fin 512) (l : Fin 128) (hv : (v (ix2 r l)).toNat < 128) :
    wrapped v h h' (ix2 r l) = v (ix2 r l) := by
  unfold wrapped
  rw [shapeCast_shapeCast]
  have hn : ¬ (v (ix2 r l)).slt 0#32 = true := by
    rw [BitVec.slt_eq_decide, BitVec.toInt_eq_toNat_of_lt (by omega)]
    simp
  show Scalar.select (IntOp.cmpi .slt (v (ix2 r l)) 0#32) _ _ = _
  unfold IntOp.cmpi Scalar.select
  simp [hn]

/-- The gathered scale at a lane. -/
theorem gather_apply {α : Type} (x : T128.Idx → α) (a : BitVec 32) (hi : T128.Iotas .tc 32 [1]) (h : T128.ShapeCasts ⟨3, ![512, 128, 1]⟩) (h' : (⟨3, ![512, 128, 1]⟩ : Shape).ShapeCasts T128) (r : Fin 512) (l : Fin 128) (ha : a.toNat + 4 ≤ 128)
    (p : Fin 128) (hp : p.val = a.toNat + l.val / 32) :
    dynamicGather 1 x (wrapped (lanes a hi) h h') (ix2 r l) = x (ix2 r p) := by
  have h1 := lanes_apply a hi r l ha
  have hl := l.isLt
  rw [dynamicGather_apply]
  congr 1
  funext b
  match b with
  | ⟨0, _⟩ => rfl
  | ⟨1, _⟩ =>
    apply Fin.ext
    show (wrapped (lanes a hi) h h' (ix2 r l)).toNat % 128 = p.val
    rw [wrapped_apply _ _ _ _ _ (by omega), h1, hp]
    omega

/-- One chunk of 128 columns of the dequantised tile. -/
def chunk {φ : FTy} (x0 : FVec F T512 φ) (x1 : FVec F T128 .f32) (a : BitVec 32) (o : Nat) (hs : T512.Slices ![0, o] T128)
    (hb : φ.bits < FTy.bits .bf16) (hb' : FTy.bits .bf16 < FTy.bits .f32) (hi : T128.Iotas .tc 32 [1]) (h : T128.ShapeCasts ⟨3, ![512, 128, 1]⟩) (h' : (⟨3, ![512, 128, 1]⟩ : Shape).ShapeCasts T128) : FVec F T128 .bf16 :=
  mulf (extf .bf16 (extractStridedSlice T128 ![0, o] x0 hs) hb) (truncf .bf16 (dynamicGather 1 x1 (wrapped (lanes a hi) h h')) hb')

theorem chunk_apply {φ : FTy} (x0 : FVec F T512 φ) (x1 : FVec F T128 .f32) (a : BitVec 32) (o : Nat) (hs : T512.Slices ![0, o] T128) (hb : φ.bits < FTy.bits .bf16) (hb' : FTy.bits .bf16 < FTy.bits .f32) (hi : T128.Iotas .tc 32 [1]) (h : T128.ShapeCasts ⟨3, ![512, 128, 1]⟩) (h' : (⟨3, ![512, 128, 1]⟩ : Shape).ShapeCasts T128)
    (r : Fin 512) (l : Fin 128) (ha : a.toNat + 4 ≤ 128) (q : Fin 512) (hq : q.val = o + l.val) (p : Fin 128) (hp : p.val = a.toNat + l.val / 32) :
    chunk x0 x1 a o hs hb hb' hi h h' (ix2 r l)
      = FloatOps.mulf (FloatOps.extf .bf16 hb (x0 (ix2 r q))) (FloatOps.truncf .bf16 hb' (x1 (ix2 r p))) := by
  unfold chunk
  show FloatOps.mulf (FloatOps.extf .bf16 hb _) (FloatOps.truncf .bf16 hb' (dynamicGather 1 x1 _ (ix2 r l))) = _
  rw [gather_apply x1 a hi h h' r l ha p hp]
  congr 2
  exact extractStridedSlice_apply _ _ _ _ _ (fun b => match b with
    | ⟨0, _⟩ => by show r.val = 0 + r.val; omega
    | ⟨1, _⟩ => hq)

/-- The dequantised tile: its four chunks side by side. -/
def tile {φ : FTy} (x0 : FVec F T512 φ) (x1 : FVec F T128 .f32) (a : BitVec 32)
    (hs0 : T512.Slices ![0, 0] T128) (hs1 : T512.Slices ![0, 128] T128) (hs2 : T512.Slices ![0, 256] T128) (hs3 : T512.Slices ![0, 384] T128)
    (hb : φ.bits < FTy.bits .bf16) (hb' : FTy.bits .bf16 < FTy.bits .f32) (hi : T128.Iotas .tc 32 [1]) (h : T128.ShapeCasts ⟨3, ![512, 128, 1]⟩) (h' : (⟨3, ![512, 128, 1]⟩ : Shape).ShapeCasts T128)
    (hc : Shape.Concatenates [T128, T128, T128, T128] T512 1) : FVec F T512 .bf16 :=
  concatenate T512 1 [⟨T128, chunk x0 x1 (Scalar.addi a 0#32) 0 hs0 hb hb' hi h h'⟩, ⟨T128, chunk x0 x1 (Scalar.addi a 4#32) 128 hs1 hb hb' hi h h'⟩,
    ⟨T128, chunk x0 x1 (Scalar.addi a 8#32) 256 hs2 hb hb' hi h h'⟩, ⟨T128, chunk x0 x1 (Scalar.addi a 12#32) 384 hs3 hb hb' hi h h'⟩] hc

theorem tile_apply {φ : FTy} (x0 : FVec F T512 φ) (x1 : FVec F T128 .f32) (a : BitVec 32)
    (hs0 : T512.Slices ![0, 0] T128) (hs1 : T512.Slices ![0, 128] T128) (hs2 : T512.Slices ![0, 256] T128) (hs3 : T512.Slices ![0, 384] T128)
    (hb : φ.bits < FTy.bits .bf16) (hb' : FTy.bits .bf16 < FTy.bits .f32) (hi : T128.Iotas .tc 32 [1]) (h : T128.ShapeCasts ⟨3, ![512, 128, 1]⟩) (h' : (⟨3, ![512, 128, 1]⟩ : Shape).ShapeCasts T128)
    (hc : Shape.Concatenates [T128, T128, T128, T128] T512 1)
    (r : Fin 512) (q : Fin 512) (ha : a.toNat + 16 ≤ 128) (p : Fin 128) (hp : p.val = a.toNat + q.val / 32) :
    tile x0 x1 a hs0 hs1 hs2 hs3 hb hb' hi h h' hc (ix2 r q)
      = FloatOps.mulf (FloatOps.extf .bf16 hb (x0 (ix2 r q))) (FloatOps.truncf .bf16 hb' (x1 (ix2 r p))) := by
  let f : Fin 4 → (T128.Idx → F .bf16) := ![chunk x0 x1 (Scalar.addi a 0#32) 0 hs0 hb hb' hi h h', chunk x0 x1 (Scalar.addi a 4#32) 128 hs1 hb hb' hi h h',
    chunk x0 x1 (Scalar.addi a 8#32) 256 hs2 hb hb' hi h h', chunk x0 x1 (Scalar.addi a 12#32) 384 hs3 hb hb' hi h h']
  have hq := q.isLt
  have ek : ∀ k : BitVec 32, k.toNat ≤ 12 → (Scalar.addi a k).toNat = a.toNat + k.toNat := fun k hk => by
    show (a + k).toNat = _
    rw [BitVec.toNat_add]; omega
  have key : ∀ n : Fin 4, n.val = q.val / 128 → f n (ix2 r ⟨q.val % 128, Nat.mod_lt _ (by decide)⟩)
      = FloatOps.mulf (FloatOps.extf .bf16 hb (x0 (ix2 r q))) (FloatOps.truncf .bf16 hb' (x1 (ix2 r p))) := by
    intro n hn
    match n with
    | ⟨0, _⟩ =>
      refine chunk_apply x0 x1 _ 0 hs0 hb hb' hi h h' r _ ?_ q ?_ p ?_
      · rw [ek _ (by decide)]; show a.toNat + 0 + 4 ≤ 128; omega
      · show q.val = 0 + q.val % 128; have : (0 : Nat) = q.val / 128 := hn; omega
      · rw [ek _ (by decide)]; show p.val = a.toNat + 0 + q.val % 128 / 32; have : (0 : Nat) = q.val / 128 := hn; omega
    | ⟨1, _⟩ =>
      refine chunk_apply x0 x1 _ 128 hs1 hb hb' hi h h' r _ ?_ q ?_ p ?_
      · rw [ek _ (by decide)]; show a.toNat + 4 + 4 ≤ 128; omega
      · show q.val = 128 + q.val % 128; have : (1 : Nat) = q.val / 128 := hn; omega
      · rw [ek _ (by decide)]; show p.val = a.toNat + 4 + q.val % 128 / 32; have : (1 : Nat) = q.val / 128 := hn; omega
    | ⟨2, _⟩ =>
      refine chunk_apply x0 x1 _ 256 hs2 hb hb' hi h h' r _ ?_ q ?_ p ?_
      · rw [ek _ (by decide)]; show a.toNat + 8 + 4 ≤ 128; omega
      · show q.val = 256 + q.val % 128; have : (2 : Nat) = q.val / 128 := hn; omega
      · rw [ek _ (by decide)]; show p.val = a.toNat + 8 + q.val % 128 / 32; have : (2 : Nat) = q.val / 128 := hn; omega
    | ⟨3, _⟩ =>
      refine chunk_apply x0 x1 _ 384 hs3 hb hb' hi h h' r _ ?_ q ?_ p ?_
      · rw [ek _ (by decide)]; show a.toNat + 12 + 4 ≤ 128; omega
      · show q.val = 384 + q.val % 128; have : (3 : Nat) = q.val / 128 := hn; omega
      · rw [ek _ (by decide)]; show p.val = a.toNat + 12 + q.val % 128 / 32; have : (3 : Nat) = q.val / 128 := hn; omega
  refine Eq.trans ?_ (key ⟨q.val / 128, by omega⟩ rfl)
  exact concatenate_ofFn_apply (s₁ := T128) (t := T512) 1 f hc rfl 128 rfl (ix2 r q) ⟨q.val / 128, by omega⟩ rfl
    (ix2 r ⟨q.val % 128, Nat.mod_lt _ (by decide)⟩) rfl (fun b hb => by
      match b with
      | ⟨0, _⟩ => rfl
      | ⟨1, _⟩ => exact absurd rfl hb)

end Cert.Common

end
-- ==== Proof.XaRun.lean ====
/- One run of the body of the x times A kernel in each of its two cases (the accumulator reset or not), what it leaves in its output block, and the dequantised tile it multiplies. -/
module

public import proofs.«01_k».proof.Proof.Gen.Xa.Frame
public import proofs.«01_k».proof.Proof.Gen.Xa.Skeleton
public import proofs.«01_k».proof.Proof.Gen.Xa.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Xa.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 336 := Nat.lt_of_lt_of_eq t.isLt N_0
    have e0 : (grid0.coords t 0).val = t.val / 14 % 24 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-! ## The kernel body on any staging memrefs: a subtype the run finds -/

/-- One staging buffer of output window 3, through which its contents are stated (`View.read_writes_of_cover`: the
    choice does not matter). -/
abbrev VO0_3 : View sig .tc .vmem S512x32 .f32 := (Memref.whole cc0_stg3_0 : Memref sig .tc .vmem S512x32 .f32).view
/-- Each window's current staging memref at point `t`, spelled as the pipeline passes it (`bodyAt0`), and its wholeness. -/
abbrev ms0_0 (t : Fin cfg0.N) : Memref sig .tc .vmem S512x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken: points 0, 14, … 322: 24 of 336), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) :
    { L3 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_xa i arg2 harg2 arg3 harg3 arg4 harg4 arg5 harg5) K } := by
  refine ⟨?_, fun E K => ?run⟩
  case run =>
    simp only [cc0_xa_eq_skeleton]; unfold cc0_xa_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

-- (the run's proof term is large: the definition's epilogue — `abstractNestedProofs` — walks it past the default budget)
set_option maxHeartbeats 1000000 in
/-- What the body's stores leave in each output's staging memref, as pieces (last first) IN CASE B (`scf.if` 0 not taken: points 1, 2, … 335: 312 of 336), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) :
    { L3 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_xa i arg2 harg2 arg3 harg3 arg4 harg4 arg5 harg5) K } := by
  refine ⟨?_, fun E K => ?run⟩
  case run =>
    simp only [cc0_xa_eq_skeleton]; unfold cc0_xa_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Case A's pieces for output 3 tile its block (2 stores of `S512x32`, checked by the kernel's evaluation: Lib/Ring.lean `Piece.tiledL`, linear in the pieces, through a loop's `@[irreducible]` trip theorem too), so they cover it. -/
theorem cover0_A_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) (y : S512x32.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S512x32.size (by sl_kernel_rfl) y

/-- What case A leaves in output 3's staging buffer: its pieces read back over junk. -/
def out0_A_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) : Vec F S512x32 .f32 :=
  VO0_3.read (Elt F) (VO0_3.writes (Elt F) VO0_3.junk (kernelRun0_A c i arg2 harg2 arg3 harg3 arg4 harg4 arg5 harg5 hc0 x0 x1 x2).1)

/-- Case B's pieces for output 3 tile its block (1 store of `S512x32`, checked by the kernel's evaluation: Lib/Ring.lean `Piece.tiledL`, linear in the pieces, through a loop's `@[irreducible]` trip theorem too), so they cover it. -/
theorem cover0_B_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) (y : S512x32.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S512x32.size (by sl_kernel_rfl) y

/-- What case B leaves in output 3's staging buffer: its pieces read back over junk. -/
def out0_B_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) : Vec F S512x32 .f32 :=
  VO0_3.read (Elt F) (VO0_3.writes (Elt F) VO0_3.junk (kernelRun0_B c i arg2 harg2 arg3 harg3 arg4 harg4 arg5 harg5 hc0 x0 x1 x2 xo3).1)

/-! ## The dequantised tile, and the outputs as functions of the blocks -/

theorem hz2 : (![0, 0] : Fin 2 → Nat) = fun _ => 0 := funext fun a => by fin_cases a <;> rfl

/-- The first scale's lane in the block of 128: `16 * k` modulo 128, as the kernel computes it. -/
def fw (i : grid0.Coords) : BitVec 32 :=
  let v4 : BitVec 32 := Scalar.muli (BitVec.ofNat 32 (i 1).val) 16#32
  let v6 : BitVec 32 := Scalar.select (Scalar.cmpi .eq 128#32 0#32) 1#32 128#32
  let v7 : BitVec 32 := Scalar.remsi v4 v6
  Scalar.select (Scalar.andi (Scalar.xori (Scalar.cmpi .slt v7 0#32) (Scalar.cmpi .slt v6 0#32)) (Scalar.cmpi .ne v7 0#32)) (Scalar.addi v7 v6) v7

theorem fw_toNat (i : grid0.Coords) : (fw i).toNat = 16 * ((i 1).val % 8) := by
  have h : ∀ k : Fin 14,
      (let v4 : BitVec 32 := Scalar.muli (BitVec.ofNat 32 k.val) 16#32
       let v6 : BitVec 32 := Scalar.select (Scalar.cmpi .eq 128#32 0#32) 1#32 128#32
       let v7 : BitVec 32 := Scalar.remsi v4 v6
       Scalar.select (Scalar.andi (Scalar.xori (Scalar.cmpi .slt v7 0#32) (Scalar.cmpi .slt v6 0#32)) (Scalar.cmpi .ne v7 0#32)) (Scalar.addi v7 v6) v7).toNat
        = 16 * (k.val % 8) := by decide +kernel
  exact h (i 1)

/-- The tile the body multiplies, from the codes and the block of scales. -/
def dq (i : grid0.Coords) (x0 : Vec F S512x512 .fp8e4m3) (x1 : Vec F S512x128 .f32) : FVec F S512x512 .bf16 :=
  k0_pay8 (k0_pay3 x0) (k0_pay4 x1) (fw i) (k0_pay5 i x0 x1) (k0_pay6 x0) (k0_pay7 i)

theorem dq_eq (i : grid0.Coords) (x0 : Vec F S512x512 .fp8e4m3) (x1 : Vec F S512x128 .f32) :
    dq i x0 x1 = Cert.Common.tile (F := F) (φ := .fp8e4m3) x0 x1 (fw i) slices_S512x512_o0_0_S512x128 slices_S512x512_o0_128_S512x128
      slices_S512x512_o0_256_S512x128 slices_S512x512_o0_384_S512x128 bitsLt_fp8e4m3_bf16 bitsLt_bf16_f32 iota_S512x128_d1_w32
      shapeCasts_S512x128_S512x128x1 shapeCasts_S512x128x1_S512x128 concatenates_S512x128_S512x128_S512x128_S512x128_S512x512_d1 := by
  have e0 : k0_pay3 (F := F) x0 = x0 := shapeCast_self _ _
  have e1 : k0_pay4 (F := F) x1 = x1 := shapeCast_self _ _
  unfold dq k0_pay5 k0_pay6
  rw [e0, e1]
  rfl

/-- The tile at an index: the code times its block's scale. -/
theorem dq_apply (i : grid0.Coords) (x0 : Vec F S512x512 .fp8e4m3) (x1 : Vec F S512x128 .f32) (r q : Fin 512) (p : Fin 128)
    (hp : p.val = 16 * ((i 1).val % 8) + q.val / 32) :
    dq i x0 x1 (ValueIdx.ix2 r q) = FloatOps.mulf (FloatOps.extf .bf16 bitsLt_fp8e4m3_bf16 (x0 (ValueIdx.ix2 r q)))
      (FloatOps.truncf .bf16 bitsLt_bf16_f32 (x1 (ValueIdx.ix2 r p))) := by
  rw [dq_eq]
  exact Cert.Common.tile_apply (F := F) (φ := .fp8e4m3) x0 x1 _ _ _ _ _ _ _ _ _ _ _ r q (by rw [fw_toNat]; omega) p (by rw [fw_toNat]; exact hp)

theorem out_B (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) :
    out0_B_3 c i arg2 harg2 arg3 harg3 arg4 harg4 arg5 harg5 hc0 x0 x1 x2 xo3 = k0_pay2 (dq i x0 x1) x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero (S := S512x32) hz2]
  unfold dq fw
  simp only [View.readAt_eq_ld, harg2.read_unread, harg3.read_unread, harg4.read_unread, harg5.read_unread,
    View.ld_unit_zero (S := S512x512) hz2, View.ld_unit_zero (S := S512x128) hz2, View.ld_unit_zero (S := S512x32) hz2]
  rfl

theorem out_A (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) :
    out0_A_3 c i arg2 harg2 arg3 harg3 arg4 harg4 arg5 harg5 hc0 x0 x1 x2 = k0_pay2 (dq i x0 x1) x2 k0_pay1 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S512x32) hz2, View.readCov_unit_zero (S := S512x32) _ hz2]
  unfold dq fw
  simp only [View.readAt_eq_ld, harg2.read_unread, harg3.read_unread, harg4.read_unread,
    View.ld_unit_zero (S := S512x512) hz2, View.ld_unit_zero (S := S512x128) hz2, View.ld_unit_zero (S := S512x32) hz2]
  rfl

end Cert.Xa.Gen

end
-- ==== Proof.XaFrame.lean ====
/- The frame of the x times A kernel: the scales' blocks run past the array's end, so its window is stated on the columns inside the array; what the body computes does not read the rest. -/
module

public import proofs.«01_k».proof.Proof.XaRun

@[expose] public section

set_option maxRecDepth 16384

noncomputable section

namespace Cert.Xa.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The block of scales -/

/-- The scales' block at point `t`, filled out past the array's end. -/
def sblk (c : Dev nD) (t : Fin cfg0.N) : Vec F S512x128 .f32 :=
  win0_1.fill (grid0.coords t) (fun _ => Scalar.ofBits .f32 0#32) (iblk m c 1 t)

theorem clip0_1_eq (s t : Fin cfg0.N) (h : (cfg0.win 1).index s = (cfg0.win 1).index t) :
    (cfg0.win 1).clip (cfg0.grid.coords s) = (cfg0.win 1).clip (cfg0.grid.coords t) := by
  have h' : cc0_transform_1 (grid0.coords s) = cc0_transform_1 (grid0.coords t) := h
  funext a
  show Pipeline.Clip.of (cc0_transform_1 (grid0.coords s) a) _ _ = Pipeline.Clip.of (cc0_transform_1 (grid0.coords t) a) _ _
  rw [h']

/-- The scales' block index: the row block and one block of 128 scales for every eight tiles. -/
theorem index1_1 (i : grid0.Coords) : cc0_transform_1 i 1 = (i 1).val / 8 := by
  have h : ∀ k : Fin 14, cc0_transform_1 (fun a => match a with | ⟨0, _⟩ => (⟨0, by decide⟩ : Fin 24) | ⟨1, _⟩ => k) 1 = k.val / 8 := by decide +kernel
  exact h (i 1)

theorem index1_0 (i : grid0.Coords) : cc0_transform_1 i 0 = (i 0).val := by
  have h : ∀ k : Fin 24, cc0_transform_1 (fun a => match a with | ⟨0, _⟩ => k | ⟨1, _⟩ => (⟨0, by decide⟩ : Fin 14)) 0 = k.val := by decide +kernel
  exact h (i 0)

/-- The columns of the block of scales the tile reads lie inside the array. -/
theorem moved1 (i : grid0.Coords) (r : Fin 512) (p : Fin 128) (hp : p.val < 16 * ((i 1).val % 8) + 16) :
    win0_1.moved i (ValueIdx.ix2 r p) = true := by
  have hk : (i 1).val < 14 := (i 1).isLt
  have hi0 : (i 0).val < 24 := (i 0).isLt
  rw [Pipeline.Window.moved_iff]
  intro a
  match a with
  | ⟨0, _⟩ =>
    show r.val < (Pipeline.Clip.of (cc0_transform_1 i 0) 512 12288).extent 512
    rw [index1_0]; unfold Pipeline.Clip.of
    have := r.isLt
    split <;> simp only [Pipeline.Clip.extent] <;> omega
  | ⟨1, _⟩ =>
    show p.val < (Pipeline.Clip.of (cc0_transform_1 i 1) 128 224).extent 128
    rw [index1_1]; unfold Pipeline.Clip.of
    have := p.isLt
    split <;> simp only [Pipeline.Clip.extent] <;> omega

/-- The tile reads the block of scales inside the array only. -/
theorem dq_tail (i : grid0.Coords) (x0 : Vec F S512x512 .fp8e4m3) (d d' : S512x128.Idx → Elt F .f32) (v) :
    dq i x0 (win0_1.fill i d v) = dq i x0 (win0_1.fill i d' v) := by
  funext j
  obtain ⟨r, q, rfl⟩ : ∃ (r q : Fin 512), j = ValueIdx.ix2 r q := ⟨j 0, j 1, ValueIdx.eq_ix2 j⟩
  have hq := q.isLt
  have hp : 16 * ((i 1).val % 8) + q.val / 32 < 128 := by omega
  rw [dq_apply i x0 _ r q ⟨_, hp⟩ rfl, dq_apply i x0 _ r q ⟨_, hp⟩ rfl]
  have hm : win0_1.moved i (ValueIdx.ix2 r ⟨_, hp⟩) = true := moved1 i r ⟨_, hp⟩ (by dsimp only; omega)
  congr 2
  unfold Pipeline.Window.fill
  rw [dif_pos hm, dif_pos hm]

theorem out0_A_3_tail (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 (grid0.coords t))
    (x0 : Vec F S512x512 .fp8e4m3) (x2 : Vec F S512x32 .bf16) (d : S512x128.Idx → Elt F .f32) :
    out0_A_3 c (grid0.coords t) arg2 harg2 arg3 harg3 arg4 harg4 arg5 harg5 hc0 x0 (sblk m c t) x2
      = out0_A_3 c (grid0.coords t) arg2 harg2 arg3 harg3 arg4 harg4 arg5 harg5 hc0 x0 (win0_1.fill (grid0.coords t) d (iblk m c 1 t)) x2 := by
  rw [out_A, out_A]; unfold sblk; rw [dq_tail]

theorem out0_B_3_tail (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 (grid0.coords t))
    (x0 : Vec F S512x512 .fp8e4m3) (x2 : Vec F S512x32 .bf16) (xo : Vec F S512x32 .f32) (d : S512x128.Idx → Elt F .f32) :
    out0_B_3 c (grid0.coords t) arg2 harg2 arg3 harg3 arg4 harg4 arg5 harg5 hc0 x0 (sblk m c t) x2 xo
      = out0_B_3 c (grid0.coords t) arg2 harg2 arg3 harg3 arg4 harg4 arg5 harg5 hc0 x0 (win0_1.fill (grid0.coords t) d (iblk m c 1 t)) x2 xo := by
  rw [out_B, out_B]; unfold sblk; rw [dq_tail]

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x32 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (sblk m c ⟨0, hn⟩) (iblk m c 2 ⟨0, hn⟩)
  | n + 1, hn =>
    if h0 : (n + 1) % 14 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (sblk m c ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (sblk m c ⟨n + 1, hn⟩) (iblk m c 2 ⟨n + 1, hn⟩) (outsAt0 c n (Nat.lt_of_succ_lt hn))

/-- `outsAt0` at a point of case A: that case's contents. -/
theorem outsAt0_A (c : Dev nD) (t : Fin cfg0.N) (h0 : t.val % 14 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (sblk m c t) (iblk m c 2 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 14 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (sblk m c t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => sblk m c t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = sblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) :=
  ((dats m 0 c).before_in_eq_fetched 1 rfl (fun _ => rfl) (fun s t h => clip0_1_eq s t h) (fun t => by
      rw [after0_1, show (dats m 0 c).blockOf 1 t = iblk m c 1 t from by unfold Dat.blockOf iblk; rw [A_eq]]
      exact win0_1.cut_fill _ _ _) t d).trans
    (by unfold Dat.fetched Dat.blockOf iblk; rw [A_eq]; try rfl)
theorem before0_2 (c : Dev nD) (t : Fin cfg0.N) (d) : (dats m 0 c).before 2 t d = iblk m c 2 t :=
  before0_2_of m (dats m 0 c) (A_eq m c 2) (after0_2 m c) t d
/-- At a point of case B output 3's current staging buffer holds what the body left at the point before: the point is
    not the first, the buffer was not written back between (`flush0_3`), the window is live and uncut (Lib/Pipeline/Frame.lean
    `Dat.before_out_kept`). -/
theorem before0_3_B (c : Dev nD) (t : Fin cfg0.N) (h0 : ¬t.val % 14 = 0) (d) :
    (dats m 0 c).before 3 t d = (outsAt0 m c (t.val - 1) (Nat.lt_of_le_of_lt (Nat.sub_le _ _) t.isLt)) := by
  have hN : t.val < 336 := lt_of_lt_of_eq t.isLt (show cfg0.N = 336 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d ((win0_1).cut (grid0.coords t) ((dats m 0 c).after 1 t))))
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  have hc1 : win0_1.cut (grid0.coords t) (sblk m c t) = iblk m c 1 t := win0_1.cut_fill _ _ _
  rw [show (dats m 0 c).Φ t.succ = (dats m 0 c).Φ t.castSucc from rfl,
    show (dats m 0 c).owesAt () t.succ = (dats m 0 c).owesAt () t.castSucc from rfl,
    after0_0, after0_1, after0_2, after0_3, hc1]
  have hN : t.val < 336 := lt_of_lt_of_eq t.isLt (show cfg0.N = 336 from N_0)
  by_cases h0 : t.val % 14 = 0
  · rw [outsAt0_A m c t h0]
    iintro ⟨HΦ, Ho, ⟨%d0, H0⟩, ⟨%d1, H1⟩, ⟨%d2, H2⟩, ⟨%d3, H3⟩⟩
    rw [out0_A_3_tail (d := d1)]
    unfold out0_A_3
    iapply ((kernelRun0_A c (grid0.coords t) _ _ _ _ _ _ _ _ ((hcond0_0 t).mpr h0) (iblk m c 0 t) (win0_1.fill (grid0.coords t) d1 (iblk m c 1 t)) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexists d1; iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    iintro ⟨HΦ, Ho, ⟨%d0, H0⟩, ⟨%d1, H1⟩, ⟨%d2, H2⟩, ⟨%d3, H3⟩⟩
    rw [out0_B_3_tail (d := d1)]
    unfold out0_B_3
    iapply ((kernelRun0_B c (grid0.coords t) _ _ _ _ _ _ _ _ (fun h => h0 ((hcond0_0 t).mp h)) (iblk m c 0 t) (win0_1.fill (grid0.coords t) d1 (iblk m c 1 t)) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexists d1; iexact H1
    isplitl [H2]; · iexact H2
    unfold owns; iexists _; isplitr
    swap; · iexact H3
    ipureintro; exact View.read_writes_of_cover _ _ _ _ _ (cover0_B_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Xa`'s statement (Defs.lean) at any `F` — Proof.lean cites it at `Bits`:
    `theorem Cert.Proof.claim : Cert.Claim := ⟨Cert.Xa.Gen.facts, fun m ρ _ => Cert.Xa.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Xa.Gen

end
-- ==== Proof.XaIdealRun.lean ====
/- One run of the body of the x times A kernel in each of its two cases (the accumulator reset or not), what it leaves in its output block, and the dequantised tile it multiplies. -/
module

public import proofs.«01_k».proof.Proof.Gen.XaIdeal.Frame
public import proofs.«01_k».proof.Proof.Gen.XaIdeal.Skeleton
public import proofs.«01_k».proof.Proof.Gen.XaIdeal.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.XaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 336 := Nat.lt_of_lt_of_eq t.isLt N_0
    have e0 : (grid0.coords t 0).val = t.val / 14 % 24 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-! ## The kernel body on any staging memrefs: a subtype the run finds -/

/-- One staging buffer of output window 3, through which its contents are stated (`View.read_writes_of_cover`: the
    choice does not matter). -/
abbrev VO0_3 : View sig .tc .vmem S512x32 .f32 := (Memref.whole cc0_stg3_0 : Memref sig .tc .vmem S512x32 .f32).view
/-- Each window's current staging memref at point `t`, spelled as the pipeline passes it (`bodyAt0`), and its wholeness. -/
abbrev ms0_0 (t : Fin cfg0.N) : Memref sig .tc .vmem S512x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken: points 0, 14, … 322: 24 of 336), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) :
    { L3 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_xa i arg2 harg2 arg3 harg3 arg4 harg4 arg5 harg5) K } := by
  refine ⟨?_, fun E K => ?run⟩
  case run =>
    simp only [cc0_xa_eq_skeleton]; unfold cc0_xa_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

-- (the run's proof term is large: the definition's epilogue — `abstractNestedProofs` — walks it past the default budget)
set_option maxHeartbeats 1000000 in
/-- What the body's stores leave in each output's staging memref, as pieces (last first) IN CASE B (`scf.if` 0 not taken: points 1, 2, … 335: 312 of 336), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) :
    { L3 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_xa i arg2 harg2 arg3 harg3 arg4 harg4 arg5 harg5) K } := by
  refine ⟨?_, fun E K => ?run⟩
  case run =>
    simp only [cc0_xa_eq_skeleton]; unfold cc0_xa_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Case A's pieces for output 3 tile its block (2 stores of `S512x32`, checked by the kernel's evaluation: Lib/Ring.lean `Piece.tiledL`, linear in the pieces, through a loop's `@[irreducible]` trip theorem too), so they cover it. -/
theorem cover0_A_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) (y : S512x32.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S512x32.size (by sl_kernel_rfl) y

/-- What case A leaves in output 3's staging buffer: its pieces read back over junk. -/
def out0_A_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) : Vec F S512x32 .f32 :=
  VO0_3.read (Elt F) (VO0_3.writes (Elt F) VO0_3.junk (kernelRun0_A c i arg2 harg2 arg3 harg3 arg4 harg4 arg5 harg5 hc0 x0 x1 x2).1)

/-- Case B's pieces for output 3 tile its block (1 store of `S512x32`, checked by the kernel's evaluation: Lib/Ring.lean `Piece.tiledL`, linear in the pieces, through a loop's `@[irreducible]` trip theorem too), so they cover it. -/
theorem cover0_B_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) (y : S512x32.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S512x32.size (by sl_kernel_rfl) y

/-- What case B leaves in output 3's staging buffer: its pieces read back over junk. -/
def out0_B_3 (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) : Vec F S512x32 .f32 :=
  VO0_3.read (Elt F) (VO0_3.writes (Elt F) VO0_3.junk (kernelRun0_B c i arg2 harg2 arg3 harg3 arg4 harg4 arg5 harg5 hc0 x0 x1 x2 xo3).1)

/-! ## The dequantised tile, and the outputs as functions of the blocks -/

theorem hz2 : (![0, 0] : Fin 2 → Nat) = fun _ => 0 := funext fun a => by fin_cases a <;> rfl

/-- The first scale's lane in the block of 128: `16 * k` modulo 128, as the kernel computes it. -/
def fw (i : grid0.Coords) : BitVec 32 :=
  let v4 : BitVec 32 := Scalar.muli (BitVec.ofNat 32 (i 1).val) 16#32
  let v6 : BitVec 32 := Scalar.select (Scalar.cmpi .eq 128#32 0#32) 1#32 128#32
  let v7 : BitVec 32 := Scalar.remsi v4 v6
  Scalar.select (Scalar.andi (Scalar.xori (Scalar.cmpi .slt v7 0#32) (Scalar.cmpi .slt v6 0#32)) (Scalar.cmpi .ne v7 0#32)) (Scalar.addi v7 v6) v7

theorem fw_toNat (i : grid0.Coords) : (fw i).toNat = 16 * ((i 1).val % 8) := by
  have h : ∀ k : Fin 14,
      (let v4 : BitVec 32 := Scalar.muli (BitVec.ofNat 32 k.val) 16#32
       let v6 : BitVec 32 := Scalar.select (Scalar.cmpi .eq 128#32 0#32) 1#32 128#32
       let v7 : BitVec 32 := Scalar.remsi v4 v6
       Scalar.select (Scalar.andi (Scalar.xori (Scalar.cmpi .slt v7 0#32) (Scalar.cmpi .slt v6 0#32)) (Scalar.cmpi .ne v7 0#32)) (Scalar.addi v7 v6) v7).toNat
        = 16 * (k.val % 8) := by decide +kernel
  exact h (i 1)

/-- The tile the body multiplies, from the codes and the block of scales. -/
def dq (i : grid0.Coords) (x0 : Vec F S512x512 .fp8e4m3) (x1 : Vec F S512x128 .f32) : FVec F S512x512 .bf16 :=
  k0_pay8 (k0_pay3 x0) (k0_pay4 x1) (fw i) (k0_pay5 i x0 x1) (k0_pay6 x0) (k0_pay7 i)

theorem dq_eq (i : grid0.Coords) (x0 : Vec F S512x512 .fp8e4m3) (x1 : Vec F S512x128 .f32) :
    dq i x0 x1 = Cert.Common.tile (F := F) (φ := .fp8e4m3) x0 x1 (fw i) slices_S512x512_o0_0_S512x128 slices_S512x512_o0_128_S512x128
      slices_S512x512_o0_256_S512x128 slices_S512x512_o0_384_S512x128 bitsLt_fp8e4m3_bf16 bitsLt_bf16_f32 iota_S512x128_d1_w32
      shapeCasts_S512x128_S512x128x1 shapeCasts_S512x128x1_S512x128 concatenates_S512x128_S512x128_S512x128_S512x128_S512x512_d1 := by
  have e0 : k0_pay3 (F := F) x0 = x0 := shapeCast_self _ _
  have e1 : k0_pay4 (F := F) x1 = x1 := shapeCast_self _ _
  unfold dq k0_pay5 k0_pay6
  rw [e0, e1]
  rfl

/-- The tile at an index: the code times its block's scale. -/
theorem dq_apply (i : grid0.Coords) (x0 : Vec F S512x512 .fp8e4m3) (x1 : Vec F S512x128 .f32) (r q : Fin 512) (p : Fin 128)
    (hp : p.val = 16 * ((i 1).val % 8) + q.val / 32) :
    dq i x0 x1 (ValueIdx.ix2 r q) = FloatOps.mulf (FloatOps.extf .bf16 bitsLt_fp8e4m3_bf16 (x0 (ValueIdx.ix2 r q)))
      (FloatOps.truncf .bf16 bitsLt_bf16_f32 (x1 (ValueIdx.ix2 r p))) := by
  rw [dq_eq]
  exact Cert.Common.tile_apply (F := F) (φ := .fp8e4m3) x0 x1 _ _ _ _ _ _ _ _ _ _ _ r q (by rw [fw_toNat]; omega) p (by rw [fw_toNat]; exact hp)

theorem out_B (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 i)
    (x0 : Vec F S512x512 .fp8e4m3) (x1 : Vec F S512x128 .f32) (x2 : Vec F S512x32 .bf16) (xo3 : Vec F S512x32 .f32) :
    out0_B_3 c i arg2 harg2 arg3 harg3 arg4 harg4 arg5 harg5 hc0 x0 x1 x2 xo3 = k0_pay2 (dq i x0 x1) x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero (S := S512x32) hz2]
  unfold dq fw
  simp only [View.readAt_eq_ld, harg2.read_unread, harg3.read_unread, harg4.read_unread, harg5.read_unread,
    View.ld_unit_zero (S := S512x512) hz2, View.ld_unit_zero (S := S512x128) hz2, View.ld_unit_zero (S := S512x32) hz2]
  rfl

theorem out_A (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 i)
    (x0 : Vec F S512x512 .fp8e4m3) (x1 : Vec F S512x128 .f32) (x2 : Vec F S512x32 .bf16) :
    out0_A_3 c i arg2 harg2 arg3 harg3 arg4 harg4 arg5 harg5 hc0 x0 x1 x2 = k0_pay2 (dq i x0 x1) x2 k0_pay1 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S512x32) hz2, View.readCov_unit_zero (S := S512x32) _ hz2]
  unfold dq fw
  simp only [View.readAt_eq_ld, harg2.read_unread, harg3.read_unread, harg4.read_unread,
    View.ld_unit_zero (S := S512x512) hz2, View.ld_unit_zero (S := S512x128) hz2, View.ld_unit_zero (S := S512x32) hz2]
  rfl

end Cert.XaIdeal.Gen

end
-- ==== Proof.XaIdealFrame.lean ====
/- The frame of the x times A kernel: the scales' blocks run past the array's end, so its window is stated on the columns inside the array; what the body computes does not read the rest. -/
module

public import proofs.«01_k».proof.Proof.XaIdealRun

@[expose] public section

set_option maxRecDepth 16384

noncomputable section

namespace Cert.XaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The block of scales -/

/-- The scales' block at point `t`, filled out past the array's end. -/
def sblk (c : Dev nD) (t : Fin cfg0.N) : Vec F S512x128 .f32 :=
  win0_1.fill (grid0.coords t) (fun _ => Scalar.ofBits .f32 0#32) (iblk m c 1 t)

theorem clip0_1_eq (s t : Fin cfg0.N) (h : (cfg0.win 1).index s = (cfg0.win 1).index t) :
    (cfg0.win 1).clip (cfg0.grid.coords s) = (cfg0.win 1).clip (cfg0.grid.coords t) := by
  have h' : cc0_transform_1 (grid0.coords s) = cc0_transform_1 (grid0.coords t) := h
  funext a
  show Pipeline.Clip.of (cc0_transform_1 (grid0.coords s) a) _ _ = Pipeline.Clip.of (cc0_transform_1 (grid0.coords t) a) _ _
  rw [h']

/-- The scales' block index: the row block and one block of 128 scales for every eight tiles. -/
theorem index1_1 (i : grid0.Coords) : cc0_transform_1 i 1 = (i 1).val / 8 := by
  have h : ∀ k : Fin 14, cc0_transform_1 (fun a => match a with | ⟨0, _⟩ => (⟨0, by decide⟩ : Fin 24) | ⟨1, _⟩ => k) 1 = k.val / 8 := by decide +kernel
  exact h (i 1)

theorem index1_0 (i : grid0.Coords) : cc0_transform_1 i 0 = (i 0).val := by
  have h : ∀ k : Fin 24, cc0_transform_1 (fun a => match a with | ⟨0, _⟩ => k | ⟨1, _⟩ => (⟨0, by decide⟩ : Fin 14)) 0 = k.val := by decide +kernel
  exact h (i 0)

/-- The columns of the block of scales the tile reads lie inside the array. -/
theorem moved1 (i : grid0.Coords) (r : Fin 512) (p : Fin 128) (hp : p.val < 16 * ((i 1).val % 8) + 16) :
    win0_1.moved i (ValueIdx.ix2 r p) = true := by
  have hk : (i 1).val < 14 := (i 1).isLt
  have hi0 : (i 0).val < 24 := (i 0).isLt
  rw [Pipeline.Window.moved_iff]
  intro a
  match a with
  | ⟨0, _⟩ =>
    show r.val < (Pipeline.Clip.of (cc0_transform_1 i 0) 512 12288).extent 512
    rw [index1_0]; unfold Pipeline.Clip.of
    have := r.isLt
    split <;> simp only [Pipeline.Clip.extent] <;> omega
  | ⟨1, _⟩ =>
    show p.val < (Pipeline.Clip.of (cc0_transform_1 i 1) 128 224).extent 128
    rw [index1_1]; unfold Pipeline.Clip.of
    have := p.isLt
    split <;> simp only [Pipeline.Clip.extent] <;> omega

/-- The tile reads the block of scales inside the array only. -/
theorem dq_tail (i : grid0.Coords) (x0 : Vec F S512x512 .fp8e4m3) (d d' : S512x128.Idx → Elt F .f32) (v) :
    dq i x0 (win0_1.fill i d v) = dq i x0 (win0_1.fill i d' v) := by
  funext j
  obtain ⟨r, q, rfl⟩ : ∃ (r q : Fin 512), j = ValueIdx.ix2 r q := ⟨j 0, j 1, ValueIdx.eq_ix2 j⟩
  have hq := q.isLt
  have hp : 16 * ((i 1).val % 8) + q.val / 32 < 128 := by omega
  rw [dq_apply i x0 _ r q ⟨_, hp⟩ rfl, dq_apply i x0 _ r q ⟨_, hp⟩ rfl]
  have hm : win0_1.moved i (ValueIdx.ix2 r ⟨_, hp⟩) = true := moved1 i r ⟨_, hp⟩ (by dsimp only; omega)
  congr 2
  unfold Pipeline.Window.fill
  rw [dif_pos hm, dif_pos hm]

theorem out0_A_3_tail (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : cond0_0 (grid0.coords t))
    (x0 : Vec F S512x512 .fp8e4m3) (x2 : Vec F S512x32 .bf16) (d : S512x128.Idx → Elt F .f32) :
    out0_A_3 c (grid0.coords t) arg2 harg2 arg3 harg3 arg4 harg4 arg5 harg5 hc0 x0 (sblk m c t) x2
      = out0_A_3 c (grid0.coords t) arg2 harg2 arg3 harg3 arg4 harg4 arg5 harg5 hc0 x0 (win0_1.fill (grid0.coords t) d (iblk m c 1 t)) x2 := by
  rw [out_A, out_A]; unfold sblk; rw [dq_tail]

theorem out0_B_3_tail (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .bf16) (harg4 : arg4.IsWhole) (arg5 : Memref sig .tc .vmem S512x32 .f32) (harg5 : arg5.IsWhole) (hc0 : ¬cond0_0 (grid0.coords t))
    (x0 : Vec F S512x512 .fp8e4m3) (x2 : Vec F S512x32 .bf16) (xo : Vec F S512x32 .f32) (d : S512x128.Idx → Elt F .f32) :
    out0_B_3 c (grid0.coords t) arg2 harg2 arg3 harg3 arg4 harg4 arg5 harg5 hc0 x0 (sblk m c t) x2 xo
      = out0_B_3 c (grid0.coords t) arg2 harg2 arg3 harg3 arg4 harg4 arg5 harg5 hc0 x0 (win0_1.fill (grid0.coords t) d (iblk m c 1 t)) x2 xo := by
  rw [out_B, out_B]; unfold sblk; rw [dq_tail]

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x32 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (sblk m c ⟨0, hn⟩) (iblk m c 2 ⟨0, hn⟩)
  | n + 1, hn =>
    if h0 : (n + 1) % 14 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (sblk m c ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (sblk m c ⟨n + 1, hn⟩) (iblk m c 2 ⟨n + 1, hn⟩) (outsAt0 c n (Nat.lt_of_succ_lt hn))

/-- `outsAt0` at a point of case A: that case's contents. -/
theorem outsAt0_A (c : Dev nD) (t : Fin cfg0.N) (h0 : t.val % 14 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (sblk m c t) (iblk m c 2 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 14 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (sblk m c t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => sblk m c t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = sblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) :=
  ((dats m 0 c).before_in_eq_fetched 1 rfl (fun _ => rfl) (fun s t h => clip0_1_eq s t h) (fun t => by
      rw [after0_1, show (dats m 0 c).blockOf 1 t = iblk m c 1 t from by unfold Dat.blockOf iblk; rw [A_eq]]
      exact win0_1.cut_fill _ _ _) t d).trans
    (by unfold Dat.fetched Dat.blockOf iblk; rw [A_eq]; try rfl)
theorem before0_2 (c : Dev nD) (t : Fin cfg0.N) (d) : (dats m 0 c).before 2 t d = iblk m c 2 t :=
  before0_2_of m (dats m 0 c) (A_eq m c 2) (after0_2 m c) t d
/-- At a point of case B output 3's current staging buffer holds what the body left at the point before: the point is
    not the first, the buffer was not written back between (`flush0_3`), the window is live and uncut (Lib/Pipeline/Frame.lean
    `Dat.before_out_kept`). -/
theorem before0_3_B (c : Dev nD) (t : Fin cfg0.N) (h0 : ¬t.val % 14 = 0) (d) :
    (dats m 0 c).before 3 t d = (outsAt0 m c (t.val - 1) (Nat.lt_of_le_of_lt (Nat.sub_le _ _) t.isLt)) := by
  have hN : t.val < 336 := lt_of_lt_of_eq t.isLt (show cfg0.N = 336 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d ((win0_1).cut (grid0.coords t) ((dats m 0 c).after 1 t))))
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  have hc1 : win0_1.cut (grid0.coords t) (sblk m c t) = iblk m c 1 t := win0_1.cut_fill _ _ _
  rw [show (dats m 0 c).Φ t.succ = (dats m 0 c).Φ t.castSucc from rfl,
    show (dats m 0 c).owesAt () t.succ = (dats m 0 c).owesAt () t.castSucc from rfl,
    after0_0, after0_1, after0_2, after0_3, hc1]
  have hN : t.val < 336 := lt_of_lt_of_eq t.isLt (show cfg0.N = 336 from N_0)
  by_cases h0 : t.val % 14 = 0
  · rw [outsAt0_A m c t h0]
    iintro ⟨HΦ, Ho, ⟨%d0, H0⟩, ⟨%d1, H1⟩, ⟨%d2, H2⟩, ⟨%d3, H3⟩⟩
    rw [out0_A_3_tail (d := d1)]
    unfold out0_A_3
    iapply ((kernelRun0_A c (grid0.coords t) _ _ _ _ _ _ _ _ ((hcond0_0 t).mpr h0) (iblk m c 0 t) (win0_1.fill (grid0.coords t) d1 (iblk m c 1 t)) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexists d1; iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    iintro ⟨HΦ, Ho, ⟨%d0, H0⟩, ⟨%d1, H1⟩, ⟨%d2, H2⟩, ⟨%d3, H3⟩⟩
    rw [out0_B_3_tail (d := d1)]
    unfold out0_B_3
    iapply ((kernelRun0_B c (grid0.coords t) _ _ _ _ _ _ _ _ (fun h => h0 ((hcond0_0 t).mp h)) (iblk m c 0 t) (win0_1.fill (grid0.coords t) d1 (iblk m c 1 t)) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexists d1; iexact H1
    isplitl [H2]; · iexact H2
    unfold owns; iexists _; isplitr
    swap; · iexact H3
    ipureintro; exact View.read_writes_of_cover _ _ _ _ _ (cover0_B_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_XaIdeal`'s statement (Defs.lean) at any `F` — Proof.lean cites it at `Bits`:
    `theorem Cert.Proof.claim : Cert.Claim := ⟨Cert.XaIdeal.Gen.facts, fun m ρ _ => Cert.XaIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.XaIdeal.Gen

end
-- ==== Proof.Sums.lean ====
/- Sums over the extended reals: a sum taken block by block is the sum over the whole range, and a matrix product read at an
   index is the sum over the one contracted coordinate. -/
module

public import Idealize.ShloMosaic.PureOps.Ideal
public import Idealize.ShloMosaic.PureOps.Ideal.Laws
public import Idealize.ShloMosaic.Lib.ValueIdx
public import Idealize.ShloMosaic.Lib.Pipeline.Value

@[expose] public section

noncomputable section

namespace Cert.Common

open Idealize.ShloMosaic
open Idealize.ShloMosaic.ValueIdx
open scoped BigOperators

/-- The sum over `n` blocks of `b` is the sum over the first `b * n`. -/
theorem sum_blocks {M : Type*} [AddCommMonoid M] (f : ℕ → M) (b : ℕ) : ∀ n : ℕ,
    ∑ k ∈ Finset.range n, ∑ q ∈ Finset.range b, f (b * k + q) = ∑ j ∈ Finset.range (b * n), f j
  | 0 => by simp
  | n + 1 => by rw [Finset.sum_range_succ, sum_blocks f b n, Nat.mul_succ, Finset.sum_range_add]

/-- A matrix product with one contracted axis, read at `j` through the operands' indices. -/
theorem matmul_sum {sl sr so : Shape} (D : DotDims sl sr so) (n : ℕ) (hr : D.contr.rank = 1) (hs : D.contr.size ⟨0, by omega⟩ = n)
    (x : sl.Idx → EReal) (y : sr.Idx → EReal) (acc : so.Idx → EReal) (j : so.Idx) (f : Fin n → sl.Idx) (g : Fin n → sr.Idx)
    (hf : ∀ q : D.contr.Idx, ∀ k : Fin n, (q ⟨0, by omega⟩ : ℕ) = k.val → ∀ a, (D.lhsIdx j q a).val = (f k a).val)
    (hg : ∀ q : D.contr.Idx, ∀ k : Fin n, (q ⟨0, by omega⟩ : ℕ) = k.val → ∀ a, (D.rhsIdx j q a).val = (g k a).val) :
    Ideal.matmul D x y acc j = acc j + ∑ k : Fin n, x (f k) * y (g k) := by
  show acc j + _ = _
  rw [← Equiv.sum_comp (contrEquiv1 D n hr hs).symm]
  congr 1
  refine Finset.sum_congr rfl fun k _ => ?_
  have hk := contrEquiv1_symm_val D n hr hs k
  rw [show D.lhsIdx j ((contrEquiv1 D n hr hs).symm k) = f k from funext fun a => Fin.ext (hf _ k hk a),
    show D.rhsIdx j ((contrEquiv1 D n hr hs).symm k) = g k from funext fun a => Fin.ext (hg _ k hk a)]

end Cert.Common

end
-- ==== Proof.XaRefValue.lean ====
/- What the reference of the x times A kernel computes over the reals: at row `R` and column `r` the sum over the 7168
   features of the dequantised element times `A`'s. -/
module

public import proofs.«01_k».proof.Proof.Gen.XaRefIdeal.Read
public import proofs.«01_k».proof.Proof.Sums

@[expose] public section

noncomputable section

namespace Cert.XaValue

open Idealize.ShloMosaic Idealize.ShloMosaic.TcCoe Idealize.SL.Sem
open Cert.XaRefIdeal Cert.XaRefIdeal.Gen

abbrev SX : Shape := ⟨3, ![3, 4096, 7168]⟩
abbrev SS : Shape := ⟨3, ![3, 4096, 224]⟩
abbrev SA : Shape := ⟨2, ![7168, 32]⟩

/-- One product of the sum: row `R`, feature `j`, column `r` (zero outside the arrays). -/
def term (x : SX.Idx → EReal) (s : SS.Idx → EReal) (a : SA.Idx → EReal) (R : ℕ) (r : Fin 32) (j : ℕ) : EReal :=
  if h : R < 12288 ∧ j < 7168 then
    x (ValueIdx.ix3 ⟨R / 4096, by omega⟩ ⟨R % 4096, by omega⟩ ⟨j, h.2⟩)
      * s (ValueIdx.ix3 ⟨R / 4096, by omega⟩ ⟨R % 4096, by omega⟩ ⟨j / 32, by omega⟩) * a (ValueIdx.ix2 ⟨j, h.2⟩ r)
  else 0

/-- The whole result. -/
def spec (x : SX.Idx → EReal) (s : SS.Idx → EReal) (a : SA.Idx → EReal) : (⟨2, ![12288, 32]⟩ : Shape).Idx → EReal :=
  fun i => ∑ j ∈ Finset.range 7168, term x s a (i 0).val (i 1) j

variable (m : (ℓ : Loc nD τ sig) → Buf (Elt Ideal) ℓ)

/-- The reference's own cast of the operand is the identity over the reals. -/
theorem reg_eq (c : Dev nD) : Value.reg_main_v0 m c = (m ((c.tc : Thread nD τ).loc main_arg0) : SX.Idx → EReal) := by
  unfold Value.reg_main_v0
  have hz3 : (![0, 0, 0] : Fin 3 → ℕ) = fun _ => 0 := funext fun a => by fin_cases a <;> rfl
  have hout : ∀ x0 : Vec Ideal S3x4096x7168 .fp8e4m3, out0_1 x0 = k0_pay1 x0 := fun x0 => by
    unfold out0_1
    rw [View.canon_unit_zero (S := S3x4096x7168) hz3, View.ld_unit_zero (S := S3x4096x7168) hz3]
  refine (dats m 0 c).arrAt_eq_of_cover 1 _ (fun t _ => ?_) fun i => ⟨t0_0, flush0_1 t0_0, ?_⟩
  · obtain rfl := fin_N0 t
    show (cfg0.win 1).cut (grid0.coords t0_0) ((dats m 0 c).after 1 t0_0) = _
    rw [after0_1, hout]
    have hz1 : (fun a => win0_1.index t0_0 a * main_v0.ty.shape.size a) = fun _ => 0 := funext fun a => by fin_cases a <;> decide
    have hz0 : (fun a => win0_0.index t0_0 a * main_arg0.ty.shape.size a) = fun _ => 0 := funext fun a => by fin_cases a <;> decide
    refine Eq.trans ?_ (Memref.read_access_unit_zero (Elt Ideal) main_v0 hz1 (fun a => by rw [congrFun hz1 a]; simp) _).symm
    have e0 : iblk m c 0 t0_0 = V m c main_arg0 :=
      Memref.read_access_unit_zero (Elt Ideal) main_arg0 hz0 (fun a => by rw [congrFun hz0 a]; simp) _
    rw [e0, V_main_arg0]
    rfl
  · show i ∈ ((View.whole main_v0).slice (win0_1.rect t0_0)).set
    rw [View.set_slice_whole, Rect.mem_set_unit]
    intro a
    have h0 : (i 0 : Nat) < 3 := (i 0).isLt
    have h1 : (i 1 : Nat) < 4096 := (i 1).isLt
    have h2 : (i 2 : Nat) < 7168 := (i 2).isLt
    match a with
    | ⟨0, _⟩ =>
      show win0_1.index t0_0 0 * win0_1.size 0 ≤ (i 0 : Nat) ∧ (i 0 : Nat) < win0_1.index t0_0 0 * win0_1.size 0 + win0_1.xsize (grid0.coords t0_0) 0
      rw [show win0_1.index t0_0 0 * win0_1.size 0 = 0 from by decide +kernel, show win0_1.xsize (grid0.coords t0_0) 0 = 3 from by decide +kernel]; omega
    | ⟨1, _⟩ =>
      show win0_1.index t0_0 1 * win0_1.size 1 ≤ (i 1 : Nat) ∧ (i 1 : Nat) < win0_1.index t0_0 1 * win0_1.size 1 + win0_1.xsize (grid0.coords t0_0) 1
      rw [show win0_1.index t0_0 1 * win0_1.size 1 = 0 from by decide +kernel, show win0_1.xsize (grid0.coords t0_0) 1 = 4096 from by decide +kernel]; omega
    | ⟨2, _⟩ =>
      show win0_1.index t0_0 2 * win0_1.size 2 ≤ (i 2 : Nat) ∧ (i 2 : Nat) < win0_1.index t0_0 2 * win0_1.size 2 + win0_1.xsize (grid0.coords t0_0) 2
      rw [show win0_1.index t0_0 2 * win0_1.size 2 = 0 from by decide +kernel, show win0_1.xsize (grid0.coords t0_0) 2 = 7168 from by decide +kernel]; omega

/-- The reference's last stage at an index. -/
theorem val_eq (x1 : (⟨S3x4096x224, .f32⟩ : BufTy).Contents (Elt Ideal)) (x2 : (⟨S7168x32, .bf16⟩ : BufTy).Contents (Elt Ideal))
    (r0 : (⟨S3x4096x7168, .bf16⟩ : BufTy).Contents (Elt Ideal)) : Read.val_main_v8 (F := Ideal) x1 x2 r0 = spec r0 x1 x2 := by
  funext i
  have h0 : (i 0).val < 12288 := (i 0).isLt
  have h1 : (i 1).val < 32 := (i 1).isLt
  rw [Read.val_main_v8_apply, Read.val_main_v7_apply]
  unfold spec
  rw [Finset.sum_range]
  refine Finset.sum_congr rfl fun k _ => ?_
  have hk := k.isLt
  rw [Read.val_main_v6_apply, Read.val_main_v5_apply, Read.val_main_v1_apply, Read.val_main_v4_apply, Read.val_main_v3_apply, Read.val_main_v2_apply]
  unfold term
  rw [dif_pos ⟨h0, hk⟩]
  refine congrArg₂ (· * ·) (congrArg₂ (· * ·) (congrArg r0 ?_) (congrArg x1 ?_)) (congrArg x2 ?_) <;> funext a <;> apply Fin.ext
  · match a with
    | ⟨0, _⟩ => dsimp only [Read.idx_main_v1, Read.idx_main_v6, Read.lidx_main_v7, Read.idx_main_v8]; omega
    | ⟨1, _⟩ => dsimp only [Read.idx_main_v1, Read.idx_main_v6, Read.lidx_main_v7, Read.idx_main_v8]; omega
    | ⟨2, _⟩ => dsimp only [Read.idx_main_v1, Read.idx_main_v6, Read.lidx_main_v7, Read.idx_main_v8]; omega
  · match a with
    | ⟨0, _⟩ => dsimp only [Read.idx_main_v3, Read.idx_main_v4, Read.idx_main_v6, Read.lidx_main_v7, Read.idx_main_v8]; omega
    | ⟨1, _⟩ => dsimp only [Read.idx_main_v3, Read.idx_main_v4, Read.idx_main_v6, Read.lidx_main_v7, Read.idx_main_v8]; omega
    | ⟨2, _⟩ => dsimp only [Read.idx_main_v3, Read.idx_main_v4, Read.idx_main_v6, Read.lidx_main_v7, Read.idx_main_v8]; omega
  · match a with
    | ⟨0, _⟩ => rfl
    | ⟨1, _⟩ => show ((i 0).val * 32 + (i 1).val) % 32 = (i 1).val; omega

/-- The reference's run, read: the result at the sum, the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v8) = spec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      have e := Read.val_main_v8_eq (F := Ideal) (Value.exitV m c)
      rw [Value.exit_main_arg1, Value.exit_main_arg2, Value.exit_main_v0] at e
      rw [e, val_eq, reg_eq]), (h c).2⟩) (Value.run m ρ)

end Cert.XaValue

end
-- ==== Proof.XaValue.lean ====
/- The value of the x times A kernel over the reals: the running block after each grid point is the partial sum over the
   features seen so far, so the result is the reference's sum; the two runs joined. -/
module

public import proofs.«01_k».proof.Proof.XaIdealFrame
public import proofs.«01_k».proof.Proof.XaRefValue

@[expose] public section

set_option maxRecDepth 16384

noncomputable section

namespace Cert.XaValue

open Idealize.ShloMosaic Idealize.ShloMosaic.TcCoe Idealize.SL.Sem Idealize.ShloMosaic.StableHlo
open Cert.XaIdeal Cert.XaIdeal.Gen

variable (m : (ℓ : Loc nD τ sig) → Buf (Elt Ideal) ℓ)

abbrev aX (c : Dev nD) : SX.Idx → EReal := m ((c.tc : Thread nD τ).loc main_arg0)
abbrev aS (c : Dev nD) : SS.Idx → EReal := m ((c.tc : Thread nD τ).loc main_arg1)
abbrev aA (c : Dev nD) : SA.Idx → EReal := m ((c.tc : Thread nD τ).loc main_arg2)

theorem V_main_v0 (c : Dev nD) : V m c main_v0 = shapeCast _ (m ((c.tc : Thread nD τ).loc main_arg0)) shapeCasts_S3x4096x7168_S12288x7168 := by
  unfold V
  simp only [hostOps0, List.flatten_cons, List.flatten_nil, List.append_nil, List.cons_append, List.nil_append]
  after_results <;> rfl

theorem V_main_v1 (c : Dev nD) : V m c main_v1 = shapeCast _ (m ((c.tc : Thread nD τ).loc main_arg1)) shapeCasts_S3x4096x224_S12288x224 := by
  unfold V
  simp only [hostOps0, List.flatten_cons, List.flatten_nil, List.append_nil, List.cons_append, List.nil_append]
  after_results <;> rfl

theorem V0_apply (c : Dev nD) (R : Fin 12288) (j : Fin 7168) : V m c main_v0 (ValueIdx.ix2 R j)
    = aX m c (ValueIdx.ix3 ⟨R.val / 4096, by omega⟩ ⟨R.val % 4096, by omega⟩ j) := by
  rw [V_main_v0]
  exact shapeCast_apply _ shapeCasts_S3x4096x7168_S12288x7168 (ValueIdx.ix2 R j) (ValueIdx.ix3 ⟨R.val / 4096, by omega⟩ ⟨R.val % 4096, by omega⟩ j)
    (by rewrite [Shape.rowMajor_val_three, Shape.rowMajor_val_two]; show (R.val / 4096 * 4096 + R.val % 4096) * 7168 + j.val = R.val * 7168 + j.val; omega)

theorem V1_apply (c : Dev nD) (R : Fin 12288) (j : Fin 224) : V m c main_v1 (ValueIdx.ix2 R j)
    = aS m c (ValueIdx.ix3 ⟨R.val / 4096, by omega⟩ ⟨R.val % 4096, by omega⟩ j) := by
  rw [V_main_v1]
  exact shapeCast_apply _ shapeCasts_S3x4096x224_S12288x224 (ValueIdx.ix2 R j) (ValueIdx.ix3 ⟨R.val / 4096, by omega⟩ ⟨R.val % 4096, by omega⟩ j)
    (by rewrite [Shape.rowMajor_val_three, Shape.rowMajor_val_two]; show (R.val / 4096 * 4096 + R.val % 4096) * 224 + j.val = R.val * 224 + j.val; omega)

theorem coords0 (t : Fin cfg0.N) : (grid0.coords t 0).val = t.val / 14 := by
  have ht : t.val < 336 := Nat.lt_of_lt_of_eq t.isLt N_0
  have e0 : (grid0.coords t 0).val = t.val / 14 % 24 := Pipeline.Grid.coords_val t 0 (by decide) rfl
  omega
theorem coords1 (t : Fin cfg0.N) : (grid0.coords t 1).val = t.val % 14 := by
  have e1 : (grid0.coords t 1).val = t.val / 1 % 14 := Pipeline.Grid.coords_val t 1 (by decide) rfl
  omega

theorem tidx0 (i : grid0.Coords) : cc0_transform_0 i 0 = (i 0).val ∧ cc0_transform_0 i 1 = (i 1).val := by
  have h0 : ∀ k : Fin 24, cc0_transform_0 (fun a => match a with | ⟨0, _⟩ => k | ⟨1, _⟩ => (⟨0, by decide⟩ : Fin 14)) 0 = k.val := by decide +kernel
  have h1 : ∀ k : Fin 14, cc0_transform_0 (fun a => match a with | ⟨0, _⟩ => (⟨0, by decide⟩ : Fin 24) | ⟨1, _⟩ => k) 1 = k.val := by decide +kernel
  exact ⟨h0 (i 0), h1 (i 1)⟩
theorem tidx2 (i : grid0.Coords) : cc0_transform_2 i 0 = (i 1).val ∧ cc0_transform_2 i 1 = 0 := by
  have h0 : ∀ k : Fin 14, cc0_transform_2 (fun a => match a with | ⟨0, _⟩ => (⟨0, by decide⟩ : Fin 24) | ⟨1, _⟩ => k) 0 = k.val := by decide +kernel
  exact ⟨h0 (i 1), rfl⟩
theorem tidx3 (i : grid0.Coords) : cc0_transform_3 i 0 = (i 0).val ∧ cc0_transform_3 i 1 = 0 := by
  have h0 : ∀ k : Fin 24, cc0_transform_3 (fun a => match a with | ⟨0, _⟩ => k | ⟨1, _⟩ => (⟨0, by decide⟩ : Fin 14)) 0 = k.val := by decide +kernel
  exact ⟨h0 (i 0), rfl⟩

/-- The tile of `x` at a point. -/
theorem iblk0_apply (c : Dev nD) (t : Fin cfg0.N) (a q : Fin 512) (R : Fin 12288) (j : Fin 7168) (hR : R.val = 512 * (t.val / 14) + a.val)
    (hj : j.val = 512 * (t.val % 14) + q.val) : (iblk m c 0 t : S512x512.Idx → EReal) (ValueIdx.ix2 a q) = V m c main_v0 (ValueIdx.ix2 R j) := by
  have hi := tidx0 (grid0.coords t)
  unfold iblk
  rw [View.read_apply]
  show V m c main_v0 _ = _
  congr 1
  funext b
  apply Fin.ext
  match b with
  | ⟨0, _⟩ => show cc0_transform_0 (grid0.coords t) 0 * 512 + 1 * a.val = R.val; rw [hi.1, coords0]; omega
  | ⟨1, _⟩ => show cc0_transform_0 (grid0.coords t) 1 * 512 + 1 * q.val = j.val; rw [hi.2, coords1]; omega

/-- The tile of `A` at a point. -/
theorem iblk2_apply (c : Dev nD) (t : Fin cfg0.N) (q : Fin 512) (r : Fin 32) (j : Fin 7168)
    (hj : j.val = 512 * (t.val % 14) + q.val) : (iblk m c 2 t : S512x32.Idx → EReal) (ValueIdx.ix2 q r) = aA m c (ValueIdx.ix2 j r) := by
  have hi := tidx2 (grid0.coords t)
  unfold iblk
  rw [View.read_apply]
  show V m c main_arg2 _ = _
  rw [V_main_arg2]
  show aA m c _ = _
  congr 1
  funext b
  apply Fin.ext
  match b with
  | ⟨0, _⟩ => show cc0_transform_2 (grid0.coords t) 0 * 512 + 1 * q.val = j.val; rw [hi.1, coords1]; omega
  | ⟨1, _⟩ => show cc0_transform_2 (grid0.coords t) 1 * 32 + 1 * r.val = r.val; rw [hi.2]; omega

/-- A scale the tile reads. -/
theorem sblk_apply (c : Dev nD) (t : Fin cfg0.N) (a : Fin 512) (p : Fin 128) (hp : p.val < 16 * (t.val % 14 % 8) + 16) (R : Fin 12288) (j : Fin 224)
    (hR : R.val = 512 * (t.val / 14) + a.val) (hj : j.val = 128 * (t.val % 14 / 8) + p.val) :
    (sblk m c t : S512x128.Idx → EReal) (ValueIdx.ix2 a p) = V m c main_v1 (ValueIdx.ix2 R j) := by
  have hm : win0_1.moved (grid0.coords t) (ValueIdx.ix2 a p) = true := moved1 _ a p (by rw [coords1]; exact hp)
  unfold sblk Pipeline.Window.fill
  rw [dif_pos hm]
  unfold iblk
  rw [View.read_apply]
  show V m c main_v1 _ = _
  congr 1
  funext b
  apply Fin.ext
  match b with
  | ⟨0, _⟩ => show cc0_transform_1 (grid0.coords t) 0 * 512 + 1 * a.val = R.val; rw [index1_0, coords0]; omega
  | ⟨1, _⟩ => show cc0_transform_1 (grid0.coords t) 1 * 128 + 1 * p.val = j.val; rw [index1_1, coords1]; omega

/-- The product of one grid point at an index: the sum over the point's 512 features. -/
theorem dot_apply (x : S512x512.Idx → EReal) (y : S512x32.Idx → EReal) (acc : S512x32.Idx → EReal) (a : Fin 512) (r : Fin 32) :
    Ideal.matmul dot_S512x512_S512x32_S512x32_1_0_0_1_n_n x y acc (ValueIdx.ix2 a r)
      = acc (ValueIdx.ix2 a r) + ∑ q : Fin 512, x (ValueIdx.ix2 a q) * y (ValueIdx.ix2 q r) := by
  refine Cert.Common.matmul_sum _ 512 rfl rfl x y acc _ (fun q => ValueIdx.ix2 a q) (fun q => ValueIdx.ix2 q r) (fun q k hk b => ?_) (fun q k hk b => ?_)
  · match b with
    | ⟨0, _⟩ =>
      show (dot_S512x512_S512x32_S512x32_1_0_0_1_n_n.lhsIdx (ValueIdx.ix2 a r) q 0).val = a.val
      unfold DotDims.lhsIdx
      rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
      rfl
    | ⟨1, _⟩ => exact (dot_S512x512_S512x32_S512x32_1_0_0_1_n_n.lhsIdx_val_of_single rfl _ q).trans hk
  · match b with
    | ⟨0, _⟩ => exact (dot_S512x512_S512x32_S512x32_1_0_0_1_n_n.rhsIdx_val_of_single rfl _ q).trans hk
    | ⟨1, _⟩ =>
      show (dot_S512x512_S512x32_S512x32_1_0_0_1_n_n.rhsIdx (ValueIdx.ix2 a r) q 1).val = r.val
      unfold DotDims.rhsIdx
      rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
      rfl

abbrev tX (c : Dev nD) (t : Fin cfg0.N) : S512x512.Idx → EReal := iblk m c 0 t
abbrev tS (c : Dev nD) (t : Fin cfg0.N) : S512x128.Idx → EReal := sblk m c t
abbrev tA (c : Dev nD) (t : Fin cfg0.N) : S512x32.Idx → EReal := iblk m c 2 t

/-- One grid point's update at an index. -/
theorem step (c : Dev nD) (t : Fin cfg0.N) (v : Vec Ideal S512x32 .f32) (a : Fin 512) (r : Fin 32) :
    (k0_pay2 (dq (grid0.coords t) (iblk m c 0 t) (sblk m c t)) (iblk m c 2 t) v : S512x32.Idx → EReal) (ValueIdx.ix2 a r)
      = v (ValueIdx.ix2 a r) + ∑ q ∈ Finset.range 512, term (aX m c) (aS m c) (aA m c) (512 * (t.val / 14) + a.val) r (512 * (t.val % 14) + q) := by
  have ht : t.val < 336 := Nat.lt_of_lt_of_eq t.isLt N_0
  have ha := a.isLt
  unfold k0_pay2
  rw [shapeCast_self]
  show v (ValueIdx.ix2 a r) + Ideal.matmul dot_S512x512_S512x32_S512x32_1_0_0_1_n_n _ _ _ (ValueIdx.ix2 a r) = _
  rw [dot_apply]
  congr 1
  show (Ideal.ofBits .f32 0#32 : EReal) + _ = _
  rw [Ideal.ofBits_zero_f32, zero_add, Finset.sum_range]
  refine Finset.sum_congr rfl fun q _ => ?_
  have hq := q.isLt
  have hp : 16 * ((grid0.coords t 1).val % 8) + q.val / 32 < 128 := by omega
  rw [dq_apply _ _ _ a q ⟨_, hp⟩ rfl]
  show tX m c t (ValueIdx.ix2 a q) * tS m c t (ValueIdx.ix2 a ⟨_, hp⟩) * tA m c t (ValueIdx.ix2 q r) = _
  have hc := coords1 t
  unfold tX tS tA
  rw [iblk0_apply m c t a q ⟨512 * (t.val / 14) + a.val, by omega⟩ ⟨512 * (t.val % 14) + q.val, by omega⟩ rfl rfl,
    iblk2_apply m c t q r ⟨512 * (t.val % 14) + q.val, by omega⟩ rfl,
    sblk_apply m c t a ⟨_, hp⟩ (by dsimp only; omega) ⟨512 * (t.val / 14) + a.val, by omega⟩ ⟨(512 * (t.val % 14) + q.val) / 32, by omega⟩ rfl (by dsimp only; omega),
    V0_apply, V1_apply]
  unfold term
  rw [dif_pos ⟨by omega, by omega⟩]

/-- What the accumulator holds after point `n`: the partial sum over the features of the points of its row block so far. -/
theorem outsAt_eq (c : Dev nD) : ∀ (n : ℕ) (hn : n < cfg0.N) (a : Fin 512) (r : Fin 32), (outsAt0 m c n hn : S512x32.Idx → EReal) (ValueIdx.ix2 a r)
    = ∑ k ∈ Finset.range (n % 14 + 1), ∑ q ∈ Finset.range 512, term (aX m c) (aS m c) (aA m c) (512 * (n / 14) + a.val) r (512 * k + q) := by
  have hA : ∀ (t : Fin cfg0.N) (h0 : t.val % 14 = 0) (a : Fin 512) (r : Fin 32), (outsAt0 m c t.val t.isLt : S512x32.Idx → EReal) (ValueIdx.ix2 a r)
      = ∑ k ∈ Finset.range (t.val % 14 + 1), ∑ q ∈ Finset.range 512, term (aX m c) (aS m c) (aA m c) (512 * (t.val / 14) + a.val) r (512 * k + q) := fun t h0 a r => by
    rw [outsAt0_A m c t h0, out_A, step, h0, Finset.sum_range_one]
    show (Ideal.ofBits .f32 0#32 : EReal) + _ = _
    rw [Ideal.ofBits_zero_f32, zero_add]
  intro n
  induction n with
  | zero => intro hn a r; exact hA ⟨0, hn⟩ rfl a r
  | succ n ih =>
    intro hn a r
    by_cases h0 : (n + 1) % 14 = 0
    · exact hA ⟨n + 1, hn⟩ h0 a r
    · rw [outsAt0_B m c ⟨n + 1, hn⟩ h0, out_B, step]
      have e1 : (n + 1) % 14 = n % 14 + 1 := by omega
      have e2 : (n + 1) / 14 = n / 14 := by omega
      dsimp only
      rw [e1, e2, Finset.sum_range_succ _ (n % 14 + 1)]
      congr 1
      exact ih (Nat.lt_of_succ_lt hn) a r

abbrev result (c : Dev nD) : S12288x32.Idx → EReal := spec (aX m c) (aS m c) (aA m c)

theorem flushed_eq (c : Dev nD) (t : Fin cfg0.N) (hf : (cfg0.win 3).flush t = true) :
    (dats m 0 c).flushed 3 t = ((cfg0.win 3).blk t).view.read (Elt Ideal) (result m c) := by
  have ht : t.val < 336 := Nat.lt_of_lt_of_eq t.isLt N_0
  have h13 : t.val % 14 = 13 := (flush0_3 t).mp hf
  have hi := tidx3 (grid0.coords t)
  show (cfg0.win 3).cut (grid0.coords t) ((dats m 0 c).after 3 t) = _
  rw [after0_3]
  funext j
  rw [View.read_apply]
  obtain ⟨a, r, rfl⟩ : ∃ (a : Fin 512) (r : Fin 32), j = ValueIdx.ix2 a r := ⟨j 0, j 1, ValueIdx.eq_ix2 j⟩
  refine (outsAt_eq m c t.val t.isLt a r).trans ?_
  have hj : (((cfg0.win 3).blk t).view.emb (ValueIdx.ix2 a r) : S12288x32.Idx) = ValueIdx.ix2 ⟨512 * (t.val / 14) + a.val, by omega⟩ r := by
    funext b
    apply Fin.ext
    match b with
    | ⟨0, _⟩ => show cc0_transform_3 (grid0.coords t) 0 * 512 + 1 * a.val = 512 * (t.val / 14) + a.val; rw [hi.1, coords0]; omega
    | ⟨1, _⟩ => show cc0_transform_3 (grid0.coords t) 1 * 32 + 1 * r.val = r.val; rw [hi.2]; omega
  show _ = result m c (((cfg0.win 3).blk t).view.emb (ValueIdx.ix2 a r))
  rw [hj, h13, Cert.Common.sum_blocks (fun j => term (aX m c) (aS m c) (aA m c) (512 * (t.val / 14) + a.val) r j) 512 14]
  rfl

theorem final (c : Dev nD) : (dats m 0 c).arrAt 3 cfg0.N = result m c :=
  (dats m 0 c).arrAt_eq_of_cover 3 (result m c) (flushed_eq m c) fun i => by
    have h0 : (i 0 : Nat) < 12288 := (i 0).isLt
    have h1 : (i 1 : Nat) < 32 := (i 1).isLt
    have hN : cfg0.N = 336 := N_0
    refine ⟨⟨14 * ((i 0 : Nat) / 512) + 13, by omega⟩, (flush0_3 _).mpr (by dsimp only; omega), ?_⟩
    generalize ht : (⟨14 * ((i 0 : Nat) / 512) + 13, _⟩ : Fin cfg0.N) = t
    have ht' : t.val = 14 * ((i 0 : Nat) / 512) + 13 := by rw [← ht]
    have hi := tidx3 (grid0.coords t)
    show i ∈ ((View.whole main_v2).slice (win0_3.rect t)).set
    rw [View.set_slice_whole, Rect.mem_set_unit]
    intro a
    match a with
    | ⟨0, _⟩ =>
      show cc0_transform_3 (grid0.coords t) 0 * 512 ≤ (i 0 : Nat) ∧ (i 0 : Nat) < cc0_transform_3 (grid0.coords t) 0 * 512 + 512
      rw [hi.1, coords0]; omega
    | ⟨1, _⟩ =>
      show cc0_transform_3 (grid0.coords t) 1 * 32 ≤ (i 1 : Nat) ∧ (i 1 : Nat) < cc0_transform_3 (grid0.coords t) 1 * 32 + 32
      rw [hi.2]; omega

/-- The kernel's run, read: the result at the sum, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m ρ) (unchanged m ρ))

end Cert.XaValue

end
-- ==== Proof.MainRun.lean ====
/- One run of the body of the kernel of the products with dy, in each case of its branches: what each of its buffers holds at the end, as the pieces it stored. -/
module

public import proofs.«01_k».proof.Proof.Gen.Main.Frame
public import proofs.«01_k».proof.Proof.Gen.Main.Skeleton
public import proofs.«01_k».proof.Proof.Gen.Main.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 36) — by arithmetic of the point. -/
theorem hcond0_0 : ∀ t : Fin cfg0.N, cond0_0 (grid0.coords t) ↔ t.val % 36 = 0 :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_0, e0, e1]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the points before point 36 — by arithmetic of the point. -/
theorem hcond0_1 : ∀ t : Fin cfg0.N, cond0_1 (grid0.coords t) ↔ t.val < 36 :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_1, k0_cond2, e0, e1]
    word_cmp
   : ∀ t : Fin grid0.N, cond0_1 (grid0.coords t) ↔ t.val < 36)

/-- The condition of the body's `scf.if` 2 (`k0_h3`), from the grid coordinates (the skeleton's scalar
    chain substituted). -/
abbrev cond0_2 (i : grid0.Coords) : Prop := k0_cond3 i = 1#1
/-- It holds at the points from point 36 on — by arithmetic of the point. -/
theorem hcond0_2 : ∀ t : Fin cfg0.N, cond0_2 (grid0.coords t) ↔ 36 ≤ t.val :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_2, k0_cond3, e0, e1]
    word_cmp
   : ∀ t : Fin grid0.N, cond0_2 (grid0.coords t) ↔ 36 ≤ t.val)

/-- The condition of the body's `scf.if` 3 (`k0_h4`), from the grid coordinates (the skeleton's scalar
    chain substituted). -/
abbrev cond0_3 (i : grid0.Coords) : Prop := k0_cond4 i = 1#1
/-- It holds at the points ≡ 35 (mod 36) — by arithmetic of the point. -/
theorem hcond0_3 : ∀ t : Fin cfg0.N, cond0_3 (grid0.coords t) ↔ t.val % 36 = 35 :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_3, k0_cond4, e0, e1]
    word_cmp
   : ∀ t : Fin grid0.N, cond0_3 (grid0.coords t) ↔ t.val % 36 = 35)

/-! ## Where the windows are idle (the printed configuration's table `Cfg.idle`) -/

/-! ## The kernel body on any staging memrefs: a subtype the run finds -/

/-- Each window's current staging memref at point `t`, spelled as the pipeline passes it (`bodyAt0`), and its wholeness. -/
abbrev ms0_0 (t : Fin cfg0.N) : Memref sig .tc .vmem S512x512 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7168x32 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x7168 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x18432 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x32 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x7168 .f32 := Memref.whole cc0_scratch0
/-- The scratch `arg12` the kernel carries between points, as a view: what it holds is stated through it. -/
abbrev VS0_0 : View sig .tc .vmem S512x7168 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The runs -/

/-- A run of the body from given contents of its buffers: the pieces its stores leave in the two results it completes or accumulates in place
    (`L8`, `L9`), in the result it stores at the last column block (`L7`) and in the accumulator (`LS`), over what each held; the inputs are left as they were. -/
structure Run (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) where
  L7 : List (View.Piece (Elt F) S512x7168 .bf16)
  L8 : List (View.Piece (Elt F) S32x18432 .f32)
  L9 : List (View.Piece (Elt F) S512x32 .f32)
  LS : List (View.Piece (Elt F) S512x7168 .f32)
  run : ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread xs) LS)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12) K

set_option maxHeartbeats 1000000 in
/-- The run at the first column block of the first row block. -/
def runA (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : cond0_0 i) (hc1 : cond0_1 i) (hc2 : ¬cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run inside the first row block. -/
def runB (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : cond0_1 i) (hc2 : ¬cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run at the last column block of the first row block. -/
def runC (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : cond0_1 i) (hc2 : ¬cond0_2 i) (hc3 : cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨?_, ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run at the first column block of a later row block. -/
def runD (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : cond0_0 i) (hc1 : ¬cond0_1 i) (hc2 : cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run inside a later row block. -/
def runE (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : ¬cond0_1 i) (hc2 : cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run at the last column block of a later row block. -/
def runF (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : ¬cond0_1 i) (hc2 : cond0_2 i) (hc3 : cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨?_, ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

end Cert.Main.Gen

end
-- ==== Proof.MainFrame.lean ====
/- The frame of the kernel of the products with dy: from any memory it terminates and leaves its arguments unchanged, whatever
   its buffers hold on the way. -/
module

public import proofs.«01_k».proof.Proof.MainRun
public import Idealize.ShloMosaic.Lib.Pipeline.ArrRel

@[expose] public section

set_option maxRecDepth 16384

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

section
variable {c : Dev nD} {i : grid0.Coords} {arg2 : Memref sig .tc .vmem S512x512 .fp8e5m2} {harg2 : arg2.IsWhole} {arg3 : Memref sig .tc .vmem S512x128 .f32} {harg3 : arg3.IsWhole} {arg4 : Memref sig .tc .vmem S7168x512 .fp8e4m3} {harg4 : arg4.IsWhole} {arg5 : Memref sig .tc .vmem S1x512 .f32} {harg5 : arg5.IsWhole} {arg6 : Memref sig .tc .vmem S32x512 .bf16} {harg6 : arg6.IsWhole} {arg7 : Memref sig .tc .vmem S7168x32 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S32x18432 .f32} {harg10 : arg10.IsWhole} {arg11 : Memref sig .tc .vmem S512x32 .f32} {harg11 : arg11.IsWhole} {arg12 : Memref sig .tc .vmem S512x7168 .f32} {harg12 : arg12.IsWhole}
  {x0 : Vec F S512x512 .fp8e5m2} {x1 : Vec F S512x128 .f32} {x2 : Vec F S7168x512 .fp8e4m3} {x3 : Vec F S1x512 .f32} {x4 : Vec F S32x512 .bf16} {x5 : Vec F S7168x32 .bf16} {x6 : Vec F S512x32 .f32} {x7 : Vec F S512x7168 .bf16} {x8 : Vec F S32x18432 .f32} {x9 : Vec F S512x32 .f32} {xs : Vec F S512x7168 .f32}

/-- What the run leaves in the block of dx, in dB, in t and in the accumulator. -/
def Run.y7 (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S512x7168 .bf16 := arg9.view.read (Elt F) (arg9.view.writes (Elt F) (harg9.unread x7) R.L7)
def Run.y8 (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S32x18432 .f32 := arg10.view.read (Elt F) (arg10.view.writes (Elt F) (harg10.unread x8) R.L8)
def Run.y9 (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S512x32 .f32 := arg11.view.read (Elt F) (arg11.view.writes (Elt F) (harg11.unread x9) R.L9)
def Run.ys (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S512x7168 .f32 := arg12.view.read (Elt F) (arg12.view.writes (Elt F) (harg12.unread xs) R.LS)

/-- The run, with what its buffers hold at the end read back. -/
theorem Run.body (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) (E : Set ℕ) (K : PUnit.{1} → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare R.y7 ∗ owns (c : Thread nD τ) arg10 fullShare R.y8 ∗ owns (c : Thread nD τ) arg11 fullShare R.y9 ∗ owns (c : Thread nD τ) arg12 fullShare R.ys) -∗ K ⟨⟩))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, H10, Hk⟩
  iapply (R.run E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rfl
  isplitl [H8]
  · unfold owns; iexists _; isplitr
    swap; · iexact H8
    ipureintro; rfl
  isplitl [H9]
  · unfold owns; iexists _; isplitr
    swap; · iexact H9
    ipureintro; rfl
  unfold owns; iexists _; isplitr
  swap; · iexact H10
  ipureintro; rfl

end

/-- Every grid point has a run. -/
theorem runAt (c : Dev nD) (t : Fin cfg0.N) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Nonempty (Run (F := F) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs) := by
  have hN : t.val < 864 := Nat.lt_of_lt_of_eq t.isLt N_0
  by_cases h1 : t.val < 36
  · have h2 : ¬36 ≤ t.val := by omega
    by_cases h0 : t.val % 36 = 0
    · have h3 : ¬t.val % 36 = 35 := by omega
      exact ⟨runA c (grid0.coords t) arg2 harg2 arg3 harg3 arg4 harg4 arg5 harg5 arg6 harg6 arg7 harg7 arg8 harg8 arg9 harg9 arg10 harg10 arg11 harg11 arg12 harg12 ((hcond0_0 t).mpr h0) ((hcond0_1 t).mpr h1) (fun h => h2 ((hcond0_2 t).mp h)) (fun h => h3 ((hcond0_3 t).mp h)) x0 x1 x2 x3 x4 x5 x6 x7 x8 x9 xs⟩
    · by_cases h3 : t.val % 36 = 35
      · exact ⟨runC c (grid0.coords t) arg2 harg2 arg3 harg3 arg4 harg4 arg5 harg5 arg6 harg6 arg7 harg7 arg8 harg8 arg9 harg9 arg10 harg10 arg11 harg11 arg12 harg12 (fun h => h0 ((hcond0_0 t).mp h)) ((hcond0_1 t).mpr h1) (fun h => h2 ((hcond0_2 t).mp h)) ((hcond0_3 t).mpr h3) x0 x1 x2 x3 x4 x5 x6 x7 x8 x9 xs⟩
      · exact ⟨runB c (grid0.coords t) arg2 harg2 arg3 harg3 arg4 harg4 arg5 harg5 arg6 harg6 arg7 harg7 arg8 harg8 arg9 harg9 arg10 harg10 arg11 harg11 arg12 harg12 (fun h => h0 ((hcond0_0 t).mp h)) ((hcond0_1 t).mpr h1) (fun h => h2 ((hcond0_2 t).mp h)) (fun h => h3 ((hcond0_3 t).mp h)) x0 x1 x2 x3 x4 x5 x6 x7 x8 x9 xs⟩
  · have h2 : 36 ≤ t.val := by omega
    by_cases h0 : t.val % 36 = 0
    · have h3 : ¬t.val % 36 = 35 := by omega
      exact ⟨runD c (grid0.coords t) arg2 harg2 arg3 harg3 arg4 harg4 arg5 harg5 arg6 harg6 arg7 harg7 arg8 harg8 arg9 harg9 arg10 harg10 arg11 harg11 arg12 harg12 ((hcond0_0 t).mpr h0) (fun h => h1 ((hcond0_1 t).mp h)) ((hcond0_2 t).mpr h2) (fun h => h3 ((hcond0_3 t).mp h)) x0 x1 x2 x3 x4 x5 x6 x7 x8 x9 xs⟩
    · by_cases h3 : t.val % 36 = 35
      · exact ⟨runF c (grid0.coords t) arg2 harg2 arg3 harg3 arg4 harg4 arg5 harg5 arg6 harg6 arg7 harg7 arg8 harg8 arg9 harg9 arg10 harg10 arg11 harg11 arg12 harg12 (fun h => h0 ((hcond0_0 t).mp h)) (fun h => h1 ((hcond0_1 t).mp h)) ((hcond0_2 t).mpr h2) ((hcond0_3 t).mpr h3) x0 x1 x2 x3 x4 x5 x6 x7 x8 x9 xs⟩
      · exact ⟨runE c (grid0.coords t) arg2 harg2 arg3 harg3 arg4 harg4 arg5 harg5 arg6 harg6 arg7 harg7 arg8 harg8 arg9 harg9 arg10 harg10 arg11 harg11 arg12 harg12 (fun h => h0 ((hcond0_0 t).mp h)) (fun h => h1 ((hcond0_1 t).mp h)) ((hcond0_2 t).mpr h2) (fun h => h3 ((hcond0_3 t).mp h)) x0 x1 x2 x3 x4 x5 x6 x7 x8 x9 xs⟩

variable (m : (ℓ : Loc nD τ sig) → Buf (Elt F) ℓ) (ρ : Dev nD → PrngReg)

/-- The proof data: inputs stay as found; of what the body writes nothing is said. -/
def rd (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => True
    | ⟨8, _⟩ => True
    | ⟨9, _⟩ => True
  Φ _ := Pipeline.ΦA spec0 c
  q _ := fullShare
  owed _ := 0

theorem A_eq (c : Dev nD) (w : Fin cfg0.W) : (rd m c).A w = V m c (Pipeline.arrRef spec0 w) := by
  dsimp only [rd]

theorem after_0 (c : Dev nD) (t : Fin cfg0.N) (Y X) : (rd m c).after 0 t Y X = (X = Y) := by dsimp only [rd]
theorem after_1 (c : Dev nD) (t : Fin cfg0.N) (Y X) : (rd m c).after 1 t Y X = (X = Y) := by dsimp only [rd]
theorem after_2 (c : Dev nD) (t : Fin cfg0.N) (Y X) : (rd m c).after 2 t Y X = (X = Y) := by dsimp only [rd]
theorem after_3 (c : Dev nD) (t : Fin cfg0.N) (Y X) : (rd m c).after 3 t Y X = (X = Y) := by dsimp only [rd]
theorem after_4 (c : Dev nD) (t : Fin cfg0.N) (Y X) : (rd m c).after 4 t Y X = (X = Y) := by dsimp only [rd]
theorem after_5 (c : Dev nD) (t : Fin cfg0.N) (Y X) : (rd m c).after 5 t Y X = (X = Y) := by dsimp only [rd]
theorem after_6 (c : Dev nD) (t : Fin cfg0.N) (Y X) : (rd m c).after 6 t Y X = (X = Y) := by dsimp only [rd]
theorem after_7 (c : Dev nD) (t : Fin cfg0.N) (Y X) : (rd m c).after 7 t Y X = True := by dsimp only [rd]
theorem after_8 (c : Dev nD) (t : Fin cfg0.N) (Y X) : (rd m c).after 8 t Y X = True := by dsimp only [rd]
theorem after_9 (c : Dev nD) (t : Fin cfg0.N) (Y X) : (rd m c).after 9 t Y X = True := by dsimp only [rd]

/-- What the body is called with at point `t`, window by window, -/
def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9))

/-- and what it returns. -/
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (ms0_0 t) fullShare X)
    ∗ (∃ X, ⌜(rd m c).after 1 t (Y 1) X⌝ ∗ owns (c : Thread nD τ) (ms0_1 t) fullShare X)
    ∗ (∃ X, ⌜(rd m c).after 2 t (Y 2) X⌝ ∗ owns (c : Thread nD τ) (ms0_2 t) fullShare X)
    ∗ (∃ X, ⌜(rd m c).after 3 t (Y 3) X⌝ ∗ owns (c : Thread nD τ) (ms0_3 t) fullShare X)
    ∗ (∃ X, ⌜(rd m c).after 4 t (Y 4) X⌝ ∗ owns (c : Thread nD τ) (ms0_4 t) fullShare X)
    ∗ (∃ X, ⌜(rd m c).after 5 t (Y 5) X⌝ ∗ owns (c : Thread nD τ) (ms0_5 t) fullShare X)
    ∗ (∃ X, ⌜(rd m c).after 6 t (Y 6) X⌝ ∗ owns (c : Thread nD τ) (ms0_6 t) fullShare X)
    ∗ (∃ X, ⌜(rd m c).after 7 t (Y 7) X⌝ ∗ owns (c : Thread nD τ) (ms0_7 t) fullShare X)
    ∗ (∃ X, ⌜(rd m c).after 8 t (Y 8) X⌝ ∗ owns (c : Thread nD τ) (ms0_8 t) fullShare X)
    ∗ (∃ X, ⌜(rd m c).after 9 t (Y 9) X⌝ ∗ owns (c : Thread nD τ) (ms0_9 t) fullShare X))

set_option maxHeartbeats 1600000 in
/-- The body at any point. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rd m c).owesAt () t.succ = (rd m c).owesAt () t.castSucc from rfl,
    show (rd m c).Φ t.castSucc = Pipeline.ΦA spec0 c from rfl, show (rd m c).Φ t.succ = Pipeline.ΦA spec0 c from rfl, PhiA0_eq]
  iintro ⟨⟨⟨%d, HS⟩, Hg⟩, Ho, H0, H1, H2, H3, H4, H5, H6, H7, H8, H9⟩
  obtain ⟨R⟩ := runAt c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) scM0_0 (Memref.isWhole_whole _) (Y 0) (Y 1) (Y 2) (Y 3) (Y 4) (Y 5) (Y 6) (Y 7) (Y 8) (Y 9) d
  iapply (R.body Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]
    · iexists _; iexact HS
    · iexact Hg
  isplitl [Ho]; · iexact Ho
  isplitl [H0]
  · iexists _; isplitr
    swap; · iexact H0
    ipureintro; rw [after_0]
  isplitl [H1]
  · iexists _; isplitr
    swap; · iexact H1
    ipureintro; rw [after_1]
  isplitl [H2]
  · iexists _; isplitr
    swap; · iexact H2
    ipureintro; rw [after_2]
  isplitl [H3]
  · iexists _; isplitr
    swap; · iexact H3
    ipureintro; rw [after_3]
  isplitl [H4]
  · iexists _; isplitr
    swap; · iexact H4
    ipureintro; rw [after_4]
  isplitl [H5]
  · iexists _; isplitr
    swap; · iexact H5
    ipureintro; rw [after_5]
  isplitl [H6]
  · iexists _; isplitr
    swap; · iexact H6
    ipureintro; rw [after_6]
  isplitl [H7]
  · iexists _; isplitr
    swap; · iexact H7
    ipureintro; rw [after_7]; trivial
  isplitl [H8]
  · iexists _; isplitr
    swap; · iexact H8
    ipureintro; rw [after_8]; trivial
  iexists _; isplitr
  swap; · iexact H9
  ipureintro; rw [after_9]; trivial

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rd m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The launch: every final state has the arrays at contents the proof data allow, and every counter at zero. -/
theorem run_main_quiescent : θ_run defs (onTc (τ := τ) (main (F := F))) (s₀ m ρ)
    (fun r => (Pipeline.RDat.FramePost (cfgs 0) (rd m) (V m)) r ∧ r.2.sem = fun _ => 0) :=
  Pipeline.RDat.θ_run_frame_track (Q' := _) cfgs (0 : Fin 1) launch0 defs₀ Variants.none (rd m) m ρ main
    (hbody := fun c => body_obligation m c) (hshare := fun c => (rd m c).share_full fun _ => rfl)
    (howed := fun _ _ => rfl) (V := V m) (hmain := hmain m Variants.none) (hA := A_eq m) (hin := fun _ => .rfl) (hout := fun _ => .rfl)

/-- The arguments end unchanged and every counter at zero. -/
theorem frame_proof : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => ⟨fun c =>
    let h := hh.1
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c))⟩, hh.2⟩) (run_main_quiescent m ρ)

end Cert.Main.Gen

end
-- ==== Proof.MainIdealRun.lean ====
/- One run of the body of the kernel of the products with dy, in each case of its branches: what each of its buffers holds at the end, as the pieces it stored. -/
module

public import proofs.«01_k».proof.Proof.Gen.MainIdeal.Frame
public import proofs.«01_k».proof.Proof.Gen.MainIdeal.Skeleton
public import proofs.«01_k».proof.Proof.Gen.MainIdeal.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 36) — by arithmetic of the point. -/
theorem hcond0_0 : ∀ t : Fin cfg0.N, cond0_0 (grid0.coords t) ↔ t.val % 36 = 0 :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_0, e0, e1]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the points before point 36 — by arithmetic of the point. -/
theorem hcond0_1 : ∀ t : Fin cfg0.N, cond0_1 (grid0.coords t) ↔ t.val < 36 :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_1, k0_cond2, e0, e1]
    word_cmp
   : ∀ t : Fin grid0.N, cond0_1 (grid0.coords t) ↔ t.val < 36)

/-- The condition of the body's `scf.if` 2 (`k0_h3`), from the grid coordinates (the skeleton's scalar
    chain substituted). -/
abbrev cond0_2 (i : grid0.Coords) : Prop := k0_cond3 i = 1#1
/-- It holds at the points from point 36 on — by arithmetic of the point. -/
theorem hcond0_2 : ∀ t : Fin cfg0.N, cond0_2 (grid0.coords t) ↔ 36 ≤ t.val :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_2, k0_cond3, e0, e1]
    word_cmp
   : ∀ t : Fin grid0.N, cond0_2 (grid0.coords t) ↔ 36 ≤ t.val)

/-- The condition of the body's `scf.if` 3 (`k0_h4`), from the grid coordinates (the skeleton's scalar
    chain substituted). -/
abbrev cond0_3 (i : grid0.Coords) : Prop := k0_cond4 i = 1#1
/-- It holds at the points ≡ 35 (mod 36) — by arithmetic of the point. -/
theorem hcond0_3 : ∀ t : Fin cfg0.N, cond0_3 (grid0.coords t) ↔ t.val % 36 = 35 :=
  (fun t => by
    have ht : t.val < 864 := Nat.lt_of_lt_of_eq t.isLt N_0
    have e0 : (grid0.coords t 0).val = t.val / 36 % 24 := Pipeline.Grid.coords_val t 0 (by decide) rfl
    have e1 : (grid0.coords t 1).val = t.val / 1 % 36 := Pipeline.Grid.coords_val t 1 (by decide) rfl
    simp only [cond0_3, k0_cond4, e0, e1]
    word_cmp
   : ∀ t : Fin grid0.N, cond0_3 (grid0.coords t) ↔ t.val % 36 = 35)

/-! ## Where the windows are idle (the printed configuration's table `Cfg.idle`) -/

/-! ## The kernel body on any staging memrefs: a subtype the run finds -/

/-- Each window's current staging memref at point `t`, spelled as the pipeline passes it (`bodyAt0`), and its wholeness. -/
abbrev ms0_0 (t : Fin cfg0.N) : Memref sig .tc .vmem S512x512 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7168x32 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x7168 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x18432 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x32 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x7168 .f32 := Memref.whole cc0_scratch0
/-- The scratch `arg12` the kernel carries between points, as a view: what it holds is stated through it. -/
abbrev VS0_0 : View sig .tc .vmem S512x7168 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The runs -/

/-- A run of the body from given contents of its buffers: the pieces its stores leave in the two results it completes or accumulates in place
    (`L8`, `L9`), in the result it stores at the last column block (`L7`) and in the accumulator (`LS`), over what each held; the inputs are left as they were. -/
structure Run (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) where
  L7 : List (View.Piece (Elt F) S512x7168 .bf16)
  L8 : List (View.Piece (Elt F) S32x18432 .f32)
  L9 : List (View.Piece (Elt F) S512x32 .f32)
  LS : List (View.Piece (Elt F) S512x7168 .f32)
  run : ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread xs) LS)) -∗ K ⟨⟩))
          ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12) K

set_option maxHeartbeats 1000000 in
/-- The run at the first column block of the first row block. -/
def runA (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : cond0_0 i) (hc1 : cond0_1 i) (hc2 : ¬cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run inside the first row block. -/
def runB (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : cond0_1 i) (hc2 : ¬cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run at the last column block of the first row block. -/
def runC (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : cond0_1 i) (hc2 : ¬cond0_2 i) (hc3 : cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨?_, ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run at the first column block of a later row block. -/
def runD (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : cond0_0 i) (hc1 : ¬cond0_1 i) (hc2 : cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run inside a later row block. -/
def runE (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : ¬cond0_1 i) (hc2 : cond0_2 i) (hc3 : ¬cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨[], ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

set_option maxHeartbeats 1000000 in
/-- The run at the last column block of a later row block. -/
def runF (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole) (hc0 : ¬cond0_0 i) (hc1 : ¬cond0_1 i) (hc2 : cond0_2 i) (hc3 : cond0_3 i)
    (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32) : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs := by
  refine ⟨?_, ?_, ?_, ?_, fun E K => ?run⟩
  case run =>
    simp only [cc0_main_eq_skeleton]; unfold cc0_main_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    iexact H10

end Cert.MainIdeal.Gen

end
-- ==== Proof.MainIdealShape.lean ====
/- The stores of one run of the body of the kernel of the products with dy, in each case of its branches, from the dequantised tile and what its buffers held. -/
module

public import proofs.«01_k».proof.Proof.MainIdealRun
public import Idealize.ShloMosaic.Lib.Pipeline.CanonAppend
public import Idealize.ShloMosaic.Lib.Pipeline.ReadBack
public import Idealize.ShloMosaic.Lib.WritesUnit
public import proofs.«01_k».proof.Proof.Gen.MainIdeal.Skeleton
public import proofs.«01_k».proof.Proof.Gen.MainIdeal.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first scale's lane in the block of 128: `16 * k` modulo 128, as the kernel computes it. -/
def fw (i : grid0.Coords) : BitVec 32 :=
  let v4 : BitVec 32 := Scalar.muli (BitVec.ofNat 32 (i 1).val) 16#32
  let v6 : BitVec 32 := Scalar.select (Scalar.cmpi .eq 128#32 0#32) 1#32 128#32
  let v7 : BitVec 32 := Scalar.remsi v4 v6
  Scalar.select (Scalar.andi (Scalar.xori (Scalar.cmpi .slt v7 0#32) (Scalar.cmpi .slt v6 0#32)) (Scalar.cmpi .ne v7 0#32)) (Scalar.addi v7 v6) v7

/-- The dequantised tile of dy, from the codes and the block of scales. -/
def dq (i : grid0.Coords) (x0 : Vec F S512x512 .fp8e5m2) (x1 : Vec F S512x128 .f32) : FVec F S512x512 .bf16 :=
  k0_pay21 (k0_pay15 i x0 x1) (k0_pay17 (k0_pay14 x1) (k0_pay16 x0) (Scalar.addi (fw i) 4#32)) (k0_pay18 (k0_pay13 x0) (k0_pay14 x1) (fw i))
    (k0_pay19 (k0_pay13 x0)) (k0_pay20 (k0_pay14 x1) (fw i))

theorem hz2 : (![0, 0] : Fin 2 → Nat) = fun _ => 0 := funext fun a => by fin_cases a <;> rfl

/-- One chunk of the accumulator's update: 1024 of its columns plus the tile times 1024 rows of the dequantised weight. -/
def chunk (D : FVec F S512x512 .bf16) (ws : Vec F S1x512 .f32) (w : Vec F S1024x512 .fp8e4m3) (a : Vec F S512x1024 .f32) : FVec F S512x1024 .f32 :=
  k0_pay29 D (k0_pay22 ws) w a

/-- The seven stores of the accumulator's update, from what each chunk of it held before. -/
def accPieces (D : FVec F S512x512 .bf16) (x2 : Vec F S7168x512 .fp8e4m3) (x3 : Vec F S1x512 .f32) (a : Vec F S512x7168 .f32) : List (View.Piece (Elt F) S512x7168 .f32) :=
  [⟨Rect.unit ![0, 6144] S512x1024.size inb_S512x7168_S512x1024_0_6144, chunk D x3 (View.ld x2 (Rect.unit ![6144, 0] S1024x512.size inb_S7168x512_S1024x512_6144_0)) (View.ld a (Rect.unit ![0, 6144] S512x1024.size inb_S512x7168_S512x1024_0_6144))⟩,
   ⟨Rect.unit ![0, 5120] S512x1024.size inb_S512x7168_S512x1024_0_5120, chunk D x3 (View.ld x2 (Rect.unit ![5120, 0] S1024x512.size inb_S7168x512_S1024x512_5120_0)) (View.ld a (Rect.unit ![0, 5120] S512x1024.size inb_S512x7168_S512x1024_0_5120))⟩,
   ⟨Rect.unit ![0, 4096] S512x1024.size inb_S512x7168_S512x1024_0_4096, chunk D x3 (View.ld x2 (Rect.unit ![4096, 0] S1024x512.size inb_S7168x512_S1024x512_4096_0)) (View.ld a (Rect.unit ![0, 4096] S512x1024.size inb_S512x7168_S512x1024_0_4096))⟩,
   ⟨Rect.unit ![0, 3072] S512x1024.size inb_S512x7168_S512x1024_0_3072, chunk D x3 (View.ld x2 (Rect.unit ![3072, 0] S1024x512.size inb_S7168x512_S1024x512_3072_0)) (View.ld a (Rect.unit ![0, 3072] S512x1024.size inb_S512x7168_S512x1024_0_3072))⟩,
   ⟨Rect.unit ![0, 2048] S512x1024.size inb_S512x7168_S512x1024_0_2048, chunk D x3 (View.ld x2 (Rect.unit ![2048, 0] S1024x512.size inb_S7168x512_S1024x512_2048_0)) (View.ld a (Rect.unit ![0, 2048] S512x1024.size inb_S512x7168_S512x1024_0_2048))⟩,
   ⟨Rect.unit ![0, 1024] S512x1024.size inb_S512x7168_S512x1024_0_1024, chunk D x3 (View.ld x2 (Rect.unit ![1024, 0] S1024x512.size inb_S7168x512_S1024x512_1024_0)) (View.ld a (Rect.unit ![0, 1024] S512x1024.size inb_S512x7168_S512x1024_0_1024))⟩,
   ⟨Rect.unit ![0, 0] S512x1024.size inb_S512x7168_S512x1024_0_0, chunk D x3 (View.ld x2 (Rect.unit ![0, 0] S1024x512.size inb_S7168x512_S1024x512_0_0)) (View.ld a (Rect.unit ![0, 0] S512x1024.size inb_S512x7168_S512x1024_0_0))⟩]

/-- The seven stores of the block of dx, from the finished t, the rows of A and the finished accumulator. -/
def dxPieces (T : Vec F S512x32 .f32) (x5 : Vec F S7168x32 .bf16) (a : Vec F S512x7168 .f32) : List (View.Piece (Elt F) S512x7168 .bf16) :=
  [⟨Rect.unit ![0, 6144] S512x1024.size inb_S512x7168_S512x1024_0_6144, k0_pay4 T (View.ld x5 (Rect.unit ![6144, 0] S1024x32.size inb_S7168x32_S1024x32_6144_0)) (View.ld a (Rect.unit ![0, 6144] S512x1024.size inb_S512x7168_S512x1024_0_6144))⟩,
   ⟨Rect.unit ![0, 5120] S512x1024.size inb_S512x7168_S512x1024_0_5120, k0_pay4 T (View.ld x5 (Rect.unit ![5120, 0] S1024x32.size inb_S7168x32_S1024x32_5120_0)) (View.ld a (Rect.unit ![0, 5120] S512x1024.size inb_S512x7168_S512x1024_0_5120))⟩,
   ⟨Rect.unit ![0, 4096] S512x1024.size inb_S512x7168_S512x1024_0_4096, k0_pay4 T (View.ld x5 (Rect.unit ![4096, 0] S1024x32.size inb_S7168x32_S1024x32_4096_0)) (View.ld a (Rect.unit ![0, 4096] S512x1024.size inb_S512x7168_S512x1024_0_4096))⟩,
   ⟨Rect.unit ![0, 3072] S512x1024.size inb_S512x7168_S512x1024_0_3072, k0_pay4 T (View.ld x5 (Rect.unit ![3072, 0] S1024x32.size inb_S7168x32_S1024x32_3072_0)) (View.ld a (Rect.unit ![0, 3072] S512x1024.size inb_S512x7168_S512x1024_0_3072))⟩,
   ⟨Rect.unit ![0, 2048] S512x1024.size inb_S512x7168_S512x1024_0_2048, k0_pay4 T (View.ld x5 (Rect.unit ![2048, 0] S1024x32.size inb_S7168x32_S1024x32_2048_0)) (View.ld a (Rect.unit ![0, 2048] S512x1024.size inb_S512x7168_S512x1024_0_2048))⟩,
   ⟨Rect.unit ![0, 1024] S512x1024.size inb_S512x7168_S512x1024_0_1024, k0_pay4 T (View.ld x5 (Rect.unit ![1024, 0] S1024x32.size inb_S7168x32_S1024x32_1024_0)) (View.ld a (Rect.unit ![0, 1024] S512x1024.size inb_S512x7168_S512x1024_0_1024))⟩,
   ⟨Rect.unit ![0, 0] S512x1024.size inb_S512x7168_S512x1024_0_0, k0_pay4 T (View.ld x5 (Rect.unit ![0, 0] S1024x32.size inb_S7168x32_S1024x32_0_0)) (View.ld a (Rect.unit ![0, 0] S512x1024.size inb_S512x7168_S512x1024_0_0))⟩]

/-- The column of the result that a column block's product goes to, as the kernel computes it. -/
def colOff (i : grid0.Coords) : Fin 2 → Nat := ![0, BitVec.toNat (Scalar.indexCast (Scalar.muli (BitVec.ofNat 32 (i 1).val) 512#32))]

theorem colOff_eq (i : grid0.Coords) : colOff i = ![0, 512 * (i 1).val] := by
  have h : ∀ k : Fin 36, BitVec.toNat (Scalar.indexCast (Scalar.muli (BitVec.ofNat 32 k.val) 512#32)) = 512 * k.val := by decide +kernel
  unfold colOff
  rw [h (i 1)]

theorem colOff_inb (i : grid0.Coords) : ∀ a, colOff i a + S32x512.size a ≤ S32x18432.size a := by
  have h1 : (i 1).val < 36 := (i 1).isLt
  rw [colOff_eq]
  intro a
  fin_cases a
  · show 0 + 32 ≤ 32; omega
  · show 512 * (i 1).val + 512 ≤ 18432; omega

/-- The rectangle of the second result that a column block's product goes to. -/
abbrev colRect (i : grid0.Coords) : Rect S32x18432 := Rect.unit (colOff i) S32x512.size (colOff_inb i)

theorem fw_fold (i : grid0.Coords) :
    Scalar.select (Scalar.andi (Scalar.xori (Scalar.cmpi .slt (Scalar.remsi (Scalar.muli (BitVec.ofNat 32 (i 1).val) 16#32) 128#32) 0#32) 0#1)
      (Scalar.cmpi .ne (Scalar.remsi (Scalar.muli (BitVec.ofNat 32 (i 1).val) 16#32) 128#32) 0#32))
      (Scalar.addi (Scalar.remsi (Scalar.muli (BitVec.ofNat 32 (i 1).val) 16#32) 128#32) 128#32)
      (Scalar.remsi (Scalar.muli (BitVec.ofNat 32 (i 1).val) 16#32) 128#32) = fw i := rfl

theorem dq_fold (i : grid0.Coords) (x0 : Vec F S512x512 .fp8e5m2) (x1 : Vec F S512x128 .f32) :
    k0_pay21 (k0_pay15 i x0 x1) (k0_pay17 (k0_pay14 x1) (k0_pay16 x0) (Scalar.addi (fw i) 4#32)) (k0_pay18 (k0_pay13 x0) (k0_pay14 x1) (fw i))
      (k0_pay19 (k0_pay13 x0)) (k0_pay20 (k0_pay14 x1) (fw i)) = dq i x0 x1 := rfl

section
variable (v35 v53 v71 v73 : FVec F S512x128 .bf16) (v87 : FVec F S512x128 .f32) (D : FVec F S512x512 .bf16) (ws : Vec F S1x512 .f32) (w : Vec F S1024x512 .fp8e4m3) (a : Vec F S512x1024 .f32)

theorem fold23 : k0_pay23 v35 v53 v71 v73 v87 ws w a = chunk (k0_pay21 v35 v53 v71 v73 v87) ws w a := rfl
theorem fold24 : k0_pay24 v35 v53 v71 v73 v87 ws w a = chunk (k0_pay21 v35 v53 v71 v73 v87) ws w a := rfl
theorem fold25 : k0_pay26 (k0_pay25 v35 v53 v71 v73 v87 ws w a) = chunk (k0_pay21 v35 v53 v71 v73 v87) ws w a := rfl
theorem fold27 : k0_pay27 D (k0_pay22 ws) w a = chunk D ws w a := rfl
theorem fold28 : k0_pay28 D (k0_pay22 ws) w a = chunk D ws w a := rfl
theorem fold29 : k0_pay29 D (k0_pay22 ws) w a = chunk D ws w a := rfl
theorem fold31 : k0_pay31 D (k0_pay22 ws) (k0_pay30 w) a = chunk D ws w a := rfl

variable (T : Vec F S512x32 .f32) (an : Vec F S1024x32 .bf16)

theorem fold5 : k0_pay5 T an a = k0_pay4 T an a := rfl
theorem fold7 : k0_pay7 a (k0_pay6 T an) = k0_pay4 T an a := rfl
theorem fold8 : k0_pay8 (k0_pay3 T) an a = k0_pay4 T an a := rfl
theorem fold9 : k0_pay9 (k0_pay3 T) an a = k0_pay4 T an a := rfl
theorem fold10 : k0_pay10 (k0_pay3 T) an a = k0_pay4 T an a := rfl
theorem fold2 : k0_pay2 (k0_pay3 T) an a = k0_pay4 T an a := rfl

end

theorem readCov_ld {S : Shape} {e : EltTy} [∀ e, Nonempty (Elt F e)] (v : View sig .tc .vmem S e) (L : List (View.Piece (Elt F) S e)) (r : Rect S) :
    v.readCov L r.toLoadRect = View.ld (View.canon L) r := View.readCov_eq_canon' v L _

/-- A read after a store of the whole accumulator reads what it stored. -/
theorem readCov_whole (v : View sig .tc .vmem S512x7168 .f32) (inb : ∀ a, (![0, 0] : Fin 2 → ℕ) a + (![512, 7168] : Fin 2 → ℕ) a ≤ S512x7168.size a)
    (Z : Vec F S512x7168 .f32) (L : List (View.Piece (Elt F) S512x7168 .f32)) (r : Rect S512x7168) :
    v.readCov ((⟨Rect.unit ![0, 0] ![512, 7168] inb, Z⟩ : View.Piece (Elt F) S512x7168 .f32) :: L) r.toLoadRect = View.ld Z r :=
  View.readCov_fill v inb Z L r fun a => by fin_cases a <;> rfl

section
variable (c : Dev nD) (i : grid0.Coords) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole)
  (x0 : Vec F S512x512 .fp8e5m2) (x1 : Vec F S512x128 .f32) (x2 : Vec F S7168x512 .fp8e4m3) (x3 : Vec F S1x512 .f32) (x4 : Vec F S32x512 .bf16) (x5 : Vec F S7168x32 .bf16) (x6 : Vec F S512x32 .f32) (x7 : Vec F S512x7168 .bf16) (x8 : Vec F S32x18432 .f32) (x9 : Vec F S512x32 .f32) (xs : Vec F S512x7168 .f32)

theorem listsA (hc0 : cond0_0 i) (hc1 : cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L7 = []
    ∧ (runA c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L8 = [⟨colRect i, k0_pay33 (dq i x0 x1) x6⟩]
    ∧ (runA c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L9 = [⟨Rect.unit ![0, 0] S512x32.size inb_S512x32_S512x32_0_0, k0_pay32 (dq i x0 x1) k0_pay12 x4⟩, ⟨Rect.unit ![0, 0] S512x32.size inb_S512x32_S512x32_0_0, k0_pay12⟩]
    ∧ (runA c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).LS = accPieces (dq i x0 x1) x2 x3 k0_pay11 ++ [⟨Rect.unit ![0, 0] S512x7168.size inb_S512x7168_S512x7168_0_0, k0_pay11⟩] := by
  unfold runA
  dsimp only
  sl_unfold_words
  refine ⟨?_, ?_, ?_, ?_⟩
  · rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31, View.readCov_unit_zero (S := S512x32) _ hz2]
    try rfl
  · simp (disch := first | rfl | decide) only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31,
    ↓View.readCov_skip, readCov_whole, View.readCov_unit_zero (S := S512x32) _ hz2]
    try rfl

theorem listsB (hc0 : ¬cond0_0 i) (hc1 : cond0_1 i) (hc2 : ¬cond0_2 i) (hc3 : ¬cond0_3 i) :
    (runB c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L7 = []
    ∧ (runB c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L8 = [⟨colRect i, k0_pay33 (dq i x0 x1) x6⟩]
    ∧ (runB c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L9 = [⟨Rect.unit ![0, 0] S512x32.size inb_S512x32_S512x32_0_0, k0_pay32 (dq i x0 x1) x9 x4⟩]
    ∧ (runB c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).LS = accPieces (dq i x0 x1) x2 x3 xs := by
  unfold runB
  dsimp only
  sl_unfold_words
  refine ⟨?_, ?_, ?_, ?_⟩
  · rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl

theorem listsC (hc0 : ¬cond0_0 i) (hc1 : cond0_1 i) (hc2 : ¬cond0_2 i) (hc3 : cond0_3 i) :
    (runC c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L7 = dxPieces (k0_pay32 (dq i x0 x1) x9 x4) x5 (View.canon (accPieces (dq i x0 x1) x2 x3 xs))
    ∧ (runC c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L8 = [⟨colRect i, k0_pay33 (dq i x0 x1) x6⟩]
    ∧ (runC c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L9 = [⟨Rect.unit ![0, 0] S512x32.size inb_S512x32_S512x32_0_0, k0_pay32 (dq i x0 x1) x9 x4⟩]
    ∧ (runC c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).LS = accPieces (dq i x0 x1) x2 x3 xs := by
  unfold runC
  dsimp only
  sl_unfold_words
  refine ⟨?_, ?_, ?_, ?_⟩
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31, fold5, fold7, fold8, fold9, fold10, fold2,
      readCov_ld, View.canon_unit_zero (S := S512x32) hz2]
    rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl

theorem listsD (hc0 : cond0_0 i) (hc1 : ¬cond0_1 i) (hc2 : cond0_2 i) (hc3 : ¬cond0_3 i) :
    (runD c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L7 = []
    ∧ (runD c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L8 = [⟨colRect i, k0_pay1 (k0_pay33 (dq i x0 x1) x6) (View.ld x8 (colRect i))⟩]
    ∧ (runD c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L9 = [⟨Rect.unit ![0, 0] S512x32.size inb_S512x32_S512x32_0_0, k0_pay32 (dq i x0 x1) k0_pay12 x4⟩, ⟨Rect.unit ![0, 0] S512x32.size inb_S512x32_S512x32_0_0, k0_pay12⟩]
    ∧ (runD c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).LS = accPieces (dq i x0 x1) x2 x3 k0_pay11 ++ [⟨Rect.unit ![0, 0] S512x7168.size inb_S512x7168_S512x7168_0_0, k0_pay11⟩] := by
  unfold runD
  dsimp only
  sl_unfold_words
  refine ⟨?_, ?_, ?_, ?_⟩
  · rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31, View.readCov_unit_zero (S := S512x32) _ hz2]
    try rfl
  · simp (disch := first | rfl | decide) only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31,
    ↓View.readCov_skip, readCov_whole, View.readCov_unit_zero (S := S512x32) _ hz2]
    try rfl

theorem listsE (hc0 : ¬cond0_0 i) (hc1 : ¬cond0_1 i) (hc2 : cond0_2 i) (hc3 : ¬cond0_3 i) :
    (runE c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L7 = []
    ∧ (runE c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L8 = [⟨colRect i, k0_pay1 (k0_pay33 (dq i x0 x1) x6) (View.ld x8 (colRect i))⟩]
    ∧ (runE c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L9 = [⟨Rect.unit ![0, 0] S512x32.size inb_S512x32_S512x32_0_0, k0_pay32 (dq i x0 x1) x9 x4⟩]
    ∧ (runE c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).LS = accPieces (dq i x0 x1) x2 x3 xs := by
  unfold runE
  dsimp only
  sl_unfold_words
  refine ⟨?_, ?_, ?_, ?_⟩
  · rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl

theorem listsF (hc0 : ¬cond0_0 i) (hc1 : ¬cond0_1 i) (hc2 : cond0_2 i) (hc3 : cond0_3 i) :
    (runF c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L7 = dxPieces (k0_pay32 (dq i x0 x1) x9 x4) x5 (View.canon (accPieces (dq i x0 x1) x2 x3 xs))
    ∧ (runF c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L8 = [⟨colRect i, k0_pay1 (k0_pay33 (dq i x0 x1) x6) (View.ld x8 (colRect i))⟩]
    ∧ (runF c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).L9 = [⟨Rect.unit ![0, 0] S512x32.size inb_S512x32_S512x32_0_0, k0_pay32 (dq i x0 x1) x9 x4⟩]
    ∧ (runF c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 x7 x8 x9 xs).LS = accPieces (dq i x0 x1) x2 x3 xs := by
  unfold runF
  dsimp only
  sl_unfold_words
  refine ⟨?_, ?_, ?_, ?_⟩
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31, fold5, fold7, fold8, fold9, fold10, fold2,
      readCov_ld, View.canon_unit_zero (S := S512x32) hz2]
    rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl
  · simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x512) hz2, View.ld_unit_zero (S := S512x128) hz2, View.ld_unit_zero (S := S1x512) hz2, View.ld_unit_zero (S := S32x512) hz2, View.ld_unit_zero (S := S512x32) hz2,
    fw_fold, dq_fold, fold23, fold24, fold25, fold27, fold28, fold29, fold31]
    try rfl

end

end Cert.MainIdeal.Gen

end
-- ==== Proof.MainIdealBlock.lean ====
/- What one run of the body of the kernel of the products with dy computes, over the extended reals, at an index: the update of the accumulator, of t and of dB, and the block of dx. -/
module

public import proofs.«01_k».proof.Proof.MainIdealShape
public import proofs.«01_k».proof.Proof.Sums
public import Idealize.ShloMosaic.PureOps.Ideal
public import Idealize.ShloMosaic.Lib.Pipeline.CanonAppend
public import Idealize.ShloMosaic.Lib.Pipeline.ReadBack
public import Idealize.ShloMosaic.Lib.WritesUnit
public import proofs.«01_k».proof.Proof.Gen.MainIdeal.Skeleton
public import proofs.«01_k».proof.Proof.Gen.MainIdeal.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MainValue

open Cert.MainIdeal Cert.MainIdeal.Gen
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The four products of the body, at an index -/

theorem dot_w (x : S512x512.Idx → EReal) (y : S1024x512.Idx → EReal) (acc : S512x1024.Idx → EReal) (a : Fin 512) (b : Fin 1024) :
    Ideal.matmul dot_S512x512_S1024x512_S512x1024_1_1_0_0_n_n x y acc (ValueIdx.ix2 a b) = acc (ValueIdx.ix2 a b) + ∑ q : Fin 512, x (ValueIdx.ix2 a q) * y (ValueIdx.ix2 b q) := by
  refine Cert.Common.matmul_sum _ 512 rfl rfl x y acc _ (fun q => ValueIdx.ix2 a q) (fun q => ValueIdx.ix2 b q) (fun q k hk e => ?_) (fun q k hk e => ?_)
  · match e with
    | ⟨0, _⟩ =>
      show (dot_S512x512_S1024x512_S512x1024_1_1_0_0_n_n.lhsIdx (ValueIdx.ix2 a b) q 0).val = a.val
      unfold DotDims.lhsIdx
      rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
      rfl
    | ⟨1, _⟩ => exact (dot_S512x512_S1024x512_S512x1024_1_1_0_0_n_n.lhsIdx_val_of_single rfl _ q).trans hk
  · match e with
    | ⟨0, _⟩ =>
      show (dot_S512x512_S1024x512_S512x1024_1_1_0_0_n_n.rhsIdx (ValueIdx.ix2 a b) q 0).val = b.val
      unfold DotDims.rhsIdx
      rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
      rfl
    | ⟨1, _⟩ => exact (dot_S512x512_S1024x512_S512x1024_1_1_0_0_n_n.rhsIdx_val_of_single rfl _ q).trans hk

theorem dot_b (x : S512x512.Idx → EReal) (y : S32x512.Idx → EReal) (acc : S512x32.Idx → EReal) (a : Fin 512) (b : Fin 32) :
    Ideal.matmul dot_S512x512_S32x512_S512x32_1_1_0_0_n_n x y acc (ValueIdx.ix2 a b) = acc (ValueIdx.ix2 a b) + ∑ q : Fin 512, x (ValueIdx.ix2 a q) * y (ValueIdx.ix2 b q) := by
  refine Cert.Common.matmul_sum _ 512 rfl rfl x y acc _ (fun q => ValueIdx.ix2 a q) (fun q => ValueIdx.ix2 b q) (fun q k hk e => ?_) (fun q k hk e => ?_)
  · match e with
    | ⟨0, _⟩ =>
      show (dot_S512x512_S32x512_S512x32_1_1_0_0_n_n.lhsIdx (ValueIdx.ix2 a b) q 0).val = a.val
      unfold DotDims.lhsIdx
      rw [dif_neg (show ¬(0 : Fin S512x512.rank) ∈ dot_S512x512_S32x512_S512x32_1_1_0_0_n_n.lhsBatch by decide), dif_pos (show (0 : Fin S512x512.rank) ∈ dot_S512x512_S32x512_S512x32_1_1_0_0_n_n.lhsNonContracting by decide)]
      rfl
    | ⟨1, _⟩ => exact (dot_S512x512_S32x512_S512x32_1_1_0_0_n_n.lhsIdx_val_of_single rfl _ q).trans hk
  · match e with
    | ⟨0, _⟩ =>
      show (dot_S512x512_S32x512_S512x32_1_1_0_0_n_n.rhsIdx (ValueIdx.ix2 a b) q 0).val = b.val
      unfold DotDims.rhsIdx
      rw [dif_neg (show ¬(0 : Fin S32x512.rank) ∈ dot_S512x512_S32x512_S512x32_1_1_0_0_n_n.rhsBatch by decide), dif_pos (show (0 : Fin S32x512.rank) ∈ dot_S512x512_S32x512_S512x32_1_1_0_0_n_n.rhsNonContracting by decide)]
      rfl
    | ⟨1, _⟩ => exact (dot_S512x512_S32x512_S512x32_1_1_0_0_n_n.rhsIdx_val_of_single rfl _ q).trans hk

theorem dot_a (x : S512x96.Idx → EReal) (y : S1024x96.Idx → EReal) (acc : S512x1024.Idx → EReal) (a : Fin 512) (b : Fin 1024) :
    Ideal.matmul dot_S512x96_S1024x96_S512x1024_1_1_0_0_n_n x y acc (ValueIdx.ix2 a b) = acc (ValueIdx.ix2 a b) + ∑ q : Fin 96, x (ValueIdx.ix2 a q) * y (ValueIdx.ix2 b q) := by
  refine Cert.Common.matmul_sum _ 96 rfl rfl x y acc _ (fun q => ValueIdx.ix2 a q) (fun q => ValueIdx.ix2 b q) (fun q k hk e => ?_) (fun q k hk e => ?_)
  · match e with
    | ⟨0, _⟩ =>
      show (dot_S512x96_S1024x96_S512x1024_1_1_0_0_n_n.lhsIdx (ValueIdx.ix2 a b) q 0).val = a.val
      unfold DotDims.lhsIdx
      rw [dif_neg (show ¬(0 : Fin S512x96.rank) ∈ dot_S512x96_S1024x96_S512x1024_1_1_0_0_n_n.lhsBatch by decide), dif_pos (show (0 : Fin S512x96.rank) ∈ dot_S512x96_S1024x96_S512x1024_1_1_0_0_n_n.lhsNonContracting by decide)]
      rfl
    | ⟨1, _⟩ => exact (dot_S512x96_S1024x96_S512x1024_1_1_0_0_n_n.lhsIdx_val_of_single rfl _ q).trans hk
  · match e with
    | ⟨0, _⟩ =>
      show (dot_S512x96_S1024x96_S512x1024_1_1_0_0_n_n.rhsIdx (ValueIdx.ix2 a b) q 0).val = b.val
      unfold DotDims.rhsIdx
      rw [dif_neg (show ¬(0 : Fin S1024x96.rank) ∈ dot_S512x96_S1024x96_S512x1024_1_1_0_0_n_n.rhsBatch by decide), dif_pos (show (0 : Fin S1024x96.rank) ∈ dot_S512x96_S1024x96_S512x1024_1_1_0_0_n_n.rhsNonContracting by decide)]
      rfl
    | ⟨1, _⟩ => exact (dot_S512x96_S1024x96_S512x1024_1_1_0_0_n_n.rhsIdx_val_of_single rfl _ q).trans hk

theorem dot_d (x : S512x96.Idx → EReal) (y : S512x512.Idx → EReal) (acc : S96x512.Idx → EReal) (a : Fin 96) (b : Fin 512) :
    Ideal.matmul dot_S512x96_S512x512_S96x512_0_0_1_1_n_n x y acc (ValueIdx.ix2 a b) = acc (ValueIdx.ix2 a b) + ∑ q : Fin 512, x (ValueIdx.ix2 q a) * y (ValueIdx.ix2 q b) := by
  refine Cert.Common.matmul_sum _ 512 rfl rfl x y acc _ (fun q => ValueIdx.ix2 q a) (fun q => ValueIdx.ix2 q b) (fun q k hk e => ?_) (fun q k hk e => ?_)
  · match e with
    | ⟨0, _⟩ => exact (dot_S512x96_S512x512_S96x512_0_0_1_1_n_n.lhsIdx_val_of_single rfl _ q).trans hk
    | ⟨1, _⟩ =>
      show (dot_S512x96_S512x512_S96x512_0_0_1_1_n_n.lhsIdx (ValueIdx.ix2 a b) q 1).val = a.val
      unfold DotDims.lhsIdx
      rw [dif_neg (show ¬(1 : Fin S512x96.rank) ∈ dot_S512x96_S512x512_S96x512_0_0_1_1_n_n.lhsBatch by decide), dif_pos (show (1 : Fin S512x96.rank) ∈ dot_S512x96_S512x512_S96x512_0_0_1_1_n_n.lhsNonContracting by decide)]
      rfl
  · match e with
    | ⟨0, _⟩ => exact (dot_S512x96_S512x512_S96x512_0_0_1_1_n_n.rhsIdx_val_of_single rfl _ q).trans hk
    | ⟨1, _⟩ =>
      show (dot_S512x96_S512x512_S96x512_0_0_1_1_n_n.rhsIdx (ValueIdx.ix2 a b) q 1).val = b.val
      unfold DotDims.rhsIdx
      rw [dif_neg (show ¬(1 : Fin S512x512.rank) ∈ dot_S512x96_S512x512_S96x512_0_0_1_1_n_n.rhsBatch by decide), dif_pos (show (1 : Fin S512x512.rank) ∈ dot_S512x96_S512x512_S96x512_0_0_1_1_n_n.rhsNonContracting by decide)]
      rfl

/-! ## Three arrays side by side -/

/-- Three arrays of 32 columns side by side, at a column. -/
theorem cat3_apply {R : ℕ} {α : Type} (f : Fin 3 → ((⟨2, ![R, 32]⟩ : Shape).Idx → α))
    (hc : Shape.Concatenates [⟨2, ![R, 32]⟩, ⟨2, ![R, 32]⟩, ⟨2, ![R, 32]⟩] (⟨2, ![R, 96]⟩ : Shape) 1)
    (r : Fin R) (p : Fin 96) (n : Fin 3) (j : Fin 32) (hp : p.val = 32 * n.val + j.val) :
    concatenate (⟨2, ![R, 96]⟩ : Shape) 1 [⟨⟨2, ![R, 32]⟩, f 0⟩, ⟨⟨2, ![R, 32]⟩, f 1⟩, ⟨⟨2, ![R, 32]⟩, f 2⟩] hc (ValueIdx.ix2 r p) = f n (ValueIdx.ix2 r j) := by
  have hj := j.isLt
  exact concatenate_ofFn_apply (s₁ := ⟨2, ![R, 32]⟩) (t := ⟨2, ![R, 96]⟩) 1 f hc rfl 32 rfl (ValueIdx.ix2 r p) n (by show p.val / 32 = n.val; omega)
    (ValueIdx.ix2 r j) (by show j.val = p.val % 32; omega) (fun b hb => by
      match b with
      | ⟨0, _⟩ => rfl
      | ⟨1, _⟩ => exact absurd rfl hb)

/-- A sum over 96 columns, in three parts of 32. -/
theorem sum96 (f : Fin 96 → EReal) : ∑ p : Fin 96, f p
    = (∑ j : Fin 32, f ⟨j.val, by omega⟩) + (∑ j : Fin 32, f ⟨32 + j.val, by omega⟩) + ∑ j : Fin 32, f ⟨64 + j.val, by omega⟩ := by
  refine (Fin.sum_univ_add (a := 64) (b := 32) f).trans ?_
  congr 1
  exact Fin.sum_univ_add (a := 32) (b := 32) _

/-! ## The updates -/

/-- The constant two. -/
abbrev two : EReal := Ideal.ofBits .f32 0x40000000#32

/-- What bf16 leaves of a value, and what bf16 leaves of that: zero for a finite value. -/
def rest (v : EReal) : EReal := v - v

/-- The accumulator after a column block: what it held plus the tile times the dequantised block of the weight, transposed. -/
def accNew (D : S512x512.Idx → EReal) (x2 : S7168x512.Idx → EReal) (x3 : S1x512.Idx → EReal) (a : S512x7168.Idx → EReal) : S512x7168.Idx → EReal := fun y =>
  a y + ∑ q : Fin 512, D (ValueIdx.ix2 (y 0) q) * (x2 (ValueIdx.ix2 (y 1) q) * x3 (ValueIdx.ix2 0 q))

/-- t after a column block. -/
def tNew (D : S512x512.Idx → EReal) (x4 : S32x512.Idx → EReal) (t : S512x32.Idx → EReal) : S512x32.Idx → EReal := fun y =>
  t y + ∑ q : Fin 512, D (ValueIdx.ix2 (y 0) q) * x4 (ValueIdx.ix2 (y 1) q)

/-- The block of dx, from the finished accumulator and t. -/
def dxNew (T : S512x32.Idx → EReal) (x5 : S7168x32.Idx → EReal) (a : S512x7168.Idx → EReal) : S512x7168.Idx → EReal := fun y =>
  a y + two * ((∑ j : Fin 32, T (ValueIdx.ix2 (y 0) j) * x5 (ValueIdx.ix2 (y 1) j))
    + (∑ j : Fin 32, rest (T (ValueIdx.ix2 (y 0) j)) * x5 (ValueIdx.ix2 (y 1) j))
    + ∑ j : Fin 32, rest (rest (T (ValueIdx.ix2 (y 0) j))) * x5 (ValueIdx.ix2 (y 1) j))

/-- The part of dB of a block of rows and a column block. -/
def dNew (D : S512x512.Idx → EReal) (x6 : S512x32.Idx → EReal) : S32x512.Idx → EReal := fun y =>
  two * ((∑ r : Fin 512, x6 (ValueIdx.ix2 r (y 0)) * D (ValueIdx.ix2 r (y 1)))
    + (∑ r : Fin 512, rest (x6 (ValueIdx.ix2 r (y 0))) * D (ValueIdx.ix2 r (y 1)))
    + ∑ r : Fin 512, rest (rest (x6 (ValueIdx.ix2 r (y 0)))) * D (ValueIdx.ix2 r (y 1)))

/-- One chunk of the accumulator's update, at an index of the chunk. -/
theorem chunk_apply (D : S512x512.Idx → EReal) (ws : S1x512.Idx → EReal) (w : S1024x512.Idx → EReal) (a : S512x1024.Idx → EReal) (r : Fin 512) (n : Fin 1024) :
    (chunk (F := Ideal) D ws w a : S512x1024.Idx → EReal) (ValueIdx.ix2 r n)
      = a (ValueIdx.ix2 r n) + ∑ q : Fin 512, D (ValueIdx.ix2 r q) * (w (ValueIdx.ix2 n q) * ws (ValueIdx.ix2 0 q)) := by
  unfold chunk k0_pay29 k0_pay22
  simp only [shapeCast_self]
  show a (ValueIdx.ix2 r n) + Ideal.matmul dot_S512x512_S1024x512_S512x1024_1_1_0_0_n_n _ _ _ (ValueIdx.ix2 r n) = _
  rw [dot_w]
  congr 1
  show (Ideal.ofBits .f32 0#32 : EReal) + _ = _
  rw [Ideal.ofBits_zero_f32, zero_add]
  refine Finset.sum_congr rfl fun q _ => ?_
  show D (ValueIdx.ix2 r q) * (w (ValueIdx.ix2 n q) * ws _) = _
  congr 3
  funext b
  apply Fin.ext
  match b with
  | ⟨0, _⟩ => rfl
  | ⟨1, _⟩ => rfl

theorem ix2_eta {m n : ℕ} (j : (⟨2, ![m, n]⟩ : Shape).Idx) : j = ValueIdx.ix2 (j 0) (j 1) := ValueIdx.eq_ix2 j

/-- A chunk's store is its chunk of the new accumulator. -/
theorem chunk_ld (D : S512x512.Idx → EReal) (x2 : S7168x512.Idx → EReal) (x3 : S1x512.Idx → EReal) (a : S512x7168.Idx → EReal) (o : ℕ)
    (h1 : ∀ k, (![0, o] : Fin 2 → ℕ) k + S512x1024.size k ≤ S512x7168.size k) (h2 : ∀ k, (![o, 0] : Fin 2 → ℕ) k + S1024x512.size k ≤ S7168x512.size k)
    (x : S512x1024.Idx) :
    (chunk (F := Ideal) D x3 (View.ld (Val := Elt Ideal) (S := S7168x512) (e' := .fp8e4m3) x2 (Rect.unit ![o, 0] S1024x512.size h2)) (View.ld (Val := Elt Ideal) (S := S512x7168) (e' := .f32) a (Rect.unit ![0, o] S512x1024.size h1)) : S512x1024.Idx → EReal) x
      = accNew D x2 x3 a ((Rect.unit (s := S512x7168) ![0, o] S512x1024.size h1).emb x) := by
  obtain ⟨r, n, rfl⟩ : ∃ (r : Fin 512) (n : Fin 1024), x = ValueIdx.ix2 r n := ⟨x 0, x 1, ValueIdx.eq_ix2 x⟩
  rw [chunk_apply]
  unfold accNew
  have e0 : ((Rect.unit (s := S512x7168) ![0, o] S512x1024.size h1).emb (ValueIdx.ix2 r n) 0 : Fin 512) = r := Fin.ext (by show 0 + 1 * r.val = r.val; omega)
  rw [e0]
  congr 1
  refine Finset.sum_congr rfl fun q _ => ?_
  congr 2
  show x2 _ = x2 _
  congr 1
  funext b
  apply Fin.ext
  match b with
  | ⟨0, _⟩ => rfl
  | ⟨1, _⟩ => show 0 + 1 * q.val = q.val; omega

/-- The seven stores, over whatever the accumulator held, leave the new accumulator. -/
theorem acc_canon (D : S512x512.Idx → EReal) (x2 : S7168x512.Idx → EReal) (x3 : S1x512.Idx → EReal) (a : S512x7168.Idx → EReal)
    (L : List (View.Piece (Elt Ideal) S512x7168 .f32)) : View.canon (accPieces (F := Ideal) D x2 x3 a ++ L) = accNew D x2 x3 a := by
  funext y
  refine View.canon_append_of_piecesOf (accNew D x2 x3 a) L _ ?_ y (View.cover_of_tiledL (accPieces (F := Ideal) D x2 x3 a) S512x1024.size (by sl_kernel_rfl) y)
  unfold accPieces
  exact ⟨chunk_ld D x2 x3 a _ _ _, chunk_ld D x2 x3 a _ _ _, chunk_ld D x2 x3 a _ _ _, chunk_ld D x2 x3 a _ _ _, chunk_ld D x2 x3 a _ _ _,
    chunk_ld D x2 x3 a _ _ _, chunk_ld D x2 x3 a _ _ _, trivial⟩

theorem t_eq (D : S512x512.Idx → EReal) (t : S512x32.Idx → EReal) (x4 : S32x512.Idx → EReal) : k0_pay32 (F := Ideal) D t x4 = tNew D x4 t := by
  funext y
  obtain ⟨r, j, rfl⟩ : ∃ (r : Fin 512) (j : Fin 32), y = ValueIdx.ix2 r j := ⟨y 0, y 1, ValueIdx.eq_ix2 y⟩
  unfold k0_pay32
  simp only [shapeCast_self]
  show t (ValueIdx.ix2 r j) + Ideal.matmul dot_S512x512_S32x512_S512x32_1_1_0_0_n_n _ _ _ (ValueIdx.ix2 r j) = _
  rw [dot_b]
  unfold tNew
  congr 1
  show (Ideal.ofBits .f32 0#32 : EReal) + _ = _
  rw [Ideal.ofBits_zero_f32, zero_add]

/-- The three parts of a value, side by side. -/
theorem split_apply (T : S512x32.Idx → EReal) (r : Fin 512) (p : Fin 96) (n : Fin 3) (j : Fin 32) (hp : p.val = 32 * n.val + j.val) :
    (k0_pay3 (F := Ideal) T : S512x96.Idx → EReal) (ValueIdx.ix2 r p)
      = (![T (ValueIdx.ix2 r j), rest (T (ValueIdx.ix2 r j)), rest (rest (T (ValueIdx.ix2 r j)))] : Fin 3 → EReal) n := by
  unfold k0_pay3
  simp only [shapeCast_self]
  refine (cat3_apply (R := 512) (α := EReal) ![T, fun y => rest (T y), fun y => rest (rest (T y))] concatenates_S512x32_S512x32_S512x32_S512x96_d1 r p n j hp).trans ?_
  match n with
  | ⟨0, _⟩ => rfl
  | ⟨1, _⟩ => rfl
  | ⟨2, _⟩ => rfl

/-- One chunk of dx, at an index of the chunk. -/
theorem dxchunk_apply (T : S512x32.Idx → EReal) (an : S1024x32.Idx → EReal) (a : S512x1024.Idx → EReal) (r : Fin 512) (n : Fin 1024) :
    (k0_pay4 (F := Ideal) T an a : S512x1024.Idx → EReal) (ValueIdx.ix2 r n)
      = a (ValueIdx.ix2 r n) + two * ((∑ j : Fin 32, T (ValueIdx.ix2 r j) * an (ValueIdx.ix2 n j))
        + (∑ j : Fin 32, rest (T (ValueIdx.ix2 r j)) * an (ValueIdx.ix2 n j)) + ∑ j : Fin 32, rest (rest (T (ValueIdx.ix2 r j))) * an (ValueIdx.ix2 n j)) := by
  unfold k0_pay4
  show a (ValueIdx.ix2 r n) + two * Ideal.matmul dot_S512x96_S1024x96_S512x1024_1_1_0_0_n_n _ _ _ (ValueIdx.ix2 r n) = _
  rw [dot_a]
  congr 2
  show (Ideal.ofBits .f32 0#32 : EReal) + _ = _
  rw [Ideal.ofBits_zero_f32, zero_add, sum96]
  have hA : ∀ (p : Fin 96) (i : Fin 3) (j : Fin 32), p.val = 32 * i.val + j.val →
      (concatenate S1024x96 1 [⟨S1024x32, an⟩, ⟨S1024x32, an⟩, ⟨S1024x32, an⟩] concatenates_S1024x32_S1024x32_S1024x32_S1024x96_d1 : S1024x96.Idx → EReal) (ValueIdx.ix2 n p)
        = an (ValueIdx.ix2 n j) := fun p i j hp => by
    refine (cat3_apply (R := 1024) (α := EReal) (fun _ => an) concatenates_S1024x32_S1024x32_S1024x32_S1024x96_d1 n p i j hp)
  congr 1
  · congr 1
    · refine Finset.sum_congr rfl fun j _ => ?_
      rw [split_apply T r ⟨j.val, by omega⟩ 0 j (by show j.val = 32 * 0 + j.val; omega), hA ⟨j.val, by omega⟩ 0 j (by show j.val = 32 * 0 + j.val; omega)]
      rfl
    · refine Finset.sum_congr rfl fun j _ => ?_
      rw [split_apply T r ⟨32 + j.val, by omega⟩ 1 j (by show 32 + j.val = 32 * 1 + j.val; omega), hA ⟨32 + j.val, by omega⟩ 1 j (by show 32 + j.val = 32 * 1 + j.val; omega)]
      rfl
  · refine Finset.sum_congr rfl fun j _ => ?_
    rw [split_apply T r ⟨64 + j.val, by omega⟩ 2 j (by show 64 + j.val = 32 * 2 + j.val; omega), hA ⟨64 + j.val, by omega⟩ 2 j (by show 64 + j.val = 32 * 2 + j.val; omega)]
    rfl

/-- A chunk's store is its chunk of the block of dx. -/
theorem dxchunk_ld (T : S512x32.Idx → EReal) (x5 : S7168x32.Idx → EReal) (a : S512x7168.Idx → EReal) (o : ℕ)
    (h1 : ∀ k, (![0, o] : Fin 2 → ℕ) k + S512x1024.size k ≤ S512x7168.size k) (h2 : ∀ k, (![o, 0] : Fin 2 → ℕ) k + S1024x32.size k ≤ S7168x32.size k)
    (x : S512x1024.Idx) :
    (k0_pay4 (F := Ideal) T (View.ld (Val := Elt Ideal) (S := S7168x32) (e' := .bf16) x5 (Rect.unit ![o, 0] S1024x32.size h2)) (View.ld (Val := Elt Ideal) (S := S512x7168) (e' := .f32) a (Rect.unit ![0, o] S512x1024.size h1)) : S512x1024.Idx → EReal) x
      = dxNew T x5 a ((Rect.unit (s := S512x7168) ![0, o] S512x1024.size h1).emb x) := by
  obtain ⟨r, n, rfl⟩ : ∃ (r : Fin 512) (n : Fin 1024), x = ValueIdx.ix2 r n := ⟨x 0, x 1, ValueIdx.eq_ix2 x⟩
  rw [dxchunk_apply]
  unfold dxNew
  have e0 : ((Rect.unit (s := S512x7168) ![0, o] S512x1024.size h1).emb (ValueIdx.ix2 r n) 0 : Fin 512) = r := Fin.ext (by show 0 + 1 * r.val = r.val; omega)
  have e1 : ∀ j : Fin 32, (View.ld (Val := Elt Ideal) (S := S7168x32) (e' := .bf16) x5 (Rect.unit ![o, 0] S1024x32.size h2) : S1024x32.Idx → EReal) (ValueIdx.ix2 n j)
      = x5 (ValueIdx.ix2 ((Rect.unit (s := S512x7168) ![0, o] S512x1024.size h1).emb (ValueIdx.ix2 r n) 1) j) := fun j => by
    show x5 _ = x5 _
    congr 1
    funext b
    apply Fin.ext
    match b with
    | ⟨0, _⟩ => rfl
    | ⟨1, _⟩ => show 0 + 1 * j.val = j.val; omega
  rw [e0]
  simp only [e1]
  rfl

/-- The seven stores leave the block of dx. -/
theorem dx_canon (T : S512x32.Idx → EReal) (x5 : S7168x32.Idx → EReal) (a : S512x7168.Idx → EReal) :
    View.canon (dxPieces (F := Ideal) T x5 a) = dxNew T x5 a := by
  funext y
  have h : View.PiecesOf (dxNew T x5 a) (dxPieces (F := Ideal) T x5 a) := by
    unfold dxPieces
    exact ⟨dxchunk_ld T x5 a _ _ _, dxchunk_ld T x5 a _ _ _, dxchunk_ld T x5 a _ _ _, dxchunk_ld T x5 a _ _ _, dxchunk_ld T x5 a _ _ _,
      dxchunk_ld T x5 a _ _ _, dxchunk_ld T x5 a _ _ _, trivial⟩
  exact View.canon_apply_of_pieces (dxNew T x5 a) (dxPieces (F := Ideal) T x5 a) h.mem y (View.cover_of_tiledL (dxPieces (F := Ideal) T x5 a) S512x1024.size (by sl_kernel_rfl) y)

/-- The product of the three parts of xa with the tile. -/
def prod3 (D : S512x512.Idx → EReal) (x6 : S512x32.Idx → EReal) : S96x512.Idx → EReal :=
  matmul (F := Ideal) (φ₁ := .bf16) (φ₂ := .bf16) dot_S512x96_S512x512_S96x512_0_0_1_1_n_n none (k0_pay3 (F := Ideal) x6) D (constant S96x512 .f32 0x00000000#32)

theorem prod3_apply (D : S512x512.Idx → EReal) (x6 : S512x32.Idx → EReal) (q : Fin 512) (p : Fin 96) (i : Fin 3) (j : Fin 32) (hp : p.val = 32 * i.val + j.val) :
    prod3 D x6 (ValueIdx.ix2 p q)
      = ∑ r : Fin 512, (![x6 (ValueIdx.ix2 r j), rest (x6 (ValueIdx.ix2 r j)), rest (rest (x6 (ValueIdx.ix2 r j)))] : Fin 3 → EReal) i * D (ValueIdx.ix2 r q) := by
  show Ideal.matmul dot_S512x96_S512x512_S96x512_0_0_1_1_n_n _ _ _ (ValueIdx.ix2 p q) = _
  rw [dot_d]
  show (Ideal.ofBits .f32 0#32 : EReal) + _ = _
  rw [Ideal.ofBits_zero_f32, zero_add]
  refine Finset.sum_congr rfl fun r _ => ?_
  rw [split_apply x6 r p i j hp]

theorem rows_apply (o : ℕ) (ho : o + 32 ≤ 96) (hs : S96x512.Slices ![o, 0] S32x512) (z : S96x512.Idx → EReal) (j : Fin 32) (q : Fin 512) :
    (extractStridedSlice S32x512 ![o, 0] z hs : S32x512.Idx → EReal) (ValueIdx.ix2 j q) = z (ValueIdx.ix2 ⟨o + j.val, by omega⟩ q) := by
  show z _ = z _
  congr 1
  funext b
  apply Fin.ext
  match b with
  | ⟨0, _⟩ => rfl
  | ⟨1, _⟩ => show 0 + q.val = q.val; omega

theorem d_shape {F : FTy → Type} [FloatOps F] (D : FVec F S512x512 .bf16) (x6 : Vec F S512x32 .f32) :
    k0_pay33 D x6 = mulf (broadcast S32x512 (Scalar.ofBits .f32 0x40000000#32)) (addf (addf
      (extractStridedSlice S32x512 ![0, 0] (matmul dot_S512x96_S512x512_S96x512_0_0_1_1_n_n none (k0_pay3 x6) D (constant S96x512 .f32 0x00000000#32)) slices_S96x512_o0_0_S32x512)
      (extractStridedSlice S32x512 ![32, 0] (matmul dot_S512x96_S512x512_S96x512_0_0_1_1_n_n none (k0_pay3 x6) D (constant S96x512 .f32 0x00000000#32)) slices_S96x512_o32_0_S32x512))
      (extractStridedSlice S32x512 ![64, 0] (matmul dot_S512x96_S512x512_S96x512_0_0_1_1_n_n none (k0_pay3 x6) D (constant S96x512 .f32 0x00000000#32)) slices_S96x512_o64_0_S32x512)) := by
  have e : shapeCast S512x32 x6 shapeCasts_S512x32_S512x32 = x6 := shapeCast_self _ _
  unfold k0_pay33 k0_pay3
  dsimp only
  rw [e]

theorem d_eq (D : S512x512.Idx → EReal) (x6 : S512x32.Idx → EReal) : k0_pay33 (F := Ideal) D x6 = dNew D x6 := by
  rw [d_shape]
  funext y
  obtain ⟨j, q, rfl⟩ : ∃ (j : Fin 32) (q : Fin 512), y = ValueIdx.ix2 j q := ⟨y 0, y 1, ValueIdx.eq_ix2 y⟩
  have h0 := (rows_apply 0 (by omega) slices_S96x512_o0_0_S32x512 (prod3 D x6) j q).trans (prod3_apply D x6 q _ 0 j (by show 0 + j.val = 32 * 0 + j.val; omega))
  have h1 := (rows_apply 32 (by omega) slices_S96x512_o32_0_S32x512 (prod3 D x6) j q).trans (prod3_apply D x6 q _ 1 j (by show 32 + j.val = 32 * 1 + j.val; omega))
  have h2 := (rows_apply 64 (by omega) slices_S96x512_o64_0_S32x512 (prod3 D x6) j q).trans (prod3_apply D x6 q _ 2 j (by show 64 + j.val = 32 * 2 + j.val; omega))
  exact congrArg (two * ·) (congrArg₂ (· + ·) (congrArg₂ (· + ·) h0 h1) h2)

end Cert.MainValue

end
-- ==== Proof.MainSpec.lean ====
/- The three results of the main kernel as plain sums over the extended reals, their partial sums, and the equations between
   the sums taken in halves and the plain ones. -/
module

public import proofs.«01_k».proof.Proof.MainIdealBlock

@[expose] public section

set_option maxRecDepth 16384

noncomputable section

namespace Cert.MainValue

open Idealize.ShloMosaic
open scoped BigOperators

abbrev SDy : Shape := ⟨3, ![3, 4096, 18432]⟩
abbrev SDs : Shape := ⟨3, ![3, 4096, 576]⟩
abbrev SW : Shape := ⟨2, ![7168, 18432]⟩
abbrev SWs : Shape := ⟨1, ![18432]⟩
abbrev SLb : Shape := ⟨2, ![32, 18432]⟩
abbrev SLa : Shape := ⟨2, ![7168, 32]⟩
abbrev SXa : Shape := ⟨2, ![12288, 32]⟩
abbrev SDx : Shape := ⟨2, ![12288, 7168]⟩

/-! ## Arithmetic of the remainders -/

theorem two_eq : two = ((2 : ℝ) : EReal) := by
  unfold two
  simp [Ideal.ofBits, Ideal.ieee, -EReal.coe_mul]; norm_num

theorem two_mul_add (x y : EReal) : two * (x + y) = two * x + two * y :=
  EReal.left_distrib_of_nonneg_of_ne_top (by rw [two_eq]; exact EReal.coe_nonneg.mpr (by norm_num)) (by rw [two_eq]; exact EReal.coe_ne_top _) x y

theorem two_mul_sum {ι : Type*} (s : Finset ι) (f : ι → EReal) : two * ∑ i ∈ s, f i = ∑ i ∈ s, two * f i := by
  classical
  induction s using Finset.induction_on with
  | empty => simp
  | insert a s h ih => rw [Finset.sum_insert h, Finset.sum_insert h, two_mul_add, ih]

theorem rest_coe (r : ℝ) : rest ((r : ℝ) : EReal) = 0 := by
  unfold rest; rw [← EReal.coe_sub, sub_self, EReal.coe_zero]
theorem rest_top : rest (⊤ : EReal) = ⊥ := by unfold rest; simp [sub_eq_add_neg]
theorem rest_bot : rest (⊥ : EReal) = ⊥ := by unfold rest; simp [sub_eq_add_neg]

/-- The remainder of a remainder is the remainder. -/
theorem rest_rest (v : EReal) : rest (rest v) = rest v := by
  induction v using EReal.rec with
  | bot => rw [rest_bot, rest_bot]
  | coe r => rw [rest_coe]; exact rest_coe 0
  | top => rw [rest_top, rest_bot]

theorem rest_mul_double (v a : EReal) : rest v * a + rest v * a = rest v * a := by
  have hb : ∀ a : EReal, (⊥ : EReal) * a + ⊥ * a = ⊥ * a := fun a => by
    rcases lt_trichotomy a 0 with h | h | h
    · rw [EReal.bot_mul_of_neg h]; simp
    · rw [h]; simp
    · rw [EReal.bot_mul_of_pos h]; simp
  induction v using EReal.rec with
  | bot => rw [rest_bot]; exact hb a
  | coe r => rw [rest_coe]; simp
  | top => rw [rest_top]; exact hb a

theorem sum_rest_double {ι : Type*} (s : Finset ι) (f a : ι → EReal) :
    (∑ i ∈ s, rest (f i) * a i) + ∑ i ∈ s, rest (f i) * a i = ∑ i ∈ s, rest (f i) * a i := by
  rw [← Finset.sum_add_distrib]
  exact Finset.sum_congr rfl fun i _ => rest_mul_double _ _

/-! ## The terms, over natural indices -/

/-- The dequantised gradient. -/
def gR (dy : SDy.Idx → EReal) (s : SDs.Idx → EReal) (R n : ℕ) : EReal :=
  if h : R < 12288 ∧ n < 18432 then
    dy (ValueIdx.ix3 ⟨R / 4096, by omega⟩ ⟨R % 4096, by omega⟩ ⟨n, h.2⟩)
      * s (ValueIdx.ix3 ⟨R / 4096, by omega⟩ ⟨R % 4096, by omega⟩ ⟨n / 32, by omega⟩)
  else 0
/-- The scaled weight. -/
def wR (w : SW.Idx → EReal) (ws : SWs.Idx → EReal) (i n : ℕ) : EReal :=
  if h : i < 7168 ∧ n < 18432 then w (ValueIdx.ix2 ⟨i, h.1⟩ ⟨n, h.2⟩) * ws (ValueIdx.ix1 ⟨n, h.2⟩) else 0
/-- The up projection. -/
def bR (b : SLb.Idx → EReal) (r n : ℕ) : EReal :=
  if h : r < 32 ∧ n < 18432 then b (ValueIdx.ix2 ⟨r, h.1⟩ ⟨n, h.2⟩) else 0
/-- The input times the down projection. -/
def xR (xa : SXa.Idx → EReal) (R j : ℕ) : EReal :=
  if h : R < 12288 ∧ j < 32 then xa (ValueIdx.ix2 ⟨R, h.1⟩ ⟨j, h.2⟩) else 0

section
variable (dy : SDy.Idx → EReal) (s : SDs.Idx → EReal) (w : SW.Idx → EReal) (ws : SWs.Idx → EReal) (b : SLb.Idx → EReal)
  (la : SLa.Idx → EReal) (xa : SXa.Idx → EReal)

/-- The gradient times the scaled weight over the first `n` columns. -/
def gP (n R i : ℕ) : EReal := ∑ κ ∈ Finset.range n, gR dy s R κ * wR w ws i κ
/-- The gradient times the up projection over the first `n` columns. -/
def tP (n R r : ℕ) : EReal := ∑ κ ∈ Finset.range n, gR dy s R κ * bR b r κ

/-- The gradient times the up projection. -/
def specT : SXa.Idx → EReal := fun y => tP dy s b 18432 (y 0).val (y 1).val

/-- The gradient of the input, as a plain sum: the product with the weight and twice the low-rank part. -/
def specDx : SDx.Idx → EReal := fun y =>
  gP dy s w ws 18432 (y 0).val (y 1).val
    + two * ((∑ j : Fin 32, tP dy s b 18432 (y 0).val j.val * la (ValueIdx.ix2 (y 1) j))
      + ∑ j : Fin 32, rest (tP dy s b 18432 (y 0).val j.val) * la (ValueIdx.ix2 (y 1) j))

/-- The three products of the halves add up to the product and one remainder. -/
theorem dx_halves (x : EReal) (T : Fin 32 → EReal) (a : Fin 32 → EReal) :
    x + two * ((∑ j, T j * a j) + (∑ j, rest (T j) * a j) + ∑ j, rest (rest (T j)) * a j)
      = x + two * ((∑ j, T j * a j) + ∑ j, rest (T j) * a j) := by
  congr 2
  rw [add_assoc]
  congr 1
  rw [show (∑ j, rest (rest (T j)) * a j) = ∑ j, rest (T j) * a j from Finset.sum_congr rfl fun j _ => by rw [rest_rest]]
  exact sum_rest_double _ _ _

/-- One row block's contribution to the gradient of the up projection. -/
def dPart (mm j n : ℕ) : EReal :=
  two * ((∑ r : Fin 512, xR xa (512 * mm + r.val) j * gR dy s (512 * mm + r.val) n)
    + (∑ r : Fin 512, rest (xR xa (512 * mm + r.val) j) * gR dy s (512 * mm + r.val) n)
    + ∑ r : Fin 512, rest (rest (xR xa (512 * mm + r.val) j)) * gR dy s (512 * mm + r.val) n)

/-- The gradient of the up projection over the first `M` row blocks. -/
def dP (M j n : ℕ) : EReal := ∑ mm ∈ Finset.range M, dPart dy s xa mm j n

/-- The gradient of the up projection, as a plain sum. -/
def specDb : SLb.Idx → EReal := fun y =>
  two * ∑ R ∈ Finset.range 12288, xR xa R (y 0).val * gR dy s R (y 1).val

/-- With a finite left operand there are no remainders. -/
theorem dPart_finite (hx : ∀ y, rest (xa y) = 0) (mm j n : ℕ) :
    dPart dy s xa mm j n = two * ∑ q ∈ Finset.range 512, xR xa (512 * mm + q) j * gR dy s (512 * mm + q) n := by
  have h : ∀ R, rest (xR xa R j) = 0 := fun R => by
    unfold xR; split
    · exact hx _
    · exact rest_coe 0
  have h0 : rest (0 : EReal) = 0 := rest_coe 0
  unfold dPart
  congr 1
  simp only [h, h0, zero_mul, Finset.sum_const_zero, add_zero]
  rw [Finset.sum_range]

theorem dP_all (hx : ∀ y, rest (xa y) = 0) (y : SLb.Idx) : dP dy s xa 24 (y 0).val (y 1).val = specDb dy s xa y := by
  unfold dP specDb
  simp only [dPart_finite dy s xa hx]
  rw [← two_mul_sum, Cert.Common.sum_blocks (fun R => xR xa R (y 0).val * gR dy s R (y 1).val) 512 24]

end

end Cert.MainValue

end
-- ==== Proof.MainIdealStep.lean ====
/- One grid point of the kernel of the products with dy, over the extended reals: what its buffers hold afterwards, in terms of what they held. -/
module

public import proofs.«01_k».proof.Proof.MainIdealBlock
public import Idealize.ShloMosaic.PureOps.Ideal
public import Idealize.ShloMosaic.Lib.Pipeline.CanonAppend
public import Idealize.ShloMosaic.Lib.Pipeline.ReadBack
public import Idealize.ShloMosaic.Lib.WritesUnit
public import proofs.«01_k».proof.Proof.Gen.MainIdeal.Skeleton
public import proofs.«01_k».proof.Proof.Gen.MainIdeal.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable {c : Dev nD} {i : grid0.Coords} {arg2 : Memref sig .tc .vmem S512x512 .fp8e5m2} {harg2 : arg2.IsWhole} {arg3 : Memref sig .tc .vmem S512x128 .f32} {harg3 : arg3.IsWhole} {arg4 : Memref sig .tc .vmem S7168x512 .fp8e4m3} {harg4 : arg4.IsWhole} {arg5 : Memref sig .tc .vmem S1x512 .f32} {harg5 : arg5.IsWhole} {arg6 : Memref sig .tc .vmem S32x512 .bf16} {harg6 : arg6.IsWhole} {arg7 : Memref sig .tc .vmem S7168x32 .bf16} {harg7 : arg7.IsWhole} {arg8 : Memref sig .tc .vmem S512x32 .f32} {harg8 : arg8.IsWhole} {arg9 : Memref sig .tc .vmem S512x7168 .bf16} {harg9 : arg9.IsWhole} {arg10 : Memref sig .tc .vmem S32x18432 .f32} {harg10 : arg10.IsWhole} {arg11 : Memref sig .tc .vmem S512x32 .f32} {harg11 : arg11.IsWhole} {arg12 : Memref sig .tc .vmem S512x7168 .f32} {harg12 : arg12.IsWhole}
  {x0 : Vec F S512x512 .fp8e5m2} {x1 : Vec F S512x128 .f32} {x2 : Vec F S7168x512 .fp8e4m3} {x3 : Vec F S1x512 .f32} {x4 : Vec F S32x512 .bf16} {x5 : Vec F S7168x32 .bf16} {x6 : Vec F S512x32 .f32} {x7 : Vec F S512x7168 .bf16} {x8 : Vec F S32x18432 .f32} {x9 : Vec F S512x32 .f32} {xs : Vec F S512x7168 .f32}

/-- What the run leaves in the block of dx, in dB, in t and in the accumulator. -/
def Run.y7 (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S512x7168 .bf16 := arg9.view.read (Elt F) (arg9.view.writes (Elt F) (harg9.unread x7) R.L7)
def Run.y8 (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S32x18432 .f32 := arg10.view.read (Elt F) (arg10.view.writes (Elt F) (harg10.unread x8) R.L8)
def Run.y9 (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S512x32 .f32 := arg11.view.read (Elt F) (arg11.view.writes (Elt F) (harg11.unread x9) R.L9)
def Run.ys (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) : Vec F S512x7168 .f32 := arg12.view.read (Elt F) (arg12.view.writes (Elt F) (harg12.unread xs) R.LS)

/-- The run, with what its buffers hold at the end read back. -/
theorem Run.body (R : Run c i arg2 harg2 arg3 harg3 arg4 harg4 arg5 harg5 arg6 harg6 arg7 harg7 arg8 harg8 arg9 harg9 arg10 harg10 arg11 harg11 arg12 harg12 x0 x1 x2 x3 x4 x5 x6 x7 x8 x9 xs) (E : Set ℕ) (K : PUnit.{1} → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare R.y7 ∗ owns (c : Thread nD τ) arg10 fullShare R.y8 ∗ owns (c : Thread nD τ) arg11 fullShare R.y9 ∗ owns (c : Thread nD τ) arg12 fullShare R.ys) -∗ K ⟨⟩))
      ⊢ wp frame (wpE (defs₀ (F := F)) Variants.none c none) E (cc0_main i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, H10, Hk⟩
  iapply (R.run E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rfl
  isplitl [H8]
  · unfold owns; iexists _; isplitr
    swap; · iexact H8
    ipureintro; rfl
  isplitl [H9]
  · unfold owns; iexists _; isplitr
    swap; · iexact H9
    ipureintro; rfl
  unfold owns; iexists _; isplitr
  swap; · iexact H10
  ipureintro; rfl

end

end Cert.MainIdeal.Gen

namespace Cert.MainValue

open Cert.MainIdeal Cert.MainIdeal.Gen
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## Reading the stores back -/

theorem read_acc (v : View sig .tc .vmem S512x7168 .f32) (f : v.ty.Contents (Elt Ideal)) (D : S512x512.Idx → EReal) (x2 : S7168x512.Idx → EReal) (x3 : S1x512.Idx → EReal) (a : S512x7168.Idx → EReal)
    (L : List (View.Piece (Elt Ideal) S512x7168 .f32)) : v.read (Elt Ideal) (v.writes (Elt Ideal) f (accPieces (F := Ideal) D x2 x3 a ++ L)) = accNew D x2 x3 a := by
  rw [View.read_writes_eq_canon _ _ _ (fun y => by
    obtain ⟨p, hp, hy⟩ := View.cover_of_tiledL (accPieces (F := Ideal) D x2 x3 a) S512x1024.size (by sl_kernel_rfl) y
    exact ⟨p, List.mem_append_left _ hp, hy⟩)]
  exact acc_canon D x2 x3 a L

theorem read_dx (v : View sig .tc .vmem S512x7168 .bf16) (f : v.ty.Contents (Elt Ideal)) (T : S512x32.Idx → EReal) (x5 : S7168x32.Idx → EReal) (a : S512x7168.Idx → EReal) :
    v.read (Elt Ideal) (v.writes (Elt Ideal) f (dxPieces (F := Ideal) T x5 a)) = dxNew T x5 a := by
  rw [View.read_writes_eq_canon _ _ _ (fun y => View.cover_of_tiledL (dxPieces (F := Ideal) T x5 a) S512x1024.size (by sl_kernel_rfl) y)]
  exact dx_canon T x5 a

theorem read_t (v : View sig .tc .vmem S512x32 .f32) (f : v.ty.Contents (Elt Ideal)) (w : S512x32.Idx → EReal) (L : List (View.Piece (Elt Ideal) S512x32 .f32)) :
    v.read (Elt Ideal) (v.writes (Elt Ideal) f (⟨Rect.unit ![0, 0] S512x32.size inb_S512x32_S512x32_0_0, w⟩ :: L)) = w := by
  rw [View.read_writes_eq_canon _ _ _ (fun y => by
    obtain ⟨p, hp, hy⟩ := View.cover_of_tiledL [(⟨Rect.unit ![0, 0] S512x32.size inb_S512x32_S512x32_0_0, w⟩ : View.Piece (Elt Ideal) S512x32 .f32)] S512x32.size (by sl_kernel_rfl) y
    exact ⟨p, List.mem_cons.mpr (.inl (List.mem_singleton.mp hp)), hy⟩)]
  exact View.canon_cons_unit_zero (S := S512x32) hz2 _ w L

/-- A store of one column block: inside it the stored value, elsewhere what the array held. -/
theorem read_col (a : Memref sig .tc .vmem S32x18432 .f32) (ha : a.IsWhole) (x8 : S32x18432.Idx → EReal) (i : grid0.Coords) (w : S32x512.Idx → EReal) (j : Fin 32) (n : Fin 18432) :
    a.view.read (Elt Ideal) (a.view.writes (Elt Ideal) (ha.unread x8) [⟨colRect i, w⟩]) (ValueIdx.ix2 j n)
      = if h : 512 * (i 1).val ≤ n.val ∧ n.val < 512 * (i 1).val + 512 then w (ValueIdx.ix2 j ⟨n.val - 512 * (i 1).val, by omega⟩) else x8 (ValueIdx.ix2 j n) := by
  have hj := j.isLt
  refine (View.read_writes_cons_unit (Val := Elt Ideal) a.view (ha.unread x8) (colOff_inb i) w [] (ValueIdx.ix2 j n) (colOff_eq i)).trans ?_
  by_cases h : 512 * (i 1).val ≤ n.val ∧ n.val < 512 * (i 1).val + 512
  · rw [dif_pos h, dif_pos (fun b => by
      match b with
      | ⟨0, _⟩ => exact ⟨Nat.zero_le _, by show j.val < 0 + 32; omega⟩
      | ⟨1, _⟩ => exact h)]
    congr 1
    funext b
    apply Fin.ext
    match b with
    | ⟨0, _⟩ => rfl
    | ⟨1, _⟩ => rfl
  · rw [dif_neg h, dif_neg (fun hh => h (hh 1))]
    exact congrFun (ha.read_unread (Val := Elt Ideal) x8) _

theorem zero_acc : (k0_pay11 (F := Ideal) : S512x7168.Idx → EReal) = fun _ => 0 := by
  funext y
  unfold k0_pay11
  simp only [shapeCast_self]
  exact Ideal.ofBits_zero_f32

theorem zero_t : (k0_pay12 (F := Ideal) : S512x32.Idx → EReal) = fun _ => 0 := by
  funext y
  exact Ideal.ofBits_zero_f32

/-- The stored column block of a later row block: what the array held there plus the part of this row block. -/
theorem add_apply (d v : S32x512.Idx → EReal) (y : S32x512.Idx) : (k0_pay1 (F := Ideal) d v : S32x512.Idx → EReal) y = v y + d y := by
  unfold k0_pay1
  simp only [shapeCast_self]
  rfl

theorem ld_col (x8 : S32x18432.Idx → EReal) (i : grid0.Coords) (j : Fin 32) (n : Fin 18432) (h : 512 * (i 1).val ≤ n.val ∧ n.val < 512 * (i 1).val + 512) :
    (View.ld (Val := Elt Ideal) (S := S32x18432) (e' := .f32) x8 (colRect i) : S32x512.Idx → EReal) (ValueIdx.ix2 j ⟨n.val - 512 * (i 1).val, by omega⟩) = x8 (ValueIdx.ix2 j n) := by
  show x8 _ = x8 _
  congr 1
  funext b
  apply Fin.ext
  match b with
  | ⟨0, _⟩ =>
    show colOff i 0 + 1 * j.val = j.val
    rw [colOff_eq]
    show 0 + 1 * j.val = j.val
    omega
  | ⟨1, _⟩ =>
    show colOff i 1 + 1 * (n.val - 512 * (i 1).val) = n.val
    rw [colOff_eq]
    show 512 * (i 1).val + 1 * (n.val - 512 * (i 1).val) = n.val
    omega

/-! ## One grid point -/

/-- What the buffers hold after grid point `t`, in terms of what they held: the accumulator and t start over at the first column block of a row block;
    the block of dx is stored at the last one; of dB one column block is written, by the first row block, or added to, by a later one. -/
structure Post (t : Fin cfg0.N) (x0 : Vec Ideal S512x512 .fp8e5m2) (x1 : Vec Ideal S512x128 .f32) (x2 : Vec Ideal S7168x512 .fp8e4m3) (x3 : Vec Ideal S1x512 .f32) (x4 : Vec Ideal S32x512 .bf16) (x5 : Vec Ideal S7168x32 .bf16) (x6 : Vec Ideal S512x32 .f32) (x7 : Vec Ideal S512x7168 .bf16) (x8 : Vec Ideal S32x18432 .f32) (x9 : Vec Ideal S512x32 .f32) (xs : Vec Ideal S512x7168 .f32)
    (y7 : S512x7168.Idx → EReal) (y8 : S32x18432.Idx → EReal) (y9 : S512x32.Idx → EReal) (ys : S512x7168.Idx → EReal) : Prop where
  acc : ys = accNew (dq (F := Ideal) (grid0.coords t) x0 x1) x2 x3 (if t.val % 36 = 0 then fun _ => 0 else xs)
  tt : y9 = tNew (dq (F := Ideal) (grid0.coords t) x0 x1) x4 (if t.val % 36 = 0 then fun _ => 0 else x9)
  dx : t.val % 36 = 35 → y7 = dxNew y9 x5 ys
  db : ∀ (j : Fin 32) (n : Fin 18432), y8 (ValueIdx.ix2 j n) =
    if h : 512 * (t.val % 36) ≤ n.val ∧ n.val < 512 * (t.val % 36) + 512 then
      (if t.val < 36 then 0 else x8 (ValueIdx.ix2 j n)) + dNew (dq (F := Ideal) (grid0.coords t) x0 x1) x6 (ValueIdx.ix2 j ⟨n.val - 512 * (t.val % 36), by omega⟩)
    else x8 (ValueIdx.ix2 j n)

theorem coords1 (t : Fin cfg0.N) : (grid0.coords t 1).val = t.val % 36 := by
  have e1 : (grid0.coords t 1).val = t.val / 1 % 36 := Pipeline.Grid.coords_val t 1 (by decide) rfl
  rw [e1, Nat.div_one]

theorem coords0 (t : Fin cfg0.N) : (grid0.coords t 0).val = t.val / 36 := by
  have e0 : (grid0.coords t 0).val = t.val / 36 % 24 := Pipeline.Grid.coords_val t 0 (by decide) rfl
  have hN : t.val < 864 := Nat.lt_of_lt_of_eq t.isLt N_0
  omega

/-- The facts of a run from its stores. -/
theorem post_of (c : Dev nD) (t : Fin cfg0.N) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole)
    (x0 : Vec Ideal S512x512 .fp8e5m2) (x1 : Vec Ideal S512x128 .f32) (x2 : Vec Ideal S7168x512 .fp8e4m3) (x3 : Vec Ideal S1x512 .f32) (x4 : Vec Ideal S32x512 .bf16) (x5 : Vec Ideal S7168x32 .bf16) (x6 : Vec Ideal S512x32 .f32) (x7 : Vec Ideal S512x7168 .bf16) (x8 : Vec Ideal S32x18432 .f32) (x9 : Vec Ideal S512x32 .f32) (xs : Vec Ideal S512x7168 .f32) (R : Run (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs)
    (L : List (View.Piece (Elt Ideal) S512x7168 .f32)) (L' : List (View.Piece (Elt Ideal) S512x32 .f32)) (a0 : S512x7168.Idx → EReal) (t0 : S512x32.Idx → EReal) (w : S32x512.Idx → EReal)
    (hS : R.LS = accPieces (F := Ideal) (dq (grid0.coords t) x0 x1) x2 x3 a0 ++ L) (ha : a0 = if t.val % 36 = 0 then fun _ => 0 else xs)
    (h9 : R.L9 = ⟨Rect.unit ![0, 0] S512x32.size inb_S512x32_S512x32_0_0, k0_pay32 (F := Ideal) (dq (grid0.coords t) x0 x1) t0 x4⟩ :: L') (ht : t0 = if t.val % 36 = 0 then fun _ => 0 else x9)
    (h7 : t.val % 36 = 35 → R.L7 = dxPieces (F := Ideal) (k0_pay32 (F := Ideal) (dq (grid0.coords t) x0 x1) t0 x4) x5 (View.canon R.LS))
    (h8 : R.L8 = [⟨colRect (grid0.coords t), w⟩])
    (hw : ∀ (j : Fin 32) (n : Fin 18432) (h : 512 * (grid0.coords t 1).val ≤ n.val ∧ n.val < 512 * (grid0.coords t 1).val + 512),
      w (ValueIdx.ix2 j ⟨n.val - 512 * (grid0.coords t 1).val, by omega⟩) = (if t.val < 36 then 0 else x8 (ValueIdx.ix2 j n)) + k0_pay33 (F := Ideal) (dq (grid0.coords t) x0 x1) x6 (ValueIdx.ix2 j ⟨n.val - 512 * (grid0.coords t 1).val, by omega⟩)) :
    Post t x0 x1 x2 x3 x4 x5 x6 x7 x8 x9 xs R.y7 R.y8 R.y9 R.ys where
  acc := by unfold Run.ys; rw [hS, read_acc, ha]
  tt := by unfold Run.y9; rw [h9, read_t, t_eq, ht]
  dx h := by
    unfold Run.y7 Run.y9 Run.ys
    rw [h7 h, h9, hS, read_t, read_acc, read_dx, acc_canon]
  db j n := by
    unfold Run.y8
    rw [h8, read_col]
    by_cases h : 512 * (grid0.coords t 1).val ≤ n.val ∧ n.val < 512 * (grid0.coords t 1).val + 512
    · rw [dif_pos h, hw j n h, d_eq, dif_pos (by rw [coords1] at h; exact h)]
      simp only [coords1]
    · rw [dif_neg h, dif_neg (by rw [coords1] at h; exact h)]

/-- Every grid point has a run, with these facts. -/
theorem step (c : Dev nD) (t : Fin cfg0.N) (arg2 : Memref sig .tc .vmem S512x512 .fp8e5m2) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S32x512 .bf16) (harg6 : arg6.IsWhole) (arg7 : Memref sig .tc .vmem S7168x32 .bf16) (harg7 : arg7.IsWhole) (arg8 : Memref sig .tc .vmem S512x32 .f32) (harg8 : arg8.IsWhole) (arg9 : Memref sig .tc .vmem S512x7168 .bf16) (harg9 : arg9.IsWhole) (arg10 : Memref sig .tc .vmem S32x18432 .f32) (harg10 : arg10.IsWhole) (arg11 : Memref sig .tc .vmem S512x32 .f32) (harg11 : arg11.IsWhole) (arg12 : Memref sig .tc .vmem S512x7168 .f32) (harg12 : arg12.IsWhole)
    (x0 : Vec Ideal S512x512 .fp8e5m2) (x1 : Vec Ideal S512x128 .f32) (x2 : Vec Ideal S7168x512 .fp8e4m3) (x3 : Vec Ideal S1x512 .f32) (x4 : Vec Ideal S32x512 .bf16) (x5 : Vec Ideal S7168x32 .bf16) (x6 : Vec Ideal S512x32 .f32) (x7 : Vec Ideal S512x7168 .bf16) (x8 : Vec Ideal S32x18432 .f32) (x9 : Vec Ideal S512x32 .f32) (xs : Vec Ideal S512x7168 .f32) : ∃ R : Run (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs, Post t x0 x1 x2 x3 x4 x5 x6 x7 x8 x9 xs R.y7 R.y8 R.y9 R.ys := by
  have hN : t.val < 864 := Nat.lt_of_lt_of_eq t.isLt N_0
  by_cases h1 : t.val < 36
  · have h2 : ¬36 ≤ t.val := by omega
    by_cases h0 : t.val % 36 = 0
    · have h3 : ¬t.val % 36 = 35 := by omega
      have l := listsA (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs ((hcond0_0 t).mpr h0) ((hcond0_1 t).mpr h1) (fun h => h2 ((hcond0_2 t).mp h)) (fun h => h3 ((hcond0_3 t).mp h))
      exact ⟨runA c (grid0.coords t) arg2 harg2 arg3 harg3 arg4 harg4 arg5 harg5 arg6 harg6 arg7 harg7 arg8 harg8 arg9 harg9 arg10 harg10 arg11 harg11 arg12 harg12 ((hcond0_0 t).mpr h0) ((hcond0_1 t).mpr h1) (fun h => h2 ((hcond0_2 t).mp h)) (fun h => h3 ((hcond0_3 t).mp h)) x0 x1 x2 x3 x4 x5 x6 x7 x8 x9 xs, post_of c t arg2 harg2 arg3 harg3 arg4 harg4 arg5 harg5 arg6 harg6 arg7 harg7 arg8 harg8 arg9 harg9 arg10 harg10 arg11 harg11 arg12 harg12 x0 x1 x2 x3 x4 x5 x6 x7 x8 x9 xs _ [⟨Rect.unit ![0, 0] S512x7168.size inb_S512x7168_S512x7168_0_0, k0_pay11 (F := Ideal)⟩] [⟨Rect.unit ![0, 0] S512x32.size inb_S512x32_S512x32_0_0, k0_pay12 (F := Ideal)⟩] (k0_pay11 (F := Ideal)) (k0_pay12 (F := Ideal)) (k0_pay33 (F := Ideal) (dq (grid0.coords t) x0 x1) x6)
        l.2.2.2 (by rw [if_pos h0]; exact zero_acc) l.2.2.1 (by rw [if_pos h0]; exact zero_t) (fun h => absurd h h3) l.2.1 (fun j n h => by rw [if_pos h1, zero_add])⟩
    · by_cases h3 : t.val % 36 = 35
      · have l := listsC (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs (fun h => h0 ((hcond0_0 t).mp h)) ((hcond0_1 t).mpr h1) (fun h => h2 ((hcond0_2 t).mp h)) ((hcond0_3 t).mpr h3)
        exact ⟨runC c (grid0.coords t) arg2 harg2 arg3 harg3 arg4 harg4 arg5 harg5 arg6 harg6 arg7 harg7 arg8 harg8 arg9 harg9 arg10 harg10 arg11 harg11 arg12 harg12 (fun h => h0 ((hcond0_0 t).mp h)) ((hcond0_1 t).mpr h1) (fun h => h2 ((hcond0_2 t).mp h)) ((hcond0_3 t).mpr h3) x0 x1 x2 x3 x4 x5 x6 x7 x8 x9 xs, post_of c t arg2 harg2 arg3 harg3 arg4 harg4 arg5 harg5 arg6 harg6 arg7 harg7 arg8 harg8 arg9 harg9 arg10 harg10 arg11 harg11 arg12 harg12 x0 x1 x2 x3 x4 x5 x6 x7 x8 x9 xs _ [] [] (xs) (x9) (k0_pay33 (F := Ideal) (dq (grid0.coords t) x0 x1) x6)
          (l.2.2.2.trans (List.append_nil _).symm) (if_neg h0).symm l.2.2.1 (if_neg h0).symm (fun _ => by rw [l.1, l.2.2.2]) l.2.1 (fun j n h => by rw [if_pos h1, zero_add])⟩
      · have l := listsB (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs (fun h => h0 ((hcond0_0 t).mp h)) ((hcond0_1 t).mpr h1) (fun h => h2 ((hcond0_2 t).mp h)) (fun h => h3 ((hcond0_3 t).mp h))
        exact ⟨runB c (grid0.coords t) arg2 harg2 arg3 harg3 arg4 harg4 arg5 harg5 arg6 harg6 arg7 harg7 arg8 harg8 arg9 harg9 arg10 harg10 arg11 harg11 arg12 harg12 (fun h => h0 ((hcond0_0 t).mp h)) ((hcond0_1 t).mpr h1) (fun h => h2 ((hcond0_2 t).mp h)) (fun h => h3 ((hcond0_3 t).mp h)) x0 x1 x2 x3 x4 x5 x6 x7 x8 x9 xs, post_of c t arg2 harg2 arg3 harg3 arg4 harg4 arg5 harg5 arg6 harg6 arg7 harg7 arg8 harg8 arg9 harg9 arg10 harg10 arg11 harg11 arg12 harg12 x0 x1 x2 x3 x4 x5 x6 x7 x8 x9 xs _ [] [] (xs) (x9) (k0_pay33 (F := Ideal) (dq (grid0.coords t) x0 x1) x6)
          (l.2.2.2.trans (List.append_nil _).symm) (if_neg h0).symm l.2.2.1 (if_neg h0).symm (fun h => absurd h h3) l.2.1 (fun j n h => by rw [if_pos h1, zero_add])⟩
  · have h2 : 36 ≤ t.val := by omega
    by_cases h0 : t.val % 36 = 0
    · have h3 : ¬t.val % 36 = 35 := by omega
      have l := listsD (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs ((hcond0_0 t).mpr h0) (fun h => h1 ((hcond0_1 t).mp h)) ((hcond0_2 t).mpr h2) (fun h => h3 ((hcond0_3 t).mp h))
      exact ⟨runD c (grid0.coords t) arg2 harg2 arg3 harg3 arg4 harg4 arg5 harg5 arg6 harg6 arg7 harg7 arg8 harg8 arg9 harg9 arg10 harg10 arg11 harg11 arg12 harg12 ((hcond0_0 t).mpr h0) (fun h => h1 ((hcond0_1 t).mp h)) ((hcond0_2 t).mpr h2) (fun h => h3 ((hcond0_3 t).mp h)) x0 x1 x2 x3 x4 x5 x6 x7 x8 x9 xs, post_of c t arg2 harg2 arg3 harg3 arg4 harg4 arg5 harg5 arg6 harg6 arg7 harg7 arg8 harg8 arg9 harg9 arg10 harg10 arg11 harg11 arg12 harg12 x0 x1 x2 x3 x4 x5 x6 x7 x8 x9 xs _ [⟨Rect.unit ![0, 0] S512x7168.size inb_S512x7168_S512x7168_0_0, k0_pay11 (F := Ideal)⟩] [⟨Rect.unit ![0, 0] S512x32.size inb_S512x32_S512x32_0_0, k0_pay12 (F := Ideal)⟩] (k0_pay11 (F := Ideal)) (k0_pay12 (F := Ideal)) (k0_pay1 (F := Ideal) (k0_pay33 (F := Ideal) (dq (grid0.coords t) x0 x1) x6) (View.ld (Val := Elt Ideal) (S := S32x18432) (e' := .f32) x8 (colRect (grid0.coords t))))
        l.2.2.2 (by rw [if_pos h0]; exact zero_acc) l.2.2.1 (by rw [if_pos h0]; exact zero_t) (fun h => absurd h h3) l.2.1 (fun j n h => by rw [if_neg h1, add_apply, ld_col x8 _ j n h])⟩
    · by_cases h3 : t.val % 36 = 35
      · have l := listsF (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs (fun h => h0 ((hcond0_0 t).mp h)) (fun h => h1 ((hcond0_1 t).mp h)) ((hcond0_2 t).mpr h2) ((hcond0_3 t).mpr h3)
        exact ⟨runF c (grid0.coords t) arg2 harg2 arg3 harg3 arg4 harg4 arg5 harg5 arg6 harg6 arg7 harg7 arg8 harg8 arg9 harg9 arg10 harg10 arg11 harg11 arg12 harg12 (fun h => h0 ((hcond0_0 t).mp h)) (fun h => h1 ((hcond0_1 t).mp h)) ((hcond0_2 t).mpr h2) ((hcond0_3 t).mpr h3) x0 x1 x2 x3 x4 x5 x6 x7 x8 x9 xs, post_of c t arg2 harg2 arg3 harg3 arg4 harg4 arg5 harg5 arg6 harg6 arg7 harg7 arg8 harg8 arg9 harg9 arg10 harg10 arg11 harg11 arg12 harg12 x0 x1 x2 x3 x4 x5 x6 x7 x8 x9 xs _ [] [] (xs) (x9) (k0_pay1 (F := Ideal) (k0_pay33 (F := Ideal) (dq (grid0.coords t) x0 x1) x6) (View.ld (Val := Elt Ideal) (S := S32x18432) (e' := .f32) x8 (colRect (grid0.coords t))))
          (l.2.2.2.trans (List.append_nil _).symm) (if_neg h0).symm l.2.2.1 (if_neg h0).symm (fun _ => by rw [l.1, l.2.2.2]) l.2.1 (fun j n h => by rw [if_neg h1, add_apply, ld_col x8 _ j n h])⟩
      · have l := listsE (F := Ideal) c (grid0.coords t) arg2 harg2 arg3 harg3 arg4 harg4 arg5 harg5 arg6 harg6 arg7 harg7 arg8 harg8 arg9 harg9 arg10 harg10 arg11 harg11 arg12 harg12 x0 x1 x2 x3 x4 x5 x6 x7 x8 x9 xs (fun h => h0 ((hcond0_0 t).mp h)) (fun h => h1 ((hcond0_1 t).mp h)) ((hcond0_2 t).mpr h2) (fun h => h3 ((hcond0_3 t).mp h))
        exact ⟨runE c (grid0.coords t) arg2 harg2 arg3 harg3 arg4 harg4 arg5 harg5 arg6 harg6 arg7 harg7 arg8 harg8 arg9 harg9 arg10 harg10 arg11 harg11 arg12 harg12 (fun h => h0 ((hcond0_0 t).mp h)) (fun h => h1 ((hcond0_1 t).mp h)) ((hcond0_2 t).mpr h2) (fun h => h3 ((hcond0_3 t).mp h)) x0 x1 x2 x3 x4 x5 x6 x7 x8 x9 xs, post_of c t arg2 harg2 arg3 harg3 arg4 harg4 arg5 harg5 arg6 harg6 arg7 harg7 arg8 harg8 arg9 harg9 arg10 harg10 arg11 harg11 arg12 harg12 x0 x1 x2 x3 x4 x5 x6 x7 x8 x9 xs _ [] [] (xs) (x9) (k0_pay1 (F := Ideal) (k0_pay33 (F := Ideal) (dq (grid0.coords t) x0 x1) x6) (View.ld (Val := Elt Ideal) (S := S32x18432) (e' := .f32) x8 (colRect (grid0.coords t))))
          (l.2.2.2.trans (List.append_nil _).symm) (if_neg h0).symm l.2.2.1 (if_neg h0).symm (fun h => absurd h h3) l.2.1 (fun j n h => by rw [if_neg h1, add_apply, ld_col x8 _ j n h])⟩

end Cert.MainValue

end
-- ==== Proof.MainIdealPoint.lean ====
/- The blocks of the arrays at a grid point of the main kernel, read at an index, and what a grid point adds to the
   accumulator, to t and to dB, as partial sums of the plain terms. -/
module

public import proofs.«01_k».proof.Proof.MainSpec
public import proofs.«01_k».proof.Proof.MainIdealStep

@[expose] public section

set_option maxRecDepth 16384

noncomputable section

namespace Cert.MainIdeal.Gen

open Idealize.ShloMosaic Idealize.ShloMosaic.TcCoe

variable {F : FTy → Type} [FloatOps F]

theorem fw_toNat (i : grid0.Coords) : (fw i).toNat = 16 * ((i 1).val % 8) := by
  have h : ∀ k : Fin 36,
      (let v4 : BitVec 32 := Scalar.muli (BitVec.ofNat 32 k.val) 16#32
       let v6 : BitVec 32 := Scalar.select (Scalar.cmpi .eq 128#32 0#32) 1#32 128#32
       let v7 : BitVec 32 := Scalar.remsi v4 v6
       Scalar.select (Scalar.andi (Scalar.xori (Scalar.cmpi .slt v7 0#32) (Scalar.cmpi .slt v6 0#32)) (Scalar.cmpi .ne v7 0#32)) (Scalar.addi v7 v6) v7).toNat
        = 16 * (k.val % 8) := by decide +kernel
  exact h (i 1)

theorem dq_eq (i : grid0.Coords) (x0 : Vec F S512x512 .fp8e5m2) (x1 : Vec F S512x128 .f32) :
    dq i x0 x1 = Cert.Common.tile (F := F) (φ := .fp8e5m2) x0 x1 (fw i) slices_S512x512_o0_0_S512x128 slices_S512x512_o0_128_S512x128
      slices_S512x512_o0_256_S512x128 slices_S512x512_o0_384_S512x128 bitsLt_fp8e5m2_bf16 bitsLt_bf16_f32 iota_S512x128_d1_w32
      shapeCasts_S512x128_S512x128x1 shapeCasts_S512x128x1_S512x128 concatenates_S512x128_S512x128_S512x128_S512x128_S512x512_d1 := by
  have e0 : k0_pay13 (F := F) x0 = x0 := shapeCast_self _ _
  have e1 : k0_pay14 (F := F) x1 = x1 := shapeCast_self _ _
  unfold dq k0_pay15 k0_pay16
  rw [e0, e1]
  rfl

/-- The tile of dy at an index: the code times its block's scale. -/
theorem dq_apply (i : grid0.Coords) (x0 : Vec F S512x512 .fp8e5m2) (x1 : Vec F S512x128 .f32) (r q : Fin 512) (p : Fin 128)
    (hp : p.val = 16 * ((i 1).val % 8) + q.val / 32) :
    dq i x0 x1 (ValueIdx.ix2 r q) = FloatOps.mulf (FloatOps.extf .bf16 bitsLt_fp8e5m2_bf16 (x0 (ValueIdx.ix2 r q)))
      (FloatOps.truncf .bf16 bitsLt_bf16_f32 (x1 (ValueIdx.ix2 r p))) := by
  rw [dq_eq]
  exact Cert.Common.tile_apply (F := F) (φ := .fp8e5m2) x0 x1 _ _ _ _ _ _ _ _ _ _ _ r q (by rw [fw_toNat]; omega) p (by rw [fw_toNat]; exact hp)

theorem clip0_1_eq (s t : Fin cfg0.N) (h : (cfg0.win 1).index s = (cfg0.win 1).index t) :
    (cfg0.win 1).clip (cfg0.grid.coords s) = (cfg0.win 1).clip (cfg0.grid.coords t) := by
  have h' : cc0_transform_1 (grid0.coords s) = cc0_transform_1 (grid0.coords t) := h
  funext a
  show Pipeline.Clip.of (cc0_transform_1 (grid0.coords s) a) _ _ = Pipeline.Clip.of (cc0_transform_1 (grid0.coords t) a) _ _
  rw [h']

/-- The scales' block index: the row block and one block of 128 scales for every eight tiles. -/
theorem index1_1 (i : grid0.Coords) : cc0_transform_1 i 1 = (i 1).val / 8 := by
  have h : ∀ k : Fin 36, cc0_transform_1 (fun a => match a with | ⟨0, _⟩ => (⟨0, by decide⟩ : Fin 24) | ⟨1, _⟩ => k) 1 = k.val / 8 := by decide +kernel
  exact h (i 1)

theorem index1_0 (i : grid0.Coords) : cc0_transform_1 i 0 = (i 0).val := by
  have h : ∀ k : Fin 24, cc0_transform_1 (fun a => match a with | ⟨0, _⟩ => k | ⟨1, _⟩ => (⟨0, by decide⟩ : Fin 36)) 0 = k.val := by decide +kernel
  exact h (i 0)

/-- The columns of the block of scales the tile reads lie inside the array. -/
theorem moved1 (i : grid0.Coords) (r : Fin 512) (p : Fin 128) (hp : p.val < 16 * ((i 1).val % 8) + 16) :
    win0_1.moved i (ValueIdx.ix2 r p) = true := by
  have hk : (i 1).val < 36 := (i 1).isLt
  have hi0 : (i 0).val < 24 := (i 0).isLt
  rw [Pipeline.Window.moved_iff]
  intro a
  match a with
  | ⟨0, _⟩ =>
    show r.val < (Pipeline.Clip.of (cc0_transform_1 i 0) 512 12288).extent 512
    rw [index1_0]; unfold Pipeline.Clip.of
    have := r.isLt
    split <;> simp only [Pipeline.Clip.extent] <;> omega
  | ⟨1, _⟩ =>
    show p.val < (Pipeline.Clip.of (cc0_transform_1 i 1) 128 576).extent 128
    rw [index1_1]; unfold Pipeline.Clip.of
    have := p.isLt
    split <;> simp only [Pipeline.Clip.extent] <;> omega

end Cert.MainIdeal.Gen

namespace Cert.MainValue

open Idealize.ShloMosaic Idealize.ShloMosaic.TcCoe Idealize.SL.Sem Idealize.ShloMosaic.StableHlo
open Cert.MainIdeal Cert.MainIdeal.Gen
open scoped BigOperators

variable (m : (ℓ : Loc nD τ sig) → Buf (Elt Ideal) ℓ)

abbrev aDy (c : Dev nD) : SDy.Idx → EReal := m ((c.tc : Thread nD τ).loc main_arg0)
abbrev aDs (c : Dev nD) : SDs.Idx → EReal := m ((c.tc : Thread nD τ).loc main_arg1)
abbrev aW (c : Dev nD) : SW.Idx → EReal := m ((c.tc : Thread nD τ).loc main_arg2)
abbrev aWs (c : Dev nD) : SWs.Idx → EReal := m ((c.tc : Thread nD τ).loc main_arg3)
abbrev aLb (c : Dev nD) : SLb.Idx → EReal := m ((c.tc : Thread nD τ).loc main_arg4)
abbrev aLa (c : Dev nD) : SLa.Idx → EReal := m ((c.tc : Thread nD τ).loc main_arg5)
abbrev aXa (c : Dev nD) : SXa.Idx → EReal := m ((c.tc : Thread nD τ).loc main_arg6)

theorem V_main_v0 (c : Dev nD) : V m c main_v0 = shapeCast _ (m ((c.tc : Thread nD τ).loc main_arg0)) shapeCasts_S3x4096x18432_S12288x18432 := by
  unfold V
  simp only [hostOps0, List.flatten_cons, List.flatten_nil, List.append_nil, List.cons_append, List.nil_append]
  after_results <;> rfl

theorem V_main_v1 (c : Dev nD) : V m c main_v1 = shapeCast _ (m ((c.tc : Thread nD τ).loc main_arg1)) shapeCasts_S3x4096x576_S12288x576 := by
  unfold V
  simp only [hostOps0, List.flatten_cons, List.flatten_nil, List.append_nil, List.cons_append, List.nil_append]
  after_results <;> rfl

theorem V_main_v2 (c : Dev nD) : V m c main_v2 = shapeCast _ (m ((c.tc : Thread nD τ).loc main_arg3)) shapeCasts_S18432_S1x18432 := by
  unfold V
  simp only [hostOps0, List.flatten_cons, List.flatten_nil, List.append_nil, List.cons_append, List.nil_append]
  after_results <;> rfl

theorem V0_apply (c : Dev nD) (R : Fin 12288) (j : Fin 18432) : V m c main_v0 (ValueIdx.ix2 R j)
    = aDy m c (ValueIdx.ix3 ⟨R.val / 4096, by omega⟩ ⟨R.val % 4096, by omega⟩ j) := by
  rw [V_main_v0]
  exact shapeCast_apply _ shapeCasts_S3x4096x18432_S12288x18432 (ValueIdx.ix2 R j) (ValueIdx.ix3 ⟨R.val / 4096, by omega⟩ ⟨R.val % 4096, by omega⟩ j)
    (by rewrite [Shape.rowMajor_val_three, Shape.rowMajor_val_two]; show (R.val / 4096 * 4096 + R.val % 4096) * 18432 + j.val = R.val * 18432 + j.val; omega)

theorem V1_apply (c : Dev nD) (R : Fin 12288) (j : Fin 576) : V m c main_v1 (ValueIdx.ix2 R j)
    = aDs m c (ValueIdx.ix3 ⟨R.val / 4096, by omega⟩ ⟨R.val % 4096, by omega⟩ j) := by
  rw [V_main_v1]
  exact shapeCast_apply _ shapeCasts_S3x4096x576_S12288x576 (ValueIdx.ix2 R j) (ValueIdx.ix3 ⟨R.val / 4096, by omega⟩ ⟨R.val % 4096, by omega⟩ j)
    (by rewrite [Shape.rowMajor_val_three, Shape.rowMajor_val_two]; show (R.val / 4096 * 4096 + R.val % 4096) * 576 + j.val = R.val * 576 + j.val; omega)

theorem V2_apply (c : Dev nD) (j : Fin 18432) : V m c main_v2 (ValueIdx.ix2 0 j) = aWs m c (ValueIdx.ix1 j) := by
  rw [V_main_v2]
  exact shapeCast_apply _ shapeCasts_S18432_S1x18432 (ValueIdx.ix2 0 j) (ValueIdx.ix1 j)
    (by rewrite [Shape.rowMajor_val_one, Shape.rowMajor_val_two]; show j.val = 0 * 18432 + j.val; omega)

theorem tidx0 (i : grid0.Coords) : cc0_transform_0 i 0 = (i 0).val ∧ cc0_transform_0 i 1 = (i 1).val := by
  have h0 : ∀ k : Fin 24, cc0_transform_0 (fun a => match a with | ⟨0, _⟩ => k | ⟨1, _⟩ => (⟨0, by decide⟩ : Fin 36)) 0 = k.val := by decide +kernel
  have h1 : ∀ k : Fin 36, cc0_transform_0 (fun a => match a with | ⟨0, _⟩ => (⟨0, by decide⟩ : Fin 24) | ⟨1, _⟩ => k) 1 = k.val := by decide +kernel
  exact ⟨(h0 (i 0)), (h1 (i 1))⟩
theorem tidx2 (i : grid0.Coords) : cc0_transform_2 i 0 = 0 ∧ cc0_transform_2 i 1 = (i 1).val := by
  have h1 : ∀ k : Fin 36, cc0_transform_2 (fun a => match a with | ⟨0, _⟩ => (⟨0, by decide⟩ : Fin 24) | ⟨1, _⟩ => k) 1 = k.val := by decide +kernel
  exact ⟨rfl, (h1 (i 1))⟩
theorem tidx3 (i : grid0.Coords) : cc0_transform_3 i 0 = 0 ∧ cc0_transform_3 i 1 = (i 1).val := by
  have h1 : ∀ k : Fin 36, cc0_transform_3 (fun a => match a with | ⟨0, _⟩ => (⟨0, by decide⟩ : Fin 24) | ⟨1, _⟩ => k) 1 = k.val := by decide +kernel
  exact ⟨rfl, (h1 (i 1))⟩
theorem tidx4 (i : grid0.Coords) : cc0_transform_4 i 0 = 0 ∧ cc0_transform_4 i 1 = (i 1).val := by
  have h1 : ∀ k : Fin 36, cc0_transform_4 (fun a => match a with | ⟨0, _⟩ => (⟨0, by decide⟩ : Fin 24) | ⟨1, _⟩ => k) 1 = k.val := by decide +kernel
  exact ⟨rfl, (h1 (i 1))⟩
theorem tidx5 (i : grid0.Coords) : cc0_transform_5 i 0 = 0 ∧ cc0_transform_5 i 1 = 0 := by
  exact ⟨rfl, rfl⟩
theorem tidx6 (i : grid0.Coords) : cc0_transform_6 i 0 = (i 0).val ∧ cc0_transform_6 i 1 = 0 := by
  have h0 : ∀ k : Fin 24, cc0_transform_6 (fun a => match a with | ⟨0, _⟩ => k | ⟨1, _⟩ => (⟨0, by decide⟩ : Fin 36)) 0 = k.val := by decide +kernel
  exact ⟨(h0 (i 0)), rfl⟩
theorem tidx7 (i : grid0.Coords) : cc0_transform_7 i 0 = (i 0).val ∧ cc0_transform_7 i 1 = 0 := by
  have h0 : ∀ k : Fin 24, cc0_transform_7 (fun a => match a with | ⟨0, _⟩ => k | ⟨1, _⟩ => (⟨0, by decide⟩ : Fin 36)) 0 = k.val := by decide +kernel
  exact ⟨(h0 (i 0)), rfl⟩
theorem tidx8 (i : grid0.Coords) : cc0_transform_8 i 0 = 0 ∧ cc0_transform_8 i 1 = 0 := by
  exact ⟨rfl, rfl⟩
theorem tidx9 (i : grid0.Coords) : cc0_transform_9 i 0 = (i 0).val ∧ cc0_transform_9 i 1 = 0 := by
  have h0 : ∀ k : Fin 24, cc0_transform_9 (fun a => match a with | ⟨0, _⟩ => k | ⟨1, _⟩ => (⟨0, by decide⟩ : Fin 36)) 0 = k.val := by decide +kernel
  exact ⟨(h0 (i 0)), rfl⟩

/-- The tile of dy at a point. -/
theorem iblk0_apply (c : Dev nD) (t : Fin cfg0.N) (a : Fin 512) (q : Fin 512) (R : Fin 12288) (j : Fin 18432) (hR : R.val = 512 * (t.val / 36) + a.val) (hj : j.val = 512 * (t.val % 36) + q.val) :
    (iblk m c 0 t : S512x512.Idx → EReal) (ValueIdx.ix2 a q) = V m c main_v0 (ValueIdx.ix2 R j) := by
  have hi := tidx0 (grid0.coords t)
  unfold iblk
  rw [View.read_apply]
  show V m c main_v0 _ = _
  congr 1
  funext b
  apply Fin.ext
  match b with
  | ⟨0, _⟩ => show cc0_transform_0 (grid0.coords t) 0 * 512 + 1 * a.val = R.val; rw [hi.1, coords0]; omega
  | ⟨1, _⟩ => show cc0_transform_0 (grid0.coords t) 1 * 512 + 1 * q.val = j.val; rw [hi.2, coords1]; omega

/-- The block of the weight at a point. -/
theorem iblk2_apply (c : Dev nD) (t : Fin cfg0.N) (a : Fin 7168) (q : Fin 512) (R : Fin 7168) (j : Fin 18432) (hR : R.val = a.val) (hj : j.val = 512 * (t.val % 36) + q.val) :
    (iblk m c 2 t : S7168x512.Idx → EReal) (ValueIdx.ix2 a q) = aW m c (ValueIdx.ix2 R j) := by
  have hi := tidx2 (grid0.coords t)
  unfold iblk
  rw [View.read_apply]
  show V m c main_arg2 _ = _
  rw [V_main_arg2]
  show aW m c _ = _
  congr 1
  funext b
  apply Fin.ext
  match b with
  | ⟨0, _⟩ => show cc0_transform_2 (grid0.coords t) 0 * 7168 + 1 * a.val = R.val; rw [hi.1]; omega
  | ⟨1, _⟩ => show cc0_transform_2 (grid0.coords t) 1 * 512 + 1 * q.val = j.val; rw [hi.2, coords1]; omega

/-- The block of the weight's scales at a point. -/
theorem iblk3_apply (c : Dev nD) (t : Fin cfg0.N) (a : Fin 1) (q : Fin 512) (R : Fin 1) (j : Fin 18432) (hR : R.val = a.val) (hj : j.val = 512 * (t.val % 36) + q.val) :
    (iblk m c 3 t : S1x512.Idx → EReal) (ValueIdx.ix2 a q) = V m c main_v2 (ValueIdx.ix2 R j) := by
  have hi := tidx3 (grid0.coords t)
  unfold iblk
  rw [View.read_apply]
  show V m c main_v2 _ = _
  congr 1
  funext b
  apply Fin.ext
  match b with
  | ⟨0, _⟩ => show cc0_transform_3 (grid0.coords t) 0 * 1 + 1 * a.val = R.val; rw [hi.1]; omega
  | ⟨1, _⟩ => show cc0_transform_3 (grid0.coords t) 1 * 512 + 1 * q.val = j.val; rw [hi.2, coords1]; omega

/-- The block of the up projection at a point. -/
theorem iblk4_apply (c : Dev nD) (t : Fin cfg0.N) (a : Fin 32) (q : Fin 512) (R : Fin 32) (j : Fin 18432) (hR : R.val = a.val) (hj : j.val = 512 * (t.val % 36) + q.val) :
    (iblk m c 4 t : S32x512.Idx → EReal) (ValueIdx.ix2 a q) = aLb m c (ValueIdx.ix2 R j) := by
  have hi := tidx4 (grid0.coords t)
  unfold iblk
  rw [View.read_apply]
  show V m c main_arg4 _ = _
  rw [V_main_arg4]
  show aLb m c _ = _
  congr 1
  funext b
  apply Fin.ext
  match b with
  | ⟨0, _⟩ => show cc0_transform_4 (grid0.coords t) 0 * 32 + 1 * a.val = R.val; rw [hi.1]; omega
  | ⟨1, _⟩ => show cc0_transform_4 (grid0.coords t) 1 * 512 + 1 * q.val = j.val; rw [hi.2, coords1]; omega

/-- The down projection at a point. -/
theorem iblk5_apply (c : Dev nD) (t : Fin cfg0.N) (a : Fin 7168) (q : Fin 32) (R : Fin 7168) (j : Fin 32) (hR : R.val = a.val) (hj : j.val = q.val) :
    (iblk m c 5 t : S7168x32.Idx → EReal) (ValueIdx.ix2 a q) = aLa m c (ValueIdx.ix2 R j) := by
  have hi := tidx5 (grid0.coords t)
  unfold iblk
  rw [View.read_apply]
  show V m c main_arg5 _ = _
  rw [V_main_arg5]
  show aLa m c _ = _
  congr 1
  funext b
  apply Fin.ext
  match b with
  | ⟨0, _⟩ => show cc0_transform_5 (grid0.coords t) 0 * 7168 + 1 * a.val = R.val; rw [hi.1]; omega
  | ⟨1, _⟩ => show cc0_transform_5 (grid0.coords t) 1 * 32 + 1 * q.val = j.val; rw [hi.2]; omega

/-- The rows of x times the down projection at a point. -/
theorem iblk6_apply (c : Dev nD) (t : Fin cfg0.N) (a : Fin 512) (q : Fin 32) (R : Fin 12288) (j : Fin 32) (hR : R.val = 512 * (t.val / 36) + a.val) (hj : j.val = q.val) :
    (iblk m c 6 t : S512x32.Idx → EReal) (ValueIdx.ix2 a q) = aXa m c (ValueIdx.ix2 R j) := by
  have hi := tidx6 (grid0.coords t)
  unfold iblk
  rw [View.read_apply]
  show V m c main_arg6 _ = _
  rw [V_main_arg6]
  show aXa m c _ = _
  congr 1
  funext b
  apply Fin.ext
  match b with
  | ⟨0, _⟩ => show cc0_transform_6 (grid0.coords t) 0 * 512 + 1 * a.val = R.val; rw [hi.1, coords0]; omega
  | ⟨1, _⟩ => show cc0_transform_6 (grid0.coords t) 1 * 32 + 1 * q.val = j.val; rw [hi.2]; omega

/-- A scale the tile reads, whatever the rest of the block of scales holds. -/
theorem fill1_apply (c : Dev nD) (t : Fin cfg0.N) (d : S512x128.Idx → EReal) (a : Fin 512) (p : Fin 128) (hp : p.val < 16 * (t.val % 36 % 8) + 16) (R : Fin 12288) (j : Fin 576)
    (hR : R.val = 512 * (t.val / 36) + a.val) (hj : j.val = 128 * (t.val % 36 / 8) + p.val) :
    (win0_1.fill (α := Elt Ideal .f32) (grid0.coords t) d (iblk m c 1 t) : S512x128.Idx → EReal) (ValueIdx.ix2 a p) = V m c main_v1 (ValueIdx.ix2 R j) := by
  have hm : win0_1.moved (grid0.coords t) (ValueIdx.ix2 a p) = true := moved1 _ a p (by rw [coords1]; exact hp)
  unfold Pipeline.Window.fill
  rw [dif_pos hm]
  unfold iblk
  rw [View.read_apply]
  show V m c main_v1 _ = _
  congr 1
  funext b
  apply Fin.ext
  match b with
  | ⟨0, _⟩ => show cc0_transform_1 (grid0.coords t) 0 * 512 + 1 * a.val = R.val; rw [index1_0, coords0]; omega
  | ⟨1, _⟩ => show cc0_transform_1 (grid0.coords t) 1 * 128 + 1 * p.val = j.val; rw [index1_1, coords1]; omega

abbrev tX (c : Dev nD) (t : Fin cfg0.N) : S512x512.Idx → EReal := iblk m c 0 t
abbrev tW (c : Dev nD) (t : Fin cfg0.N) : S7168x512.Idx → EReal := iblk m c 2 t
abbrev tWs (c : Dev nD) (t : Fin cfg0.N) : S1x512.Idx → EReal := iblk m c 3 t
abbrev tLb (c : Dev nD) (t : Fin cfg0.N) : S32x512.Idx → EReal := iblk m c 4 t
abbrev tLa (c : Dev nD) (t : Fin cfg0.N) : S7168x32.Idx → EReal := iblk m c 5 t
abbrev tXa (c : Dev nD) (t : Fin cfg0.N) : S512x32.Idx → EReal := iblk m c 6 t
abbrev tS (c : Dev nD) (t : Fin cfg0.N) (d : S512x128.Idx → EReal) : S512x128.Idx → EReal := win0_1.fill (α := Elt Ideal .f32) (grid0.coords t) d (iblk m c 1 t)
/-- The dequantised tile of dy at a point. -/
abbrev tD (c : Dev nD) (t : Fin cfg0.N) (d : S512x128.Idx → EReal) : S512x512.Idx → EReal := dq (F := Ideal) (grid0.coords t) (iblk m c 0 t) (tS m c t d)

abbrev g (c : Dev nD) (R n : ℕ) : EReal := gR (aDy m c) (aDs m c) R n

/-- The dequantised tile at an index. -/
theorem tD_apply (c : Dev nD) (t : Fin cfg0.N) (d : S512x128.Idx → EReal) (a q : Fin 512) :
    tD m c t d (ValueIdx.ix2 a q) = g m c (512 * (t.val / 36) + a.val) (512 * (t.val % 36) + q.val) := by
  have ht : t.val < 864 := Nat.lt_of_lt_of_eq t.isLt N_0
  have ha := a.isLt
  have hq := q.isLt
  have hc := coords1 t
  have hp : 16 * ((grid0.coords t 1).val % 8) + q.val / 32 < 128 := by omega
  refine (dq_apply _ _ _ a q ⟨_, hp⟩ rfl).trans ?_
  show tX m c t (ValueIdx.ix2 a q) * tS m c t d (ValueIdx.ix2 a ⟨_, hp⟩) = _
  unfold tX tS
  rw [iblk0_apply m c t a q ⟨512 * (t.val / 36) + a.val, by omega⟩ ⟨512 * (t.val % 36) + q.val, by omega⟩ rfl rfl,
    fill1_apply m c t d a ⟨_, hp⟩ (by dsimp only; omega) ⟨512 * (t.val / 36) + a.val, by omega⟩ ⟨(512 * (t.val % 36) + q.val) / 32, by omega⟩ rfl (by dsimp only; omega),
    V0_apply, V1_apply]
  unfold g gR
  rw [dif_pos ⟨by omega, by omega⟩]

theorem tW_apply (c : Dev nD) (t : Fin cfg0.N) (i : Fin 7168) (q : Fin 512) :
    tW m c t (ValueIdx.ix2 i q) * tWs m c t (ValueIdx.ix2 0 q) = wR (aW m c) (aWs m c) i.val (512 * (t.val % 36) + q.val) := by
  have hi := i.isLt
  have hq := q.isLt
  unfold tW tWs
  rw [iblk2_apply m c t i q i ⟨512 * (t.val % 36) + q.val, by omega⟩ rfl rfl,
    iblk3_apply m c t 0 q 0 ⟨512 * (t.val % 36) + q.val, by omega⟩ rfl rfl, V2_apply]
  unfold wR
  rw [dif_pos ⟨hi, by omega⟩]

theorem tLb_apply (c : Dev nD) (t : Fin cfg0.N) (r : Fin 32) (q : Fin 512) :
    tLb m c t (ValueIdx.ix2 r q) = bR (aLb m c) r.val (512 * (t.val % 36) + q.val) := by
  have hi := r.isLt
  have hq := q.isLt
  unfold tLb
  rw [iblk4_apply m c t r q r ⟨512 * (t.val % 36) + q.val, by omega⟩ rfl rfl]
  unfold bR
  rw [dif_pos ⟨hi, by omega⟩]

theorem tLa_eq (c : Dev nD) (t : Fin cfg0.N) : tLa m c t = aLa m c := by
  funext y
  obtain ⟨i, j, rfl⟩ : ∃ (i : Fin 7168) (j : Fin 32), y = ValueIdx.ix2 i j := ⟨y 0, y 1, ValueIdx.eq_ix2 y⟩
  exact iblk5_apply m c t i j i j rfl rfl

theorem tXa_apply (c : Dev nD) (t : Fin cfg0.N) (a : Fin 512) (j : Fin 32) :
    tXa m c t (ValueIdx.ix2 a j) = xR (aXa m c) (512 * (t.val / 36) + a.val) j.val := by
  have ht : t.val < 864 := Nat.lt_of_lt_of_eq t.isLt N_0
  have ha := a.isLt
  have hj := j.isLt
  unfold tXa
  rw [iblk6_apply m c t a j ⟨512 * (t.val / 36) + a.val, by omega⟩ j rfl rfl]
  unfold xR
  rw [dif_pos ⟨by omega, hj⟩]

/-! ## The partial sums, point by point -/

/-- The accumulator after point `n`. -/
def accAt (c : Dev nD) (n : ℕ) : S512x7168.Idx → EReal := fun y =>
  gP (aDy m c) (aDs m c) (aW m c) (aWs m c) (512 * (n % 36 + 1)) (512 * (n / 36) + (y 0).val) (y 1).val
/-- The block of t after point `n`. -/
def tAt (c : Dev nD) (n : ℕ) : S512x32.Idx → EReal := fun y =>
  tP (aDy m c) (aDs m c) (aLb m c) (512 * (n % 36 + 1)) (512 * (n / 36) + (y 0).val) (y 1).val

/-- The sum over the columns before a point's columns, and the point's own. -/
theorem sum_step (f : ℕ → EReal) (n : ℕ) (prev : EReal) (h : prev = if n % 36 = 0 then 0 else ∑ κ ∈ Finset.range (512 * ((n - 1) % 36 + 1)), f κ) :
    prev + ∑ q : Fin 512, f (512 * (n % 36) + q.val) = ∑ κ ∈ Finset.range (512 * (n % 36 + 1)), f κ := by
  have e : prev = ∑ κ ∈ Finset.range (512 * (n % 36)), f κ := by
    rw [h]; split
    · rename_i h0; rw [h0]; simp
    · rename_i h0; rw [show (n - 1) % 36 + 1 = n % 36 by omega]
  rw [e, Nat.mul_succ, Finset.sum_range_add, Finset.sum_range (fun x => f (512 * (n % 36) + x))]

theorem acc_step (c : Dev nD) (t : Fin cfg0.N) (d : S512x128.Idx → EReal) (xs : S512x7168.Idx → EReal) (hxs : t.val % 36 ≠ 0 → xs = accAt m c (t.val - 1)) :
    accNew (tD m c t d) (tW m c t) (tWs m c t) (if t.val % 36 = 0 then fun _ => 0 else xs) = accAt m c t.val := by
  funext y
  obtain ⟨a, i, rfl⟩ : ∃ (a : Fin 512) (i : Fin 7168), y = ValueIdx.ix2 a i := ⟨y 0, y 1, ValueIdx.eq_ix2 y⟩
  refine Eq.trans ?_ (sum_step (fun κ => g m c (512 * (t.val / 36) + a.val) κ * wR (aW m c) (aWs m c) i.val κ) t.val
    (if t.val % 36 = 0 then 0 else xs (ValueIdx.ix2 a i)) ?_)
  · show (if t.val % 36 = 0 then fun _ => 0 else xs : S512x7168.Idx → EReal) (ValueIdx.ix2 a i) + ∑ q : Fin 512, _ = _
    refine congrArg₂ (· + ·) (by split <;> rfl) (Finset.sum_congr rfl fun q _ => ?_)
    rw [← tD_apply m c t d a q, ← tW_apply m c t i q]
  · split
    · rfl
    · rename_i h0
      rw [hxs h0]
      show gP _ _ _ _ _ (512 * ((t.val - 1) / 36) + a.val) i.val = _
      rw [show (t.val - 1) / 36 = t.val / 36 by omega]
      rfl

theorem t_step (c : Dev nD) (t : Fin cfg0.N) (d : S512x128.Idx → EReal) (x9 : S512x32.Idx → EReal) (hx : t.val % 36 ≠ 0 → x9 = tAt m c (t.val - 1)) :
    tNew (tD m c t d) (tLb m c t) (if t.val % 36 = 0 then fun _ => 0 else x9) = tAt m c t.val := by
  funext y
  obtain ⟨a, i, rfl⟩ : ∃ (a : Fin 512) (i : Fin 32), y = ValueIdx.ix2 a i := ⟨y 0, y 1, ValueIdx.eq_ix2 y⟩
  refine Eq.trans ?_ (sum_step (fun κ => g m c (512 * (t.val / 36) + a.val) κ * bR (aLb m c) i.val κ) t.val
    (if t.val % 36 = 0 then 0 else x9 (ValueIdx.ix2 a i)) ?_)
  · show (if t.val % 36 = 0 then fun _ => 0 else x9 : S512x32.Idx → EReal) (ValueIdx.ix2 a i) + ∑ q : Fin 512, _ = _
    refine congrArg₂ (· + ·) (by split <;> rfl) (Finset.sum_congr rfl fun q _ => ?_)
    rw [← tD_apply m c t d a q, ← tLb_apply m c t i q]
  · split
    · rfl
    · rename_i h0
      rw [hx h0]
      show tP _ _ _ _ (512 * ((t.val - 1) / 36) + a.val) i.val = _
      rw [show (t.val - 1) / 36 = t.val / 36 by omega]
      rfl

/-- The block of dx of a row block, from the finished accumulator and t. -/
theorem dx_step (c : Dev nD) (t : Fin cfg0.N) (h : t.val % 36 = 35) (a : Fin 512) (i : Fin 7168) (R : Fin 12288) (hR : R.val = 512 * (t.val / 36) + a.val) :
    dxNew (tAt m c t.val) (tLa m c t) (accAt m c t.val) (ValueIdx.ix2 a i)
      = specDx (aDy m c) (aDs m c) (aW m c) (aWs m c) (aLb m c) (aLa m c) (ValueIdx.ix2 R i) := by
  rw [tLa_eq]
  unfold dxNew
  rw [dx_halves]
  unfold specDx tAt accAt
  rw [h]
  show gP _ _ _ _ (512 * (35 + 1)) (512 * (t.val / 36) + a.val) i.val + two * ((∑ j : Fin 32, tP _ _ _ (512 * (35 + 1)) (512 * (t.val / 36) + a.val) j.val * _)
    + ∑ j : Fin 32, rest (tP _ _ _ (512 * (35 + 1)) (512 * (t.val / 36) + a.val) j.val) * _) = gP _ _ _ _ 18432 R.val i.val + _
  rw [← hR]

/-- A point's part of dB. -/
theorem d_step (c : Dev nD) (t : Fin cfg0.N) (d : S512x128.Idx → EReal) (j : Fin 32) (q : Fin 512) :
    dNew (tD m c t d) (tXa m c t) (ValueIdx.ix2 j q) = dPart (aDy m c) (aDs m c) (aXa m c) (t.val / 36) j.val (512 * (t.val % 36) + q.val) := by
  unfold dNew dPart
  show two * ((∑ r : Fin 512, tXa m c t (ValueIdx.ix2 r j) * tD m c t d (ValueIdx.ix2 r q))
    + (∑ r : Fin 512, rest (tXa m c t (ValueIdx.ix2 r j)) * tD m c t d (ValueIdx.ix2 r q))
    + ∑ r : Fin 512, rest (rest (tXa m c t (ValueIdx.ix2 r j))) * tD m c t d (ValueIdx.ix2 r q)) = _
  refine congrArg (two * ·) (congrArg₂ (· + ·) (congrArg₂ (· + ·) ?_ ?_) ?_) <;>
    exact Finset.sum_congr rfl fun r _ => by rw [tD_apply m c t d r q, tXa_apply m c t r j]

/-- The row blocks whose part the column `n` of dB holds after point `p`. -/
def rowsAt (p n : ℕ) : ℕ := p / 36 + if n / 512 ≤ p % 36 then 1 else 0

/-- What dB holds after point `p`, on the columns that a point has reached. -/
def dbOk (c : Dev nD) (p : ℕ) (X : S32x18432.Idx → EReal) : Prop :=
  ∀ (j : Fin 32) (n : Fin 18432), rowsAt p n.val ≠ 0 → X (ValueIdx.ix2 j n) = dP (aDy m c) (aDs m c) (aXa m c) (rowsAt p n.val) j.val n.val

theorem db_step (c : Dev nD) (t : Fin cfg0.N) (d : S512x128.Idx → EReal) (x8 y8 : S32x18432.Idx → EReal) (hx : t.val ≠ 0 → dbOk m c (t.val - 1) x8)
    (hy : ∀ (j : Fin 32) (n : Fin 18432), y8 (ValueIdx.ix2 j n) = if h : 512 * (t.val % 36) ≤ n.val ∧ n.val < 512 * (t.val % 36) + 512 then
      (if t.val < 36 then 0 else x8 (ValueIdx.ix2 j n)) + dNew (tD m c t d) (tXa m c t) (ValueIdx.ix2 j ⟨n.val - 512 * (t.val % 36), by omega⟩) else x8 (ValueIdx.ix2 j n)) :
    dbOk m c t.val y8 := by
  intro j n hr
  have hn := n.isLt
  rw [hy j n]
  by_cases h : 512 * (t.val % 36) ≤ n.val ∧ n.val < 512 * (t.val % 36) + 512
  · rw [dif_pos h, d_step]
    have e : 512 * (t.val % 36) + (n.val - 512 * (t.val % 36)) = n.val := by omega
    have er : rowsAt t.val n.val = t.val / 36 + 1 := by unfold rowsAt; rw [if_pos (by omega)]
    show _ + dPart _ _ _ _ _ (512 * (t.val % 36) + (n.val - 512 * (t.val % 36))) = _
    rw [e, er]
    unfold dP
    rw [Finset.sum_range_succ]
    congr 1
    by_cases h36 : t.val < 36
    · rw [if_pos h36, show t.val / 36 = 0 by omega]; simp
    · rw [if_neg h36]
      have er' : rowsAt (t.val - 1) n.val = t.val / 36 := by
        unfold rowsAt
        by_cases h0 : t.val % 36 = 0
        · rw [if_pos (by omega)]; omega
        · rw [if_neg (by omega)]; omega
      have := hx (by omega) j n (by rw [er']; omega)
      rw [er'] at this
      exact this
  · rw [dif_neg h]
    have h0 : t.val ≠ 0 := fun h0 => by
      rw [h0] at hr h
      apply hr; unfold rowsAt; rw [if_neg (by omega)]
    have er' : rowsAt (t.val - 1) n.val = rowsAt t.val n.val := by
      unfold rowsAt
      by_cases h1 : t.val % 36 = 0
      · rw [if_pos (by omega), if_neg (by omega)]; omega
      · by_cases h2 : n.val / 512 ≤ t.val % 36
        · rw [if_pos h2, if_pos (by omega)]; omega
        · rw [if_neg h2, if_neg (by omega)]; omega
    have := hx h0 j n (by rw [er']; exact hr)
    rw [er'] at this
    exact this

end Cert.MainValue

end
-- ==== Proof.MainIdealFrame.lean ====
/- The frame of the kernel of the products with dy over the extended reals, with what its staging buffers and its
   accumulator hold after each grid point: the partial sums so far. -/
module

public import proofs.«01_k».proof.Proof.MainIdealPoint
public import Idealize.ShloMosaic.Lib.Pipeline.ArrRel

@[expose] public section

set_option maxRecDepth 16384

noncomputable section

namespace Cert.MainValue

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- Before point `n` the accumulator holds the partial sums of the point before, and before the first point anything. -/
def phi (c : Dev nD) (n : ℕ) : sProp 𝕄 :=
  iprop((∃ d : S512x7168.Idx → EReal, ⌜n ≠ 0 → d = accAt m c (n - 1)⌝ ∗ owns (c : Thread nD τ) scM0_0 fullShare d) ∗ (∃ r, prngReg c r))

/-- The proof data: inputs stay as found; the block of dx is complete at the last column block, t holds its partial sum,
    dB the sums of the row blocks seen. -/
def rd (c : Dev nD) : RDat τ (Elt Ideal) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => t.val % 36 = 35 → X = dxNew (tAt m c t.val) (tLa m c t) (accAt m c t.val)
    | ⟨8, _⟩ => dbOk m c t.val X
    | ⟨9, _⟩ => X = tAt m c t.val
  Φ n := phi m c n.val
  q _ := fullShare
  owed _ := 0

theorem A_eq (c : Dev nD) (w : Fin cfg0.W) : (rd m c).A w = V m c (Pipeline.arrRef spec0 w) := by
  dsimp only [rd]

theorem after_0 (c : Dev nD) (t : Fin cfg0.N) (Y X) : (rd m c).after 0 t Y X = (X = Y) := by dsimp only [rd]
theorem after_1 (c : Dev nD) (t : Fin cfg0.N) (Y X) : (rd m c).after 1 t Y X = (X = Y) := by dsimp only [rd]
theorem after_2 (c : Dev nD) (t : Fin cfg0.N) (Y X) : (rd m c).after 2 t Y X = (X = Y) := by dsimp only [rd]
theorem after_3 (c : Dev nD) (t : Fin cfg0.N) (Y X) : (rd m c).after 3 t Y X = (X = Y) := by dsimp only [rd]
theorem after_4 (c : Dev nD) (t : Fin cfg0.N) (Y X) : (rd m c).after 4 t Y X = (X = Y) := by dsimp only [rd]
theorem after_5 (c : Dev nD) (t : Fin cfg0.N) (Y X) : (rd m c).after 5 t Y X = (X = Y) := by dsimp only [rd]
theorem after_6 (c : Dev nD) (t : Fin cfg0.N) (Y X) : (rd m c).after 6 t Y X = (X = Y) := by dsimp only [rd]
theorem after_7 (c : Dev nD) (t : Fin cfg0.N) (Y X) : (rd m c).after 7 t Y X = (t.val % 36 = 35 → X = dxNew (tAt m c t.val) (tLa m c t) (accAt m c t.val)) := by dsimp only [rd]
theorem after_8 (c : Dev nD) (t : Fin cfg0.N) (Y X) : (rd m c).after 8 t Y X = dbOk m c t.val X := by dsimp only [rd]
theorem after_9 (c : Dev nD) (t : Fin cfg0.N) (Y X) : (rd m c).after 9 t Y X = (X = tAt m c t.val) := by dsimp only [rd]

theorem finds_0 (c : Dev nD) (t : Fin cfg0.N) (Y) (h : (rd m c).Finds 0 t Y) : Y = iblk m c 0 t := by
  obtain ⟨d, rfl⟩ := (rd m c).finds_in_eq_fetched 0 rfl (fun _ _ _ => rfl) (fun t Y X h => by rwa [after_0] at h) t Y h
  unfold RDat.fetched RDat.blockOf iblk; rw [A_eq]; try rfl
theorem finds_2 (c : Dev nD) (t : Fin cfg0.N) (Y) (h : (rd m c).Finds 2 t Y) : Y = iblk m c 2 t := by
  obtain ⟨d, rfl⟩ := (rd m c).finds_in_eq_fetched 2 rfl (fun _ _ _ => rfl) (fun t Y X h => by rwa [after_2] at h) t Y h
  unfold RDat.fetched RDat.blockOf iblk; rw [A_eq]; try rfl
theorem finds_3 (c : Dev nD) (t : Fin cfg0.N) (Y) (h : (rd m c).Finds 3 t Y) : Y = iblk m c 3 t := by
  obtain ⟨d, rfl⟩ := (rd m c).finds_in_eq_fetched 3 rfl (fun _ _ _ => rfl) (fun t Y X h => by rwa [after_3] at h) t Y h
  unfold RDat.fetched RDat.blockOf iblk; rw [A_eq]; try rfl
theorem finds_4 (c : Dev nD) (t : Fin cfg0.N) (Y) (h : (rd m c).Finds 4 t Y) : Y = iblk m c 4 t := by
  obtain ⟨d, rfl⟩ := (rd m c).finds_in_eq_fetched 4 rfl (fun _ _ _ => rfl) (fun t Y X h => by rwa [after_4] at h) t Y h
  unfold RDat.fetched RDat.blockOf iblk; rw [A_eq]; try rfl
theorem finds_5 (c : Dev nD) (t : Fin cfg0.N) (Y) (h : (rd m c).Finds 5 t Y) : Y = iblk m c 5 t := by
  obtain ⟨d, rfl⟩ := (rd m c).finds_in_eq_fetched 5 rfl (fun _ _ _ => rfl) (fun t Y X h => by rwa [after_5] at h) t Y h
  unfold RDat.fetched RDat.blockOf iblk; rw [A_eq]; try rfl
theorem finds_6 (c : Dev nD) (t : Fin cfg0.N) (Y) (h : (rd m c).Finds 6 t Y) : Y = iblk m c 6 t := by
  obtain ⟨d, rfl⟩ := (rd m c).finds_in_eq_fetched 6 rfl (fun _ _ _ => rfl) (fun t Y X h => by rwa [after_6] at h) t Y h
  unfold RDat.fetched RDat.blockOf iblk; rw [A_eq]; try rfl
theorem finds_1 (c : Dev nD) (t : Fin cfg0.N) (Y) (h : (rd m c).Finds 1 t Y) : ∃ d, Y = tS m c t d := by
  obtain ⟨d, rfl⟩ := (rd m c).finds_in_eq_fetched 1 rfl (fun s t h => clip0_1_eq s t h) (fun t Y X h => by rwa [after_1] at h) t Y h
  refine ⟨d, ?_⟩
  unfold RDat.fetched RDat.blockOf tS iblk; rw [A_eq]; try rfl

/-- dB's buffer holds what the point before left. -/
theorem finds_8 (c : Dev nD) (t : Fin cfg0.N) (Y) (h : (rd m c).Finds 8 t Y) (h0 : t.val ≠ 0) : dbOk m c (t.val - 1) Y := by
  have hN : t.val < 864 := Nat.lt_of_lt_of_eq t.isLt N_0
  rcases ((rd m c).finds_of_pos (w := 8) (t := t) rfl h0 Y).mp h with hf | ⟨Y', _, hR⟩
  · have := (flush0_8 _).mp hf; dsimp only at this; omega
  · rw [after_8] at hR; exact hR

/-- t's buffer holds what the point before left, inside a row block. -/
theorem finds_9 (c : Dev nD) (t : Fin cfg0.N) (Y) (h : (rd m c).Finds 9 t Y) (h0 : t.val % 36 ≠ 0) : Y = tAt m c (t.val - 1) := by
  have hN : t.val < 864 := Nat.lt_of_lt_of_eq t.isLt N_0
  rcases ((rd m c).finds_of_pos (w := 9) (t := t) rfl (by omega) Y).mp h with hf | ⟨Y', _, hR⟩
  · have := (flush0_9 _).mp hf; dsimp only at this; omega
  · rw [after_9] at hR; exact hR

/-- What the body is called with at point `t`, window by window, -/
def bodyPre (c : Dev nD) (t : Fin cfg0.N) (Y : (w : Fin cfg0.W) → (cfg0.win w).block.Idx → Elt Ideal (cfg0.win w).elt) : sProp 𝕄 :=
  iprop((rd m c).Φ t.castSucc ∗ (rd m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9))

/-- and what it returns. -/
def bodyPost (c : Dev nD) (t : Fin cfg0.N) (Y : (w : Fin cfg0.W) → (cfg0.win w).block.Idx → Elt Ideal (cfg0.win w).elt) : sProp 𝕄 :=
  iprop((rd m c).Φ t.succ ∗ (rd m c).owesAt () t.succ
    ∗ (∃ X, ⌜(rd m c).after 0 t (Y 0) X⌝ ∗ owns (c : Thread nD τ) (ms0_0 t) fullShare X)
    ∗ (∃ X, ⌜(rd m c).after 1 t (Y 1) X⌝ ∗ owns (c : Thread nD τ) (ms0_1 t) fullShare X)
    ∗ (∃ X, ⌜(rd m c).after 2 t (Y 2) X⌝ ∗ owns (c : Thread nD τ) (ms0_2 t) fullShare X)
    ∗ (∃ X, ⌜(rd m c).after 3 t (Y 3) X⌝ ∗ owns (c : Thread nD τ) (ms0_3 t) fullShare X)
    ∗ (∃ X, ⌜(rd m c).after 4 t (Y 4) X⌝ ∗ owns (c : Thread nD τ) (ms0_4 t) fullShare X)
    ∗ (∃ X, ⌜(rd m c).after 5 t (Y 5) X⌝ ∗ owns (c : Thread nD τ) (ms0_5 t) fullShare X)
    ∗ (∃ X, ⌜(rd m c).after 6 t (Y 6) X⌝ ∗ owns (c : Thread nD τ) (ms0_6 t) fullShare X)
    ∗ (∃ X, ⌜(rd m c).after 7 t (Y 7) X⌝ ∗ owns (c : Thread nD τ) (ms0_7 t) fullShare X)
    ∗ (∃ X, ⌜(rd m c).after 8 t (Y 8) X⌝ ∗ owns (c : Thread nD τ) (ms0_8 t) fullShare X)
    ∗ (∃ X, ⌜(rd m c).after 9 t (Y 9) X⌝ ∗ owns (c : Thread nD τ) (ms0_9 t) fullShare X))

theorem phi_castSucc (c : Dev nD) (t : Fin cfg0.N) : (rd m c).Φ t.castSucc = phi m c t.val := rfl
theorem phi_succ (c : Dev nD) (t : Fin cfg0.N) : (rd m c).Φ t.succ = phi m c (t.val + 1) := rfl

set_option maxHeartbeats 1600000 in
/-- The body at any point. -/
theorem sound_body (c : Dev nD) (t : Fin cfg0.N) (Y : (w : Fin cfg0.W) → (cfg0.win w).block.Idx → Elt Ideal (cfg0.win w).elt)
    (hY : ∀ w, (rd m c).Finds w t (Y w)) :
    bodyPre m c t Y ⊢ wp frame (wpE (defs₀ (F := Ideal)) Variants.none c none) Set.univ (bodyAt0 t) (fun _ => bodyPost m c t Y) := by
  have e0 := finds_0 m c t _ (hY 0)
  obtain ⟨d1, e1⟩ := finds_1 m c t _ (hY 1)
  have e2 := finds_2 m c t _ (hY 2)
  have e3 := finds_3 m c t _ (hY 3)
  have e4 := finds_4 m c t _ (hY 4)
  have e5 := finds_5 m c t _ (hY 5)
  have e6 := finds_6 m c t _ (hY 6)
  have e8 := finds_8 m c t _ (hY 8)
  have e9 := finds_9 m c t _ (hY 9)
  unfold bodyPre bodyPost bodyAt0
  rw [show (rd m c).owesAt () t.succ = (rd m c).owesAt () t.castSucc from rfl, phi_castSucc, phi_succ]
  unfold phi
  iintro ⟨⟨⟨%d, %hd, HS⟩, Hg⟩, Ho, H0, H1, H2, H3, H4, H5, H6, H7, H8, H9⟩
  obtain ⟨R, hP⟩ := step c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) scM0_0 (Memref.isWhole_whole _) (Y 0) (Y 1) (Y 2) (Y 3) (Y 4) (Y 5) (Y 6) (Y 7) (Y 8) (Y 9) d
  have hacc : R.ys = accAt m c t.val := by
    refine hP.acc.trans ?_
    rw [e0, e1, e2, e3]
    exact acc_step m c t d1 d fun h => hd (by omega)
  have ht : R.y9 = tAt m c t.val := by
    refine hP.tt.trans ?_
    rw [e0, e1, e4]
    exact t_step m c t d1 (Y 9) e9
  have hdx : t.val % 36 = 35 → R.y7 = dxNew (tAt m c t.val) (tLa m c t) (accAt m c t.val) := fun h => by
    refine (hP.dx h).trans ?_
    rw [ht, hacc, e5]
  have hdb : dbOk m c t.val R.y8 := by
    refine db_step m c t d1 (Y 8) R.y8 e8 fun j n => ?_
    refine (hP.db j n).trans ?_
    rw [e0, e1, e6]
  iapply (R.body Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]
    · iexists _; isplitr
      swap; · iexact HS
      ipureintro; exact fun _ => hacc
    · iexact Hg
  isplitl [Ho]; · iexact Ho
  isplitl [H0]
  · iexists _; isplitr
    swap; · iexact H0
    ipureintro; rw [after_0]
  isplitl [H1]
  · iexists _; isplitr
    swap; · iexact H1
    ipureintro; rw [after_1]
  isplitl [H2]
  · iexists _; isplitr
    swap; · iexact H2
    ipureintro; rw [after_2]
  isplitl [H3]
  · iexists _; isplitr
    swap; · iexact H3
    ipureintro; rw [after_3]
  isplitl [H4]
  · iexists _; isplitr
    swap; · iexact H4
    ipureintro; rw [after_4]
  isplitl [H5]
  · iexists _; isplitr
    swap; · iexact H5
    ipureintro; rw [after_5]
  isplitl [H6]
  · iexists _; isplitr
    swap; · iexact H6
    ipureintro; rw [after_6]
  isplitl [H7]
  · iexists _; isplitr
    swap; · iexact H7
    ipureintro; rw [after_7]; exact hdx
  isplitl [H8]
  · iexists _; isplitr
    swap; · iexact H8
    ipureintro; rw [after_8]; exact hdb
  iexists _; isplitr
  swap; · iexact H9
  ipureintro; rw [after_9]; exact ht

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : (rd m c).BodyObligation (defs₀ (F := Ideal)) Variants.none () Set.univ := fun t Y hY => by
  rw [bigSep_W0, bigSep_W0, defs₀_row]
  exact triple_restated (sound_body m c t Y hY) rfl .rfl fun _ => .rfl

theorem hin (c : Dev nD) : (Pipeline.ΦA spec0 c : sProp 𝕄) ⊢ (rd m c).Φ 0 := by
  rw [PhiA0_eq]
  show _ ⊢ phi m c 0
  unfold phi
  iintro ⟨⟨%d, HS⟩, Hg⟩
  isplitl [HS]
  · iexists d; isplitr
    swap; · iexact HS
    ipureintro; exact fun h => absurd rfl h
  iexact Hg

theorem hout (c : Dev nD) : (rd m c).Φ (Fin.last cfg0.N) ⊢ (Pipeline.ΦA spec0 c : sProp 𝕄) := by
  rw [PhiA0_eq]
  show phi m c _ ⊢ _
  unfold phi
  iintro ⟨⟨%d, %hd, HS⟩, Hg⟩
  isplitl [HS]
  · iexists d; iexact HS
  iexact Hg

set_option backward.isDefEq.respectTransparency.types false in
/-- The launch: every final state has the arrays at contents the proof data allow, and every counter at zero. -/
theorem run_main_quiescent : θ_run defs (onTc (τ := τ) (main (F := Ideal))) (s₀ m ρ)
    (fun r => (Pipeline.RDat.FramePost (cfgs 0) (rd m) (V m)) r ∧ r.2.sem = fun _ => 0) :=
  Pipeline.RDat.θ_run_frame_track (Q' := _) cfgs (0 : Fin 1) launch0 defs₀ Variants.none (rd m) m ρ main
    (hbody := fun c => body_obligation m c) (hshare := fun c => (rd m c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => ⟨fun c =>
    let h := hh.1
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c))⟩, hh.2⟩) (run_main_quiescent m ρ)

end Cert.MainValue

end
-- ==== Proof.MainValue.lean ====
/- What the kernel of the products with dy leaves in its three results: the plain sums. -/
module

public import proofs.«01_k».proof.Proof.MainIdealFrame

@[expose] public section

set_option maxRecDepth 16384

noncomputable section

namespace Cert.MainValue

open Idealize.ShloMosaic Idealize.ShloMosaic.TcCoe Idealize.SL.Sem Idealize.ShloMosaic.StableHlo
open Idealize.ShloMosaic.Pipeline (Dat RDat Cfg Window)
open Cert.MainIdeal Cert.MainIdeal.Gen

variable (m : (ℓ : Loc nD τ sig) → Buf (Elt Ideal) ℓ) (ρ : Dev nD → PrngReg)

abbrev resDx (c : Dev nD) : S12288x7168.Idx → EReal := specDx (aDy m c) (aDs m c) (aW m c) (aWs m c) (aLb m c) (aLa m c)
abbrev resDb (c : Dev nD) : S32x18432.Idx → EReal := fun y => dP (aDy m c) (aDs m c) (aXa m c) 24 (y 0).val (y 1).val
abbrev resT (c : Dev nD) : S12288x32.Idx → EReal := specT (aDy m c) (aDs m c) (aLb m c)

section
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rd m c).Leaves w u (after w u))
include hL

theorem flushed_7 (t : Fin cfg0.N) (hf : (cfg0.win 7).flush t = true) :
    ((rd m c).withAfter after).flushed 7 t = ((cfg0.win 7).blk t).view.read (Elt Ideal) (resDx m c) := by
  have ht : t.val < 864 := Nat.lt_of_lt_of_eq t.isLt N_0
  have h35 : t.val % 36 = 35 := (flush0_7 t).mp hf
  have hi := tidx7 (grid0.coords t)
  obtain ⟨Y, _, hR⟩ := hL 7 t hf
  rw [after_7] at hR
  show (cfg0.win 7).cut (grid0.coords t) (after 7 t) = _
  funext j
  obtain ⟨a, q, rfl⟩ : ∃ (a : Fin 512) (q : Fin 7168), j = ValueIdx.ix2 a q := ⟨j 0, j 1, ValueIdx.eq_ix2 j⟩
  have hj : (((cfg0.win 7).blk t).view.emb (ValueIdx.ix2 a q) : S12288x7168.Idx) = ValueIdx.ix2 ⟨512 * (t.val / 36) + a.val, by omega⟩ q := by
    funext b
    apply Fin.ext
    match b with
    | ⟨0, _⟩ => show cc0_transform_7 (grid0.coords t) 0 * 512 + 1 * a.val = 512 * (t.val / 36) + a.val; rw [hi.1, coords0]; omega
    | ⟨1, _⟩ => show cc0_transform_7 (grid0.coords t) 1 * 7168 + 1 * q.val = q.val; rw [hi.2]; omega
  have hv : ∀ G : S12288x7168.Idx → EReal, ((cfg0.win 7).blk t).view.read (Elt Ideal) G (ValueIdx.ix2 a q) = G (ValueIdx.ix2 ⟨512 * (t.val / 36) + a.val, by omega⟩ q) := fun G => by
    rw [View.read_apply]
    show G (((cfg0.win 7).blk t).view.emb (ValueIdx.ix2 a q)) = _
    rw [hj]
  refine Eq.trans ?_ (hv (resDx m c)).symm
  refine (congrFun (hR h35) (ValueIdx.ix2 a q)).trans ?_
  exact dx_step m c t h35 a q _ rfl

theorem final_7 : ((rd m c).withAfter after).arrAt 7 cfg0.N = resDx m c :=
  ((rd m c).withAfter after).arrAt_eq_of_cover 7 (resDx m c) (flushed_7 m c after hL) fun i => by
    have h0 : (i 0 : Nat) < 12288 := (i 0).isLt
    have h1 : (i 1 : Nat) < 7168 := (i 1).isLt
    have hN : cfg0.N = 864 := N_0
    refine ⟨⟨36 * ((i 0 : Nat) / 512) + 35, by omega⟩, (flush0_7 _).mpr (by dsimp only; omega), ?_⟩
    generalize ht : (⟨36 * ((i 0 : Nat) / 512) + 35, _⟩ : Fin cfg0.N) = t
    have ht' : t.val = 36 * ((i 0 : Nat) / 512) + 35 := by rw [← ht]
    have hi := tidx7 (grid0.coords t)
    show i ∈ ((View.whole main_v3_0).slice (win0_7.rect t)).set
    rw [View.set_slice_whole, Rect.mem_set_unit]
    intro a
    match a with
    | ⟨0, _⟩ =>
      show cc0_transform_7 (grid0.coords t) 0 * 512 ≤ (i 0 : Nat) ∧ (i 0 : Nat) < cc0_transform_7 (grid0.coords t) 0 * 512 + 512
      rw [hi.1, coords0]; omega
    | ⟨1, _⟩ =>
      show cc0_transform_7 (grid0.coords t) 1 * 7168 ≤ (i 1 : Nat) ∧ (i 1 : Nat) < cc0_transform_7 (grid0.coords t) 1 * 7168 + 7168
      rw [hi.2]; omega

theorem flushed_8 (t : Fin cfg0.N) (hf : (cfg0.win 8).flush t = true) :
    ((rd m c).withAfter after).flushed 8 t = ((cfg0.win 8).blk t).view.read (Elt Ideal) (resDb m c) := by
  have ht : t.val < 864 := Nat.lt_of_lt_of_eq t.isLt N_0
  have h35 : t.val % 864 = 863 := (flush0_8 t).mp hf
  have hi := tidx8 (grid0.coords t)
  obtain ⟨Y, _, hR⟩ := hL 8 t hf
  rw [after_8] at hR
  show (cfg0.win 8).cut (grid0.coords t) (after 8 t) = _
  funext j
  obtain ⟨a, q, rfl⟩ : ∃ (a : Fin 32) (q : Fin 18432), j = ValueIdx.ix2 a q := ⟨j 0, j 1, ValueIdx.eq_ix2 j⟩
  have hj : (((cfg0.win 8).blk t).view.emb (ValueIdx.ix2 a q) : S32x18432.Idx) = ValueIdx.ix2 a q := by
    funext b
    apply Fin.ext
    match b with
    | ⟨0, _⟩ => show cc0_transform_8 (grid0.coords t) 0 * 32 + 1 * a.val = a.val; rw [hi.1]; omega
    | ⟨1, _⟩ => show cc0_transform_8 (grid0.coords t) 1 * 18432 + 1 * q.val = q.val; rw [hi.2]; omega
  have hv : ∀ G : S32x18432.Idx → EReal, ((cfg0.win 8).blk t).view.read (Elt Ideal) G (ValueIdx.ix2 a q) = G (ValueIdx.ix2 a q) := fun G => by
    rw [View.read_apply]
    show G (((cfg0.win 8).blk t).view.emb (ValueIdx.ix2 a q)) = _
    rw [hj]
  refine Eq.trans ?_ (hv (resDb m c)).symm
  have hq := q.isLt
  have er : rowsAt t.val q.val = 24 := by unfold rowsAt; rw [if_pos (by omega)]; omega
  refine (hR a q (by rw [er]; omega)).trans ?_
  rw [er]

theorem final_8 : ((rd m c).withAfter after).arrAt 8 cfg0.N = resDb m c :=
  ((rd m c).withAfter after).arrAt_eq_of_cover 8 (resDb m c) (flushed_8 m c after hL) fun i => by
    have h0 : (i 0 : Nat) < 32 := (i 0).isLt
    have h1 : (i 1 : Nat) < 18432 := (i 1).isLt
    have hN : cfg0.N = 864 := N_0
    refine ⟨⟨863, by omega⟩, (flush0_8 _).mpr (by dsimp only), ?_⟩
    generalize ht : (⟨863, _⟩ : Fin cfg0.N) = t
    have ht' : t.val = 863 := by rw [← ht]
    have hi := tidx8 (grid0.coords t)
    show i ∈ ((View.whole main_v3_1).slice (win0_8.rect t)).set
    rw [View.set_slice_whole, Rect.mem_set_unit]
    intro a
    match a with
    | ⟨0, _⟩ =>
      show cc0_transform_8 (grid0.coords t) 0 * 32 ≤ (i 0 : Nat) ∧ (i 0 : Nat) < cc0_transform_8 (grid0.coords t) 0 * 32 + 32
      rw [hi.1]; omega
    | ⟨1, _⟩ =>
      show cc0_transform_8 (grid0.coords t) 1 * 18432 ≤ (i 1 : Nat) ∧ (i 1 : Nat) < cc0_transform_8 (grid0.coords t) 1 * 18432 + 18432
      rw [hi.2]; omega

theorem flushed_9 (t : Fin cfg0.N) (hf : (cfg0.win 9).flush t = true) :
    ((rd m c).withAfter after).flushed 9 t = ((cfg0.win 9).blk t).view.read (Elt Ideal) (resT m c) := by
  have ht : t.val < 864 := Nat.lt_of_lt_of_eq t.isLt N_0
  have h35 : t.val % 36 = 35 := (flush0_9 t).mp hf
  have hi := tidx9 (grid0.coords t)
  obtain ⟨Y, _, hR⟩ := hL 9 t hf
  rw [after_9] at hR
  show (cfg0.win 9).cut (grid0.coords t) (after 9 t) = _
  funext j
  obtain ⟨a, q, rfl⟩ : ∃ (a : Fin 512) (q : Fin 32), j = ValueIdx.ix2 a q := ⟨j 0, j 1, ValueIdx.eq_ix2 j⟩
  have hj : (((cfg0.win 9).blk t).view.emb (ValueIdx.ix2 a q) : S12288x32.Idx) = ValueIdx.ix2 ⟨512 * (t.val / 36) + a.val, by omega⟩ q := by
    funext b
    apply Fin.ext
    match b with
    | ⟨0, _⟩ => show cc0_transform_9 (grid0.coords t) 0 * 512 + 1 * a.val = 512 * (t.val / 36) + a.val; rw [hi.1, coords0]; omega
    | ⟨1, _⟩ => show cc0_transform_9 (grid0.coords t) 1 * 32 + 1 * q.val = q.val; rw [hi.2]; omega
  have hv : ∀ G : S12288x32.Idx → EReal, ((cfg0.win 9).blk t).view.read (Elt Ideal) G (ValueIdx.ix2 a q) = G (ValueIdx.ix2 ⟨512 * (t.val / 36) + a.val, by omega⟩ q) := fun G => by
    rw [View.read_apply]
    show G (((cfg0.win 9).blk t).view.emb (ValueIdx.ix2 a q)) = _
    rw [hj]
  refine Eq.trans ?_ (hv (resT m c)).symm
  refine (congrFun hR (ValueIdx.ix2 a q)).trans ?_
  show tP _ _ _ (512 * (t.val % 36 + 1)) (512 * (t.val / 36) + a.val) q.val = _
  rw [h35]
  rfl

theorem final_9 : ((rd m c).withAfter after).arrAt 9 cfg0.N = resT m c :=
  ((rd m c).withAfter after).arrAt_eq_of_cover 9 (resT m c) (flushed_9 m c after hL) fun i => by
    have h0 : (i 0 : Nat) < 12288 := (i 0).isLt
    have h1 : (i 1 : Nat) < 32 := (i 1).isLt
    have hN : cfg0.N = 864 := N_0
    refine ⟨⟨36 * ((i 0 : Nat) / 512) + 35, by omega⟩, (flush0_9 _).mpr (by dsimp only; omega), ?_⟩
    generalize ht : (⟨36 * ((i 0 : Nat) / 512) + 35, _⟩ : Fin cfg0.N) = t
    have ht' : t.val = 36 * ((i 0 : Nat) / 512) + 35 := by rw [← ht]
    have hi := tidx9 (grid0.coords t)
    show i ∈ ((View.whole main_v3_2).slice (win0_9.rect t)).set
    rw [View.set_slice_whole, Rect.mem_set_unit]
    intro a
    match a with
    | ⟨0, _⟩ =>
      show cc0_transform_9 (grid0.coords t) 0 * 512 ≤ (i 0 : Nat) ∧ (i 0 : Nat) < cc0_transform_9 (grid0.coords t) 0 * 512 + 512
      rw [hi.1, coords0]; omega
    | ⟨1, _⟩ =>
      show cc0_transform_9 (grid0.coords t) 1 * 32 ≤ (i 1 : Nat) ∧ (i 1 : Nat) < cc0_transform_9 (grid0.coords t) 1 * 32 + 32
      rw [hi.2]; omega

end

/-- The kernel's run, read: the three results at the plain sums, the arguments unchanged. -/
theorem run : θ_run defs (onTc (τ := τ) (main (F := Ideal))) ⟨m, fun _ => 0, ρ⟩ fun r => ∀ c : Dev nD,
      r.2.mem ((c.tc : Thread nD τ).loc main_v3_0) = resDx m c
      ∧ r.2.mem ((c.tc : Thread nD τ).loc main_v3_1) = resDb m c
      ∧ r.2.mem ((c.tc : Thread nD τ).loc main_v3_2) = resT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨after, hL, hA⟩ := RDat.FramePost.exists_exact h.1 c
    exact ⟨(hA 7).trans (final_7 m c after hL), (hA 8).trans (final_8 m c after hL), (hA 9).trans (final_9 m c after hL), h.2 c⟩)
    (θ_run_and ((θ_run defs _ _).mono (fun _ h => h.1) (run_main_quiescent m ρ)) ((θ_run defs _ _).mono (fun _ h => h.1) (frame m ρ)))

end Cert.MainValue

end
-- ==== Proof.MainRefValue.lean ====
/- What the reference of the main kernel computes over the reals: the three plain sums. -/
module

public import proofs.«01_k».proof.Proof.Gen.MainRefIdeal.Read
public import proofs.«01_k».proof.Proof.MainSpec
public import Idealize.ShloMosaic.Lib.TwoAxisContraction

@[expose] public section

noncomputable section

namespace Cert.MainValue

open Idealize.ShloMosaic Idealize.ShloMosaic.TcCoe Idealize.SL.Sem
open Cert.MainRefIdeal Cert.MainRefIdeal.Gen

section Casts
variable (m : (ℓ : Loc nD τ sig) → Buf (Elt Ideal) ℓ)

/-- The reference's first cast of the gradient is the identity over the reals. -/
theorem reg0_eq (c : Dev nD) : Value.reg_main_v0_0 m c = (m ((c.tc : Thread nD τ).loc main_arg0) : SDy.Idx → EReal) := by
  unfold Value.reg_main_v0_0
  have hz : (![0, 0, 0] : Fin 3 → ℕ) = fun _ => 0 := funext fun a => by fin_cases a <;> rfl
  have hout : ∀ (x0 : Vec Ideal S3x4096x18432 .fp8e5m2) (x1 : Vec Ideal S7168x18432 .fp8e4m3), out0_2 x0 x1 = k0_pay1 x0 := fun x0 x1 => by
    unfold out0_2
    rw [View.canon_unit_zero (S := S3x4096x18432) hz, View.ld_unit_zero (S := S3x4096x18432) hz]
  refine (dats m 0 c).arrAt_eq_of_cover 2 _ (fun t _ => ?_) fun i => ⟨t0_0, flush0_2 t0_0, ?_⟩
  · obtain rfl := fin_N0 t
    show (cfg0.win 2).cut (grid0.coords t0_0) ((dats m 0 c).after 2 t0_0) = _
    rw [after0_2, hout]
    have hz1 : (fun a => win0_2.index t0_0 a * main_v0_0.ty.shape.size a) = fun _ => 0 := funext fun a => by fin_cases a <;> decide
    have hz0 : (fun a => win0_0.index t0_0 a * main_arg0.ty.shape.size a) = fun _ => 0 := funext fun a => by fin_cases a <;> decide
    refine Eq.trans ?_ (Memref.read_access_unit_zero (Elt Ideal) main_v0_0 hz1 (fun a => by rw [congrFun hz1 a]; simp) _).symm
    have e0 : iblk m c 0 t0_0 = V m c main_arg0 :=
      Memref.read_access_unit_zero (Elt Ideal) main_arg0 hz0 (fun a => by rw [congrFun hz0 a]; simp) _
    rw [e0, V_main_arg0]
    rfl
  · show i ∈ ((View.whole main_v0_0).slice (win0_2.rect t0_0)).set
    rw [View.set_slice_whole, Rect.mem_set_unit]
    intro a
    have h0 : (i 0 : Nat) < 3 := (i 0).isLt
    have h1 : (i 1 : Nat) < 4096 := (i 1).isLt
    have h2 : (i 2 : Nat) < 18432 := (i 2).isLt
    match a with
    | ⟨0, _⟩ =>
      show win0_2.index t0_0 0 * win0_2.size 0 ≤ (i 0 : Nat) ∧ (i 0 : Nat) < win0_2.index t0_0 0 * win0_2.size 0 + win0_2.xsize (grid0.coords t0_0) 0
      rw [show win0_2.index t0_0 0 * win0_2.size 0 = 0 from by decide +kernel, show win0_2.xsize (grid0.coords t0_0) 0 = 3 from by decide +kernel]; omega
    | ⟨1, _⟩ =>
      show win0_2.index t0_0 1 * win0_2.size 1 ≤ (i 1 : Nat) ∧ (i 1 : Nat) < win0_2.index t0_0 1 * win0_2.size 1 + win0_2.xsize (grid0.coords t0_0) 1
      rw [show win0_2.index t0_0 1 * win0_2.size 1 = 0 from by decide +kernel, show win0_2.xsize (grid0.coords t0_0) 1 = 4096 from by decide +kernel]; omega
    | ⟨2, _⟩ =>
      show win0_2.index t0_0 2 * win0_2.size 2 ≤ (i 2 : Nat) ∧ (i 2 : Nat) < win0_2.index t0_0 2 * win0_2.size 2 + win0_2.xsize (grid0.coords t0_0) 2
      rw [show win0_2.index t0_0 2 * win0_2.size 2 = 0 from by decide +kernel, show win0_2.xsize (grid0.coords t0_0) 2 = 18432 from by decide +kernel]; omega

/-- The reference's second cast of the gradient is the identity over the reals. -/
theorem reg1_eq (c : Dev nD) : Value.reg_main_v0_1 m c = (m ((c.tc : Thread nD τ).loc main_arg0) : SDy.Idx → EReal) := by
  unfold Value.reg_main_v0_1
  have hz : (![0, 0, 0] : Fin 3 → ℕ) = fun _ => 0 := funext fun a => by fin_cases a <;> rfl
  have hout : ∀ (x0 : Vec Ideal S3x4096x18432 .fp8e5m2) (x1 : Vec Ideal S7168x18432 .fp8e4m3), out0_3 x0 x1 = k0_pay2 x0 := fun x0 x1 => by
    unfold out0_3
    rw [View.canon_unit_zero (S := S3x4096x18432) hz, View.ld_unit_zero (S := S3x4096x18432) hz]
  refine (dats m 0 c).arrAt_eq_of_cover 3 _ (fun t _ => ?_) fun i => ⟨t0_0, flush0_3 t0_0, ?_⟩
  · obtain rfl := fin_N0 t
    show (cfg0.win 3).cut (grid0.coords t0_0) ((dats m 0 c).after 3 t0_0) = _
    rw [after0_3, hout]
    have hz1 : (fun a => win0_3.index t0_0 a * main_v0_1.ty.shape.size a) = fun _ => 0 := funext fun a => by fin_cases a <;> decide
    have hz0 : (fun a => win0_0.index t0_0 a * main_arg0.ty.shape.size a) = fun _ => 0 := funext fun a => by fin_cases a <;> decide
    refine Eq.trans ?_ (Memref.read_access_unit_zero (Elt Ideal) main_v0_1 hz1 (fun a => by rw [congrFun hz1 a]; simp) _).symm
    have e0 : iblk m c 0 t0_0 = V m c main_arg0 :=
      Memref.read_access_unit_zero (Elt Ideal) main_arg0 hz0 (fun a => by rw [congrFun hz0 a]; simp) _
    rw [e0, V_main_arg0]
    rfl
  · show i ∈ ((View.whole main_v0_1).slice (win0_3.rect t0_0)).set
    rw [View.set_slice_whole, Rect.mem_set_unit]
    intro a
    have h0 : (i 0 : Nat) < 3 := (i 0).isLt
    have h1 : (i 1 : Nat) < 4096 := (i 1).isLt
    have h2 : (i 2 : Nat) < 18432 := (i 2).isLt
    match a with
    | ⟨0, _⟩ =>
      show win0_3.index t0_0 0 * win0_3.size 0 ≤ (i 0 : Nat) ∧ (i 0 : Nat) < win0_3.index t0_0 0 * win0_3.size 0 + win0_3.xsize (grid0.coords t0_0) 0
      rw [show win0_3.index t0_0 0 * win0_3.size 0 = 0 from by decide +kernel, show win0_3.xsize (grid0.coords t0_0) 0 = 3 from by decide +kernel]; omega
    | ⟨1, _⟩ =>
      show win0_3.index t0_0 1 * win0_3.size 1 ≤ (i 1 : Nat) ∧ (i 1 : Nat) < win0_3.index t0_0 1 * win0_3.size 1 + win0_3.xsize (grid0.coords t0_0) 1
      rw [show win0_3.index t0_0 1 * win0_3.size 1 = 0 from by decide +kernel, show win0_3.xsize (grid0.coords t0_0) 1 = 4096 from by decide +kernel]; omega
    | ⟨2, _⟩ =>
      show win0_3.index t0_0 2 * win0_3.size 2 ≤ (i 2 : Nat) ∧ (i 2 : Nat) < win0_3.index t0_0 2 * win0_3.size 2 + win0_3.xsize (grid0.coords t0_0) 2
      rw [show win0_3.index t0_0 2 * win0_3.size 2 = 0 from by decide +kernel, show win0_3.xsize (grid0.coords t0_0) 2 = 18432 from by decide +kernel]; omega

/-- The reference's cast of the weight is the identity over the reals. -/
theorem reg2_eq (c : Dev nD) : Value.reg_main_v0_2 m c = (m ((c.tc : Thread nD τ).loc main_arg2) : SW.Idx → EReal) := by
  unfold Value.reg_main_v0_2
  have hz : (![0, 0] : Fin 2 → ℕ) = fun _ => 0 := funext fun a => by fin_cases a <;> rfl
  have hout : ∀ (x0 : Vec Ideal S3x4096x18432 .fp8e5m2) (x1 : Vec Ideal S7168x18432 .fp8e4m3), out0_4 x0 x1 = k0_pay3 x1 := fun x0 x1 => by
    unfold out0_4
    rw [View.canon_unit_zero (S := S7168x18432) hz, View.ld_unit_zero (S := S7168x18432) hz]
  refine (dats m 0 c).arrAt_eq_of_cover 4 _ (fun t _ => ?_) fun i => ⟨t0_0, flush0_4 t0_0, ?_⟩
  · obtain rfl := fin_N0 t
    show (cfg0.win 4).cut (grid0.coords t0_0) ((dats m 0 c).after 4 t0_0) = _
    rw [after0_4, hout]
    have hz1 : (fun a => win0_4.index t0_0 a * main_v0_2.ty.shape.size a) = fun _ => 0 := funext fun a => by fin_cases a <;> decide
    have hz0 : (fun a => win0_1.index t0_0 a * main_arg2.ty.shape.size a) = fun _ => 0 := funext fun a => by fin_cases a <;> decide
    refine Eq.trans ?_ (Memref.read_access_unit_zero (Elt Ideal) main_v0_2 hz1 (fun a => by rw [congrFun hz1 a]; simp) _).symm
    have e0 : iblk m c 1 t0_0 = V m c main_arg2 :=
      Memref.read_access_unit_zero (Elt Ideal) main_arg2 hz0 (fun a => by rw [congrFun hz0 a]; simp) _
    rw [e0, V_main_arg2]
    rfl
  · show i ∈ ((View.whole main_v0_2).slice (win0_4.rect t0_0)).set
    rw [View.set_slice_whole, Rect.mem_set_unit]
    intro a
    have h0 : (i 0 : Nat) < 7168 := (i 0).isLt
    have h1 : (i 1 : Nat) < 18432 := (i 1).isLt
    match a with
    | ⟨0, _⟩ =>
      show win0_4.index t0_0 0 * win0_4.size 0 ≤ (i 0 : Nat) ∧ (i 0 : Nat) < win0_4.index t0_0 0 * win0_4.size 0 + win0_4.xsize (grid0.coords t0_0) 0
      rw [show win0_4.index t0_0 0 * win0_4.size 0 = 0 from by decide +kernel, show win0_4.xsize (grid0.coords t0_0) 0 = 7168 from by decide +kernel]; omega
    | ⟨1, _⟩ =>
      show win0_4.index t0_0 1 * win0_4.size 1 ≤ (i 1 : Nat) ∧ (i 1 : Nat) < win0_4.index t0_0 1 * win0_4.size 1 + win0_4.xsize (grid0.coords t0_0) 1
      rw [show win0_4.index t0_0 1 * win0_4.size 1 = 0 from by decide +kernel, show win0_4.xsize (grid0.coords t0_0) 1 = 18432 from by decide +kernel]; omega

end Casts

section Values
variable (x1 : (⟨S3x4096x576, .f32⟩ : BufTy).Contents (Elt Ideal)) (x3 : (⟨S18432, .f32⟩ : BufTy).Contents (Elt Ideal))
  (x4 : (⟨S32x18432, .bf16⟩ : BufTy).Contents (Elt Ideal)) (x5 : (⟨S7168x32, .bf16⟩ : BufTy).Contents (Elt Ideal))
  (x6 : (⟨S12288x32, .f32⟩ : BufTy).Contents (Elt Ideal)) (r0 : (⟨S3x4096x18432, .bf16⟩ : BufTy).Contents (Elt Ideal))
  (r1 : (⟨S3x4096x18432, .f32⟩ : BufTy).Contents (Elt Ideal)) (r2 : (⟨S7168x18432, .bf16⟩ : BufTy).Contents (Elt Ideal))

/-- The dequantised gradient of the reference at an element, row and column written as naturals. -/
theorem g_apply (y : SDy.Idx → EReal) (y' : SDs.Idx → EReal) (i j : SDy.Idx) (k : SDs.Idx) (R n : ℕ)
    (hR : R = 4096 * (i 0).val + (i 1).val) (hn : n = (i 2).val)
    (j0 : (j 0).val = (i 0).val) (j1 : (j 1).val = (i 1).val) (j2 : (j 2).val = (i 2).val)
    (k0 : (k 0).val = (i 0).val) (k1 : (k 1).val = (i 1).val) (k2 : (k 2).val = (i 2).val / 32) :
    y j * y' k = gR y y' R n := by
  have h0 : (i 0).val < 3 := (i 0).isLt
  have h1 : (i 1).val < 4096 := (i 1).isLt
  have h2 : (i 2).val < 18432 := (i 2).isLt
  unfold gR
  rw [dif_pos ⟨by omega, by omega⟩]
  refine congrArg₂ (· * ·) (congrArg y ?_) (congrArg y' ?_) <;> funext a <;> apply Fin.ext
  · match a with
    | ⟨0, _⟩ => show (j 0).val = R / 4096; omega
    | ⟨1, _⟩ => show (j 1).val = R % 4096; omega
    | ⟨2, _⟩ => show (j 2).val = n; omega
  · match a with
    | ⟨0, _⟩ => show (k 0).val = R / 4096; omega
    | ⟨1, _⟩ => show (k 1).val = R % 4096; omega
    | ⟨2, _⟩ => show (k 2).val = n / 32; omega

theorem v6_at (i : SDy.Idx) (R n : ℕ) (hR : R = 4096 * (i 0).val + (i 1).val) (hn : n = (i 2).val) :
    Read.val_main_v6 (F := Ideal) x1 r0 i = gR r0 x1 R n := by
  have h0 : (i 0).val < 3 := (i 0).isLt
  have h1 : (i 1).val < 4096 := (i 1).isLt
  have h2 : (i 2).val < 18432 := (i 2).isLt
  rw [Read.val_main_v6_apply, Read.val_main_v5_apply, Read.val_main_v1_apply, Read.val_main_v4_apply, Read.val_main_v3_apply, Read.val_main_v2_apply]
  refine g_apply r0 x1 i _ _ R n hR hn ?_ ?_ ?_ ?_ ?_ ?_
  · dsimp only [Read.idx_main_v1, Read.idx_main_v6]; omega
  · dsimp only [Read.idx_main_v1, Read.idx_main_v6]; omega
  · dsimp only [Read.idx_main_v1, Read.idx_main_v6]; omega
  · dsimp only [Read.idx_main_v3, Read.idx_main_v4, Read.idx_main_v6]; omega
  · dsimp only [Read.idx_main_v3, Read.idx_main_v4, Read.idx_main_v6]; omega
  · dsimp only [Read.idx_main_v3, Read.idx_main_v4, Read.idx_main_v6]; omega

theorem v28_at (i : SDy.Idx) (R n : ℕ) (hR : R = 4096 * (i 0).val + (i 1).val) (hn : n = (i 2).val) :
    Read.val_main_v28 (F := Ideal) x1 r1 i = gR r1 x1 R n := by
  have h0 : (i 0).val < 3 := (i 0).isLt
  have h1 : (i 1).val < 4096 := (i 1).isLt
  have h2 : (i 2).val < 18432 := (i 2).isLt
  rw [Read.val_main_v28_apply, Read.val_main_v27_apply, Read.val_main_v24_apply, Read.val_main_v26_apply, Read.val_main_v25_apply]
  refine g_apply r1 x1 i _ _ R n hR hn ?_ ?_ ?_ ?_ ?_ ?_
  · dsimp only [Read.idx_main_v24, Read.idx_main_v28]; omega
  · dsimp only [Read.idx_main_v24, Read.idx_main_v28]; omega
  · dsimp only [Read.idx_main_v24, Read.idx_main_v28]; omega
  · dsimp only [Read.idx_main_v25, Read.idx_main_v26, Read.idx_main_v28]; omega
  · dsimp only [Read.idx_main_v25, Read.idx_main_v26, Read.idx_main_v28]; omega
  · dsimp only [Read.idx_main_v25, Read.idx_main_v26, Read.idx_main_v28]; omega

/-- The scaled weight of the reference. -/
theorem v11_at (i : SW.Idx) : Read.val_main_v11 (F := Ideal) x3 r2 i = wR r2 x3 (i 0).val (i 1).val := by
  have h0 : (i 0).val < 7168 := (i 0).isLt
  have h1 : (i 1).val < 18432 := (i 1).isLt
  rw [Read.val_main_v11_apply, Read.val_main_v10_apply, Read.val_main_v9_apply, Read.val_main_v8_apply]
  unfold wR
  rw [dif_pos ⟨h0, h1⟩]
  refine congrArg₂ (· * ·) (congrArg r2 ?_) (congrArg x3 ?_) <;> funext a <;> apply Fin.ext
  · match a with
    | ⟨0, _⟩ => rfl
    | ⟨1, _⟩ => rfl
  · match a with
    | ⟨0, _⟩ => rfl

/-- The gradient times the up projection, of the reference. -/
theorem v7_at (i : S3x4096x32.Idx) (R : ℕ) (hR : R = 4096 * (i 0).val + (i 1).val) :
    Read.val_main_v7 (F := Ideal) x1 x4 r0 i = tP r0 x1 x4 18432 R (i 2).val := by
  have h2 : (i 2).val < 32 := (i 2).isLt
  rw [Read.val_main_v7_apply]
  unfold tP
  rw [Finset.sum_range]
  refine Finset.sum_congr rfl fun k _ => ?_
  rw [v6_at x1 r0 (Read.lidx_main_v7 i k) R k.val hR rfl]
  refine congrArg (gR r0 x1 R k.val * ·) ?_
  unfold bR
  rw [dif_pos ⟨h2, k.isLt⟩]
  refine congrArg x4 (funext fun a => Fin.ext ?_)
  match a with
  | ⟨0, _⟩ => rfl
  | ⟨1, _⟩ => rfl

/-- The reference's product with the weight. -/
theorem v12_at (i : S3x4096x7168.Idx) (R : ℕ) (hR : R = 4096 * (i 0).val + (i 1).val) :
    Read.val_main_v12 (F := Ideal) x1 x3 r0 r2 i = gP r0 x1 r2 x3 18432 R (i 2).val := by
  rw [Read.val_main_v12_apply]
  unfold gP
  rw [Finset.sum_range]
  refine Finset.sum_congr rfl fun k _ => ?_
  rw [v6_at x1 r0 (Read.lidx_main_v12 i k) R k.val hR rfl, v11_at]

/-- The reference's gradient of the input. -/
theorem v23_at (i : S3x4096x7168.Idx) (y : SDx.Idx) (hR : (y 0).val = 4096 * (i 0).val + (i 1).val) (hy : (y 1).val = (i 2).val) :
    Read.val_main_v23 (F := Ideal) x1 x3 x4 x5 r0 r2 i = specDx r0 x1 r2 x3 x4 x5 y := by
  rw [Read.val_main_v23_apply, Read.val_main_v22_apply, Read.val_main_v21_apply, Read.val_main_v20_apply, Read.val_main_v19_apply,
    Read.val_main_v16_apply, Read.val_main_v18_apply, v12_at x1 x3 r0 r2 i _ hR]
  have e5 : ∀ k : Fin 32, Read.ridx_main_v16 i k = ValueIdx.ix2 (y 1) k := fun k => funext fun a => Fin.ext (by
    match a with
    | ⟨0, _⟩ => exact hy.symm
    | ⟨1, _⟩ => rfl)
  have eT : ∀ k : Fin 32, Read.val_main_v7 (F := Ideal) x1 x4 r0 (Read.lidx_main_v16 i k) = tP r0 x1 x4 18432 (y 0).val k.val :=
    fun k => v7_at x1 x4 r0 _ _ hR
  have ea : ∀ k : Fin 32, Read.val_main_v14 (F := Ideal) x1 x4 r0 (Read.lidx_main_v16 i k) * Read.val_main_v15 (F := Ideal) x5 (Read.ridx_main_v16 i k)
      = tP r0 x1 x4 18432 (y 0).val k.val * x5 (ValueIdx.ix2 (y 1) k) := fun k => by
    rw [Read.val_main_v14_apply, Read.val_main_v13_apply, Read.val_main_v15_apply, eT, e5]; rfl
  have eb : ∀ k : Fin 32, Read.val_main_v17 (F := Ideal) x1 x4 r0 (Read.lidx_main_v18 i k) * Read.val_main_v15 (F := Ideal) x5 (Read.ridx_main_v18 i k)
      = rest (tP r0 x1 x4 18432 (y 0).val k.val) * x5 (ValueIdx.ix2 (y 1) k) := fun k => by
    show Read.val_main_v17 (F := Ideal) x1 x4 r0 (Read.lidx_main_v16 i k) * Read.val_main_v15 (F := Ideal) x5 (Read.ridx_main_v16 i k) = _
    rw [Read.val_main_v17_apply, Read.val_main_v14_apply, Read.val_main_v13_apply, Read.val_main_v15_apply, eT, e5]; rfl
  simp only [ea, eb]
  unfold specDx
  rw [hy]
  rfl

/-- The first result of the reference. -/
theorem v33_eq : Read.val_main_v33 (F := Ideal) x1 x3 x4 x5 r0 r2 = specDx r0 x1 r2 x3 x4 x5 := by
  funext y
  have h0 : (y 0).val < 12288 := (y 0).isLt
  have h1 : (y 1).val < 7168 := (y 1).isLt
  rw [Read.val_main_v33_apply]
  refine v23_at x1 x3 x4 x5 r0 r2 _ y ?_ ?_
  · dsimp only [Read.idx_main_v33]; omega
  · dsimp only [Read.idx_main_v33]; omega

/-- The third result of the reference. -/
theorem v34_eq : Read.val_main_v34 (F := Ideal) x1 x4 r0 = specT r0 x1 x4 := by
  funext y
  have h0 : (y 0).val < 12288 := (y 0).isLt
  have h1 : (y 1).val < 32 := (y 1).isLt
  rw [Read.val_main_v34_apply]
  refine (v7_at x1 x4 r0 (Read.idx_main_v34 y) (y 0).val ?_).trans ?_
  · dsimp only [Read.idx_main_v34]; omega
  · unfold specT
    refine congrArg (tP r0 x1 x4 18432 (y 0).val) ?_
    dsimp only [Read.idx_main_v34]; omega

/-- The input times the down projection, reshaped. -/
theorem v29_at (i : S3x4096x32.Idx) (R : ℕ) (hR : R = 4096 * (i 0).val + (i 1).val) :
    Read.val_main_v29 (F := Ideal) x6 i = xR x6 R (i 2).val := by
  have h0 : (i 0).val < 3 := (i 0).isLt
  have h1 : (i 1).val < 4096 := (i 1).isLt
  have h2 : (i 2).val < 32 := (i 2).isLt
  rw [Read.val_main_v29_apply]
  unfold xR
  rw [dif_pos ⟨by omega, h2⟩]
  refine congrArg x6 (funext fun a => Fin.ext ?_)
  match a with
  | ⟨0, _⟩ => show (((i 0).val * 4096 + (i 1).val) * 32 + (i 2).val) / 32 = R; omega
  | ⟨1, _⟩ => show (((i 0).val * 4096 + (i 1).val) * 32 + (i 2).val) % 32 = (i 2).val; omega

/-- The reference's product over the rows, a sum over batch and position, as one sum over the rows. -/
theorem v30_at (y : SLb.Idx) : Read.val_main_v30 (F := Ideal) x1 x6 r1 y
    = ∑ R ∈ Finset.range 12288, xR x6 R (y 0).val * gR r1 x1 R (y 1).val := by
  unfold Read.val_main_v30
  have hd : ∀ (A : (⟨S3x4096x32, .f32⟩ : BufTy).Contents (Elt Ideal)) (B : (⟨S3x4096x18432, .f32⟩ : BufTy).Contents (Elt Ideal)),
      Host.dotGeneral (F := Ideal) dot_S3x4096x32_S3x4096x18432_S32x18432_01_01_2_2_n_n (some .fp32) A B y
        = ∑ a : Fin 3, ∑ b : Fin 4096, A (ValueIdx.ix3 a b (y 0)) * B (ValueIdx.ix3 a b (y 1)) := fun A B => by
    simp only [Host.dotGeneral]
    rw [Ideal.dotGeneral_apply, ValueIdx.sum_contr2 dot_S3x4096x32_S3x4096x18432_S32x18432_01_01_2_2_n_n 3 4096 rfl rfl rfl]
    refine Finset.sum_congr rfl fun a _ => Finset.sum_congr rfl fun b _ => ?_
    have k0 := ValueIdx.contrEquiv2_symm_val0 dot_S3x4096x32_S3x4096x18432_S32x18432_01_01_2_2_n_n 3 4096 rfl rfl rfl (a, b)
    have k1 := ValueIdx.contrEquiv2_symm_val1 dot_S3x4096x32_S3x4096x18432_S32x18432_01_01_2_2_n_n 3 4096 rfl rfl rfl (a, b)
    generalize (ValueIdx.contrEquiv2 dot_S3x4096x32_S3x4096x18432_S32x18432_01_01_2_2_n_n 3 4096 rfl rfl rfl).symm (a, b) = q at k0 k1
    refine congrArg₂ (· * ·) (congrArg A ?_) (congrArg B ?_) <;> funext e <;> apply Fin.ext
    · match e with
      | ⟨0, _⟩ => exact k0
      | ⟨1, _⟩ => exact k1
      | ⟨2, _⟩ => rfl
    · match e with
      | ⟨0, _⟩ => exact k0
      | ⟨1, _⟩ => exact k1
      | ⟨2, _⟩ => rfl
  rw [hd, ← Cert.Common.sum_blocks (fun R => xR x6 R (y 0).val * gR r1 x1 R (y 1).val) 4096 3, Finset.sum_range]
  refine Finset.sum_congr rfl fun a _ => ?_
  rw [Finset.sum_range]
  refine Finset.sum_congr rfl fun b _ => ?_
  rw [v29_at x6 _ (4096 * a.val + b.val) rfl, v28_at x1 r1 _ (4096 * a.val + b.val) (y 1).val rfl rfl]

/-- The second result of the reference. -/
theorem v32_eq : Read.val_main_v32 (F := Ideal) x1 x6 r1 = specDb r1 x1 x6 := by
  funext y
  rw [Read.val_main_v32_apply, Read.val_main_v31_apply, v30_at]
  rfl

end Values

/-- The reference's run, read: the three results at the plain sums, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = specDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v32) = specDb (m ((c.tc : Thread nD τ).loc main_arg0)) (m ((c.tc : Thread nD τ).loc main_arg1)) (m ((c.tc : Thread nD τ).loc main_arg6))
      ∧ r.2.mem ((c.tc : Thread nD τ).loc main_v34) = specT (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by
      have e := Read.val_main_v33_eq (F := Ideal) (Value.exitV m c)
      rw [Value.exit_main_arg1, Value.exit_main_arg3, Value.exit_main_arg4, Value.exit_main_arg5, Value.exit_main_v0_0, Value.exit_main_v0_2] at e
      rw [e, v33_eq, reg0_eq, reg2_eq]),
    (h c).2.1.trans (by
      have e := Read.val_main_v32_eq (F := Ideal) (Value.exitV m c)
      rw [Value.exit_main_arg1, Value.exit_main_arg6, Value.exit_main_v0_1] at e
      rw [e, v32_eq, reg1_eq]),
    (h c).2.2.1.trans (by
      have e := Read.val_main_v34_eq (F := Ideal) (Value.exitV m c)
      rw [Value.exit_main_arg1, Value.exit_main_arg4, Value.exit_main_v0_0] at e
      rw [e, v34_eq, reg0_eq]), (h c).2.2.2⟩) (Value.run m ρ)

end Cert.MainValue

end
-- ==== Proof.Finite.lean ====
/- A value that a comparison of its absolute value with infinity calls finite is a real number. -/
module

public import Idealize.ShloMosaic.Lib.StableHlo
public import Idealize.ShloMosaic.PureOps
public import Idealize.ShloMosaic.Lib.KernelVsHost

@[expose] public section

noncomputable section

namespace Cert.Common

open Idealize.ShloMosaic

/-- The absolute value is below infinity only of a real number. -/
theorem coe_of_finite (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | coe r => exact ⟨r, rfl⟩
  | top => simp [Ideal.cmp] at h'
  | bot => simp [Ideal.cmp] at h'

end Cert.Common

end
-- ==== Proof.MainClaim.lean ====
/- The claims about the main call of the kernel: over the reals the three results are the reference's. The second result needs the input
   times the down projection finite: its remainders are then zero. -/
module

public import proofs.«01_k».proof.Defs
public import proofs.«01_k».proof.Proof.MainValue
public import proofs.«01_k».proof.Proof.MainRefValue
public import proofs.«01_k».proof.Proof.Finite

@[expose] public section

noncomputable section

namespace Cert.MainValue

open Idealize.ShloMosaic Idealize.ShloMosaic.TcCoe Idealize.SL.Sem

/-- Under the precondition the input times the down projection has no remainder. -/
theorem rest_xa [Cert.Pre_finite_xa.Facts] (m : (ℓ : Loc Cert.MainIdeal.nD Cert.MainIdeal.τ Cert.MainIdeal.sig) → Buf (Elt Ideal) ℓ)
    (h : Cert.Pre_MainIdeal_finite_xa m) (c : Dev Cert.MainIdeal.nD) (y : SXa.Idx) :
    rest ((m ((c.tc : Thread Cert.MainIdeal.nD Cert.MainIdeal.τ).loc Cert.MainIdeal.main_arg6) : SXa.Idx → EReal) y) = 0 := by
  have e := congrFun (h c) y
  unfold Cert.Pre_finite_xa.fn at e
  obtain ⟨r, hr⟩ := Cert.Common.coe_of_finite _ e
  exact (congrArg rest hr).trans (rest_coe r)

theorem algebraic [Cert.MainIdeal.Facts] [Cert.MainRefIdeal.Facts] [Cert.Pre_finite_xa.Facts] :
    Cert.algebraic_MainIdeal_MainRefIdeal_pre_finite_xa := fun m g m' g' hp h =>
  ⟨fun c => resDx m c, fun c => resDb m c, fun c => resT m c, run m g,
    (θ_run _ _ _).mono (fun _ hr c => by
      obtain ⟨e0, e1, e2, e3, e4, e5, e6⟩ := h c
      obtain ⟨r0, r1, r2, ra⟩ := hr c
      refine ⟨r0.trans ?_, r1.trans ?_, r2.trans ?_, ra⟩
      · rw [e0, e1, e2, e3, e4, e5]
      · rw [e0, e1, e6]
        exact funext fun y => (dP_all _ _ _ (rest_xa m hp c) y).symm
      · rw [e0, e1, e4]) (ref_run m' g')⟩

end Cert.MainValue

end
-- ==== Proof.DaRun.lean ====
/- One run of the body of the kernel of the product of x with t, in each case of its branches, and its frame: what its result's
   buffer holds after each grid point may be restricted by any property the runs have. -/
module

public import proofs.«01_k».proof.Proof.Gen.Da.Frame
public import proofs.«01_k».proof.Proof.Gen.Da.Skeleton
public import proofs.«01_k».proof.Proof.Gen.Da.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.Pipeline.ArrRel

@[expose] public section

set_option maxRecDepth 16384

noncomputable section

namespace Cert.Da.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 24) — by arithmetic of the point. -/
theorem hcond0_0 : ∀ t : Fin cfg0.N, cond0_0 (grid0.coords t) ↔ t.val % 24 = 0 :=
  (fun t => by
    have ht : t.val < 336 := Nat.lt_of_lt_of_eq t.isLt N_0
    have e0 : (grid0.coords t 0).val = t.val / 24 % 14 := Pipeline.Grid.coords_val t 0 (by decide) rfl
    have e1 : (grid0.coords t 1).val = t.val / 1 % 24 := Pipeline.Grid.coords_val t 1 (by decide) rfl
    simp only [cond0_0, k0_cond1, e0, e1]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 24 :=
  (fun t => by
    have ht : t.val < 336 := Nat.lt_of_lt_of_eq t.isLt N_0
    have e0 : (grid0.coords t 0).val = t.val / 24 % 14 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ 1 ≤ t.val % 24)

/-- Each window's current staging memref at point `t`, spelled as the pipeline passes it (`bodyAt0`), and its wholeness. -/
abbrev ms0_0 (t : Fin cfg0.N) : Memref sig .tc .vmem S512x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)

/-! ## The runs -/

/-- A run of the body from given contents of its buffers: the pieces its stores leave in the block of the result (`L3`), over
    what it held; the inputs are left as they were. -/
structure Run (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole)
    (x0 : Vec F S512x512 .fp8e4m3) (x1 : Vec F S512x128 .f32) (x2 : Vec F S512x32 .f32) (x3 : Vec F S32x512 .f32) where
  L3 : List (View.Piece (Elt F) S32x512 .f32)
  run : ∀ (E : Set ℕ) (K : PUnit.{1} → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread x3) L3)) -∗ K ⟨⟩))
          ⊢ wp frame (wpE (defs₀ (F := F)) Variants.none c none) E (cc0_da i arg2 harg2 arg3 harg3 arg4 harg4 arg5 harg5) K

set_option maxHeartbeats 1000000 in
/-- The run at the first row block. -/
def runA (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole) (hc0 : cond0_0 i) (hc1 : ¬cond0_1 i)
    (x0 : Vec F S512x512 .fp8e4m3) (x1 : Vec F S512x128 .f32) (x2 : Vec F S512x32 .f32) (x3 : Vec F S32x512 .f32) : Run c i arg2 harg2 arg3 harg3 arg4 harg4 arg5 harg5 x0 x1 x2 x3 := by
  refine ⟨?_, fun E K => ?run⟩
  case run =>
    simp only [cc0_da_eq_skeleton]; unfold cc0_da_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact H3

set_option maxHeartbeats 1000000 in
/-- The run at a later row block. -/
def runB (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole) (hc0 : ¬cond0_0 i) (hc1 : cond0_1 i)
    (x0 : Vec F S512x512 .fp8e4m3) (x1 : Vec F S512x128 .f32) (x2 : Vec F S512x32 .f32) (x3 : Vec F S32x512 .f32) : Run c i arg2 harg2 arg3 harg3 arg4 harg4 arg5 harg5 x0 x1 x2 x3 := by
  refine ⟨?_, fun E K => ?run⟩
  case run =>
    simp only [cc0_da_eq_skeleton]; unfold cc0_da_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact H3

section
variable {c : Dev nD} {i : grid0.Coords} {arg2 : Memref sig .tc .vmem S512x512 .fp8e4m3} {harg2 : arg2.IsWhole} {arg3 : Memref sig .tc .vmem S512x128 .f32} {harg3 : arg3.IsWhole} {arg4 : Memref sig .tc .vmem S512x32 .f32} {harg4 : arg4.IsWhole} {arg5 : Memref sig .tc .vmem S32x512 .f32} {harg5 : arg5.IsWhole} {x0 : Vec F S512x512 .fp8e4m3} {x1 : Vec F S512x128 .f32} {x2 : Vec F S512x32 .f32} {x3 : Vec F S32x512 .f32}

/-- What the run leaves in the block of the result. -/
def Run.y3 (R : Run c i arg2 harg2 arg3 harg3 arg4 harg4 arg5 harg5 x0 x1 x2 x3) : Vec F S32x512 .f32 := arg5.view.read (Elt F) (arg5.view.writes (Elt F) (harg5.unread x3) R.L3)

/-- The run, with what the block of the result holds at the end read back. -/
theorem Run.body (R : Run c i arg2 harg2 arg3 harg3 arg4 harg4 arg5 harg5 x0 x1 x2 x3) (E : Set ℕ) (K : PUnit.{1} → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (iprop(owns (c : Thread nD τ) arg2 fullShare x0 ∗ owns (c : Thread nD τ) arg3 fullShare x1 ∗ owns (c : Thread nD τ) arg4 fullShare x2 ∗ owns (c : Thread nD τ) arg5 fullShare R.y3) -∗ K ⟨⟩))
      ⊢ wp frame (wpE (defs₀ (F := F)) Variants.none c none) E (cc0_da i arg2 harg2 arg3 harg3 arg4 harg4 arg5 harg5) K := by
  iintro ⟨H0, H1, H2, H3, Hk⟩
  iapply (R.run E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]; · iexact H2
  unfold owns; iexists _; isplitr
  swap; · iexact H3
  ipureintro; rfl

end

/-- Every grid point has a run. -/
theorem runAt (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole) (x0 : Vec F S512x512 .fp8e4m3) (x1 : Vec F S512x128 .f32) (x2 : Vec F S512x32 .f32) (x3 : Vec F S32x512 .f32) :
    Nonempty (Run (F := F) c (grid0.coords t) arg2 harg2 arg3 harg3 arg4 harg4 arg5 harg5 x0 x1 x2 x3) := by
  by_cases h0 : t.val % 24 = 0
  · have h1 : ¬1 ≤ t.val % 24 := by omega
    exact ⟨runA c (grid0.coords t) arg2 harg2 arg3 harg3 arg4 harg4 arg5 harg5 ((hcond0_0 t).mpr h0) (fun h => h1 ((hcond0_1 t).mp h)) x0 x1 x2 x3⟩
  · have h1 : 1 ≤ t.val % 24 := by omega
    exact ⟨runB c (grid0.coords t) arg2 harg2 arg3 harg3 arg4 harg4 arg5 harg5 (fun h => h0 ((hcond0_0 t).mp h)) ((hcond0_1 t).mpr h1) x0 x1 x2 x3⟩

/-! ## The frame -/

variable (m : (ℓ : Loc nD τ sig) → Buf (Elt F) ℓ) (ρ : Dev nD → PrngReg)
  (P : Dev nD → Fin cfg0.N → Vec F S32x512 .f32 → Prop)

/-- The proof data: inputs stay as found; the block of the result has the property `P` after each point. -/
def rd (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => P c t X
  Φ _ := Pipeline.ΦA spec0 c
  q _ := fullShare
  owed _ := 0

theorem A_eq (c : Dev nD) (w : Fin cfg0.W) : (rd m P c).A w = V m c (Pipeline.arrRef spec0 w) := by
  dsimp only [rd]

theorem after_0 (c : Dev nD) (t : Fin cfg0.N) (Y X) : (rd m P c).after 0 t Y X = (X = Y) := by dsimp only [rd]
theorem after_1 (c : Dev nD) (t : Fin cfg0.N) (Y X) : (rd m P c).after 1 t Y X = (X = Y) := by dsimp only [rd]
theorem after_2 (c : Dev nD) (t : Fin cfg0.N) (Y X) : (rd m P c).after 2 t Y X = (X = Y) := by dsimp only [rd]
theorem after_3 (c : Dev nD) (t : Fin cfg0.N) (Y X) : (rd m P c).after 3 t Y X = P c t X := by dsimp only [rd]

/-- At every point, from any contents the buffers may hold, some run leaves a block with the property. -/
abbrev HasRuns : Prop := ∀ (c : Dev nD) (t : Fin cfg0.N) (Y : (w : Fin cfg0.W) → (cfg0.win w).block.Idx → Elt F (cfg0.win w).elt),
  (∀ w, (rd m P c).Finds w t (Y w)) →
    ∃ R : Run c (grid0.coords t) (ms0_0 t) (hs0_0 t) (ms0_1 t) (hs0_1 t) (ms0_2 t) (hs0_2 t) (ms0_3 t) (hs0_3 t) (Y 0) (Y 1) (Y 2) (Y 3), P c t R.y3

/-- What the body is called with at point `t`, window by window, -/
def bodyPre (c : Dev nD) (t : Fin cfg0.N) (Y : (w : Fin cfg0.W) → (cfg0.win w).block.Idx → Elt F (cfg0.win w).elt) : sProp 𝕄 :=
  iprop((rd m P c).Φ t.castSucc ∗ (rd m P c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3))

/-- and what it returns. -/
def bodyPost (c : Dev nD) (t : Fin cfg0.N) (Y : (w : Fin cfg0.W) → (cfg0.win w).block.Idx → Elt F (cfg0.win w).elt) : sProp 𝕄 :=
  iprop((rd m P c).Φ t.succ ∗ (rd m P c).owesAt () t.succ
    ∗ (∃ X, ⌜(rd m P c).after 0 t (Y 0) X⌝ ∗ owns (c : Thread nD τ) (ms0_0 t) fullShare X)
    ∗ (∃ X, ⌜(rd m P c).after 1 t (Y 1) X⌝ ∗ owns (c : Thread nD τ) (ms0_1 t) fullShare X)
    ∗ (∃ X, ⌜(rd m P c).after 2 t (Y 2) X⌝ ∗ owns (c : Thread nD τ) (ms0_2 t) fullShare X)
    ∗ (∃ X, ⌜(rd m P c).after 3 t (Y 3) X⌝ ∗ owns (c : Thread nD τ) (ms0_3 t) fullShare X))

variable {P} (hP : HasRuns m P)
include hP

set_option maxHeartbeats 1600000 in
/-- The body at any point. -/
theorem sound_body (c : Dev nD) (t : Fin cfg0.N) (Y : (w : Fin cfg0.W) → (cfg0.win w).block.Idx → Elt F (cfg0.win w).elt)
    (hY : ∀ w, (rd m P c).Finds w t (Y w)) :
    bodyPre m P c t Y ⊢ wp frame (wpE (defs₀ (F := F)) Variants.none c none) Set.univ (bodyAt0 t) (fun _ => bodyPost m P c t Y) := by
  obtain ⟨R, hR⟩ := hP c t Y hY
  unfold bodyPre bodyPost bodyAt0
  rw [show (rd m P c).owesAt () t.succ = (rd m P c).owesAt () t.castSucc from rfl,
    show (rd m P c).Φ t.castSucc = Pipeline.ΦA spec0 c from rfl, show (rd m P c).Φ t.succ = Pipeline.ΦA spec0 c from rfl]
  iintro ⟨HΦ, Ho, H0, H1, H2, H3⟩
  iapply (R.body Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr
    swap; · iexact H0
    ipureintro; rw [after_0]
  isplitl [H1]
  · iexists _; isplitr
    swap; · iexact H1
    ipureintro; rw [after_1]
  isplitl [H2]
  · iexists _; isplitr
    swap; · iexact H2
    ipureintro; rw [after_2]
  iexists _; isplitr
  swap; · iexact H3
  ipureintro; rw [after_3]; exact hR

omit hP in
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rd m P c).BodyObligation (defs₀ (F := F)) Variants.none () Set.univ := fun t Y hY => by
  rw [bigSep_W0, bigSep_W0, defs₀_row]
  exact triple_restated (sound_body m hP c t Y hY) rfl .rfl fun _ => .rfl

set_option backward.isDefEq.respectTransparency.types false in
/-- The launch: every final state has the arrays at contents the proof data allow, and every counter at zero. -/
theorem run_main_quiescent : θ_run defs (onTc (τ := τ) (main (F := F))) (s₀ m ρ)
    (fun r => (Pipeline.RDat.FramePost (cfgs 0) (rd m P) (V m)) r ∧ r.2.sem = fun _ => 0) :=
  Pipeline.RDat.θ_run_frame_track (Q' := _) cfgs (0 : Fin 1) launch0 defs₀ Variants.none (rd m P) m ρ main
    (hbody := fun c => body_obligation m hP c) (hshare := fun c => (rd m P c).share_full fun _ => rfl)
    (howed := fun _ _ => rfl) (V := V m) (hmain := hmain m Variants.none) (hA := A_eq m P) (hin := fun _ => .rfl) (hout := fun _ => .rfl)

omit hP in
/-- The arguments end as they began. -/
theorem args_kept {r : PUnit.{1} × MemSt nD τ sig (Elt F)} (h : Pipeline.RDat.FramePost (cfgs 0) (rd m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m P c 2).trans (V_main_arg2 m c))⟩

omit hP in
/-- The arguments end unchanged and every counter at zero. -/
theorem frame_proof : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ hh => ⟨fun c => args_kept m hh.1 c, hh.2⟩)
    (run_main_quiescent m ρ (P := fun _ _ _ => True) fun c t Y _ =>
      (runAt c t (ms0_0 t) (hs0_0 t) (ms0_1 t) (hs0_1 t) (ms0_2 t) (hs0_2 t) (ms0_3 t) (hs0_3 t) (Y 0) (Y 1) (Y 2) (Y 3)).elim fun R => ⟨R, trivial⟩)

end Cert.Da.Gen

end
-- ==== Proof.DaIdealRun.lean ====
/- One run of the body of the kernel of the product of x with t, in each case of its branches, and its frame: what its result's
   buffer holds after each grid point may be restricted by any property the runs have. -/
module

public import proofs.«01_k».proof.Proof.Gen.DaIdeal.Frame
public import proofs.«01_k».proof.Proof.Gen.DaIdeal.Skeleton
public import proofs.«01_k».proof.Proof.Gen.DaIdeal.Points
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.Pipeline.ArrRel

@[expose] public section

set_option maxRecDepth 16384

noncomputable section

namespace Cert.DaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 24) — by arithmetic of the point. -/
theorem hcond0_0 : ∀ t : Fin cfg0.N, cond0_0 (grid0.coords t) ↔ t.val % 24 = 0 :=
  (fun t => by
    have ht : t.val < 336 := Nat.lt_of_lt_of_eq t.isLt N_0
    have e0 : (grid0.coords t 0).val = t.val / 24 % 14 := Pipeline.Grid.coords_val t 0 (by decide) rfl
    have e1 : (grid0.coords t 1).val = t.val / 1 % 24 := Pipeline.Grid.coords_val t 1 (by decide) rfl
    simp only [cond0_0, k0_cond1, e0, e1]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 24 :=
  (fun t => by
    have ht : t.val < 336 := Nat.lt_of_lt_of_eq t.isLt N_0
    have e0 : (grid0.coords t 0).val = t.val / 24 % 14 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ 1 ≤ t.val % 24)

/-- Each window's current staging memref at point `t`, spelled as the pipeline passes it (`bodyAt0`), and its wholeness. -/
abbrev ms0_0 (t : Fin cfg0.N) : Memref sig .tc .vmem S512x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)

/-! ## The runs -/

/-- A run of the body from given contents of its buffers: the pieces its stores leave in the block of the result (`L3`), over
    what it held; the inputs are left as they were. -/
structure Run (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole)
    (x0 : Vec F S512x512 .fp8e4m3) (x1 : Vec F S512x128 .f32) (x2 : Vec F S512x32 .f32) (x3 : Vec F S32x512 .f32) where
  L3 : List (View.Piece (Elt F) S32x512 .f32)
  run : ∀ (E : Set ℕ) (K : PUnit.{1} → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread x3) L3)) -∗ K ⟨⟩))
          ⊢ wp frame (wpE (defs₀ (F := F)) Variants.none c none) E (cc0_da i arg2 harg2 arg3 harg3 arg4 harg4 arg5 harg5) K

set_option maxHeartbeats 1000000 in
/-- The run at the first row block. -/
def runA (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole) (hc0 : cond0_0 i) (hc1 : ¬cond0_1 i)
    (x0 : Vec F S512x512 .fp8e4m3) (x1 : Vec F S512x128 .f32) (x2 : Vec F S512x32 .f32) (x3 : Vec F S32x512 .f32) : Run c i arg2 harg2 arg3 harg3 arg4 harg4 arg5 harg5 x0 x1 x2 x3 := by
  refine ⟨?_, fun E K => ?run⟩
  case run =>
    simp only [cc0_da_eq_skeleton]; unfold cc0_da_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact H3

set_option maxHeartbeats 1000000 in
/-- The run at a later row block. -/
def runB (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole) (hc0 : ¬cond0_0 i) (hc1 : cond0_1 i)
    (x0 : Vec F S512x512 .fp8e4m3) (x1 : Vec F S512x128 .f32) (x2 : Vec F S512x32 .f32) (x3 : Vec F S32x512 .f32) : Run c i arg2 harg2 arg3 harg3 arg4 harg4 arg5 harg5 x0 x1 x2 x3 := by
  refine ⟨?_, fun E K => ?run⟩
  case run =>
    simp only [cc0_da_eq_skeleton]; unfold cc0_da_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact H3

section
variable {c : Dev nD} {i : grid0.Coords} {arg2 : Memref sig .tc .vmem S512x512 .fp8e4m3} {harg2 : arg2.IsWhole} {arg3 : Memref sig .tc .vmem S512x128 .f32} {harg3 : arg3.IsWhole} {arg4 : Memref sig .tc .vmem S512x32 .f32} {harg4 : arg4.IsWhole} {arg5 : Memref sig .tc .vmem S32x512 .f32} {harg5 : arg5.IsWhole} {x0 : Vec F S512x512 .fp8e4m3} {x1 : Vec F S512x128 .f32} {x2 : Vec F S512x32 .f32} {x3 : Vec F S32x512 .f32}

/-- What the run leaves in the block of the result. -/
def Run.y3 (R : Run c i arg2 harg2 arg3 harg3 arg4 harg4 arg5 harg5 x0 x1 x2 x3) : Vec F S32x512 .f32 := arg5.view.read (Elt F) (arg5.view.writes (Elt F) (harg5.unread x3) R.L3)

/-- The run, with what the block of the result holds at the end read back. -/
theorem Run.body (R : Run c i arg2 harg2 arg3 harg3 arg4 harg4 arg5 harg5 x0 x1 x2 x3) (E : Set ℕ) (K : PUnit.{1} → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (iprop(owns (c : Thread nD τ) arg2 fullShare x0 ∗ owns (c : Thread nD τ) arg3 fullShare x1 ∗ owns (c : Thread nD τ) arg4 fullShare x2 ∗ owns (c : Thread nD τ) arg5 fullShare R.y3) -∗ K ⟨⟩))
      ⊢ wp frame (wpE (defs₀ (F := F)) Variants.none c none) E (cc0_da i arg2 harg2 arg3 harg3 arg4 harg4 arg5 harg5) K := by
  iintro ⟨H0, H1, H2, H3, Hk⟩
  iapply (R.run E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]; · iexact H2
  unfold owns; iexists _; isplitr
  swap; · iexact H3
  ipureintro; rfl

end

/-- Every grid point has a run. -/
theorem runAt (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole) (x0 : Vec F S512x512 .fp8e4m3) (x1 : Vec F S512x128 .f32) (x2 : Vec F S512x32 .f32) (x3 : Vec F S32x512 .f32) :
    Nonempty (Run (F := F) c (grid0.coords t) arg2 harg2 arg3 harg3 arg4 harg4 arg5 harg5 x0 x1 x2 x3) := by
  by_cases h0 : t.val % 24 = 0
  · have h1 : ¬1 ≤ t.val % 24 := by omega
    exact ⟨runA c (grid0.coords t) arg2 harg2 arg3 harg3 arg4 harg4 arg5 harg5 ((hcond0_0 t).mpr h0) (fun h => h1 ((hcond0_1 t).mp h)) x0 x1 x2 x3⟩
  · have h1 : 1 ≤ t.val % 24 := by omega
    exact ⟨runB c (grid0.coords t) arg2 harg2 arg3 harg3 arg4 harg4 arg5 harg5 (fun h => h0 ((hcond0_0 t).mp h)) ((hcond0_1 t).mpr h1) x0 x1 x2 x3⟩

/-! ## The frame -/

variable (m : (ℓ : Loc nD τ sig) → Buf (Elt F) ℓ) (ρ : Dev nD → PrngReg)
  (P : Dev nD → Fin cfg0.N → Vec F S32x512 .f32 → Prop)

/-- The proof data: inputs stay as found; the block of the result has the property `P` after each point. -/
def rd (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => P c t X
  Φ _ := Pipeline.ΦA spec0 c
  q _ := fullShare
  owed _ := 0

theorem A_eq (c : Dev nD) (w : Fin cfg0.W) : (rd m P c).A w = V m c (Pipeline.arrRef spec0 w) := by
  dsimp only [rd]

theorem after_0 (c : Dev nD) (t : Fin cfg0.N) (Y X) : (rd m P c).after 0 t Y X = (X = Y) := by dsimp only [rd]
theorem after_1 (c : Dev nD) (t : Fin cfg0.N) (Y X) : (rd m P c).after 1 t Y X = (X = Y) := by dsimp only [rd]
theorem after_2 (c : Dev nD) (t : Fin cfg0.N) (Y X) : (rd m P c).after 2 t Y X = (X = Y) := by dsimp only [rd]
theorem after_3 (c : Dev nD) (t : Fin cfg0.N) (Y X) : (rd m P c).after 3 t Y X = P c t X := by dsimp only [rd]

/-- At every point, from any contents the buffers may hold, some run leaves a block with the property. -/
abbrev HasRuns : Prop := ∀ (c : Dev nD) (t : Fin cfg0.N) (Y : (w : Fin cfg0.W) → (cfg0.win w).block.Idx → Elt F (cfg0.win w).elt),
  (∀ w, (rd m P c).Finds w t (Y w)) →
    ∃ R : Run c (grid0.coords t) (ms0_0 t) (hs0_0 t) (ms0_1 t) (hs0_1 t) (ms0_2 t) (hs0_2 t) (ms0_3 t) (hs0_3 t) (Y 0) (Y 1) (Y 2) (Y 3), P c t R.y3

/-- What the body is called with at point `t`, window by window, -/
def bodyPre (c : Dev nD) (t : Fin cfg0.N) (Y : (w : Fin cfg0.W) → (cfg0.win w).block.Idx → Elt F (cfg0.win w).elt) : sProp 𝕄 :=
  iprop((rd m P c).Φ t.castSucc ∗ (rd m P c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3))

/-- and what it returns. -/
def bodyPost (c : Dev nD) (t : Fin cfg0.N) (Y : (w : Fin cfg0.W) → (cfg0.win w).block.Idx → Elt F (cfg0.win w).elt) : sProp 𝕄 :=
  iprop((rd m P c).Φ t.succ ∗ (rd m P c).owesAt () t.succ
    ∗ (∃ X, ⌜(rd m P c).after 0 t (Y 0) X⌝ ∗ owns (c : Thread nD τ) (ms0_0 t) fullShare X)
    ∗ (∃ X, ⌜(rd m P c).after 1 t (Y 1) X⌝ ∗ owns (c : Thread nD τ) (ms0_1 t) fullShare X)
    ∗ (∃ X, ⌜(rd m P c).after 2 t (Y 2) X⌝ ∗ owns (c : Thread nD τ) (ms0_2 t) fullShare X)
    ∗ (∃ X, ⌜(rd m P c).after 3 t (Y 3) X⌝ ∗ owns (c : Thread nD τ) (ms0_3 t) fullShare X))

variable {P} (hP : HasRuns m P)
include hP

set_option maxHeartbeats 1600000 in
/-- The body at any point. -/
theorem sound_body (c : Dev nD) (t : Fin cfg0.N) (Y : (w : Fin cfg0.W) → (cfg0.win w).block.Idx → Elt F (cfg0.win w).elt)
    (hY : ∀ w, (rd m P c).Finds w t (Y w)) :
    bodyPre m P c t Y ⊢ wp frame (wpE (defs₀ (F := F)) Variants.none c none) Set.univ (bodyAt0 t) (fun _ => bodyPost m P c t Y) := by
  obtain ⟨R, hR⟩ := hP c t Y hY
  unfold bodyPre bodyPost bodyAt0
  rw [show (rd m P c).owesAt () t.succ = (rd m P c).owesAt () t.castSucc from rfl,
    show (rd m P c).Φ t.castSucc = Pipeline.ΦA spec0 c from rfl, show (rd m P c).Φ t.succ = Pipeline.ΦA spec0 c from rfl]
  iintro ⟨HΦ, Ho, H0, H1, H2, H3⟩
  iapply (R.body Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr
    swap; · iexact H0
    ipureintro; rw [after_0]
  isplitl [H1]
  · iexists _; isplitr
    swap; · iexact H1
    ipureintro; rw [after_1]
  isplitl [H2]
  · iexists _; isplitr
    swap; · iexact H2
    ipureintro; rw [after_2]
  iexists _; isplitr
  swap; · iexact H3
  ipureintro; rw [after_3]; exact hR

omit hP in
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rd m P c).BodyObligation (defs₀ (F := F)) Variants.none () Set.univ := fun t Y hY => by
  rw [bigSep_W0, bigSep_W0, defs₀_row]
  exact triple_restated (sound_body m hP c t Y hY) rfl .rfl fun _ => .rfl

set_option backward.isDefEq.respectTransparency.types false in
/-- The launch: every final state has the arrays at contents the proof data allow, and every counter at zero. -/
theorem run_main_quiescent : θ_run defs (onTc (τ := τ) (main (F := F))) (s₀ m ρ)
    (fun r => (Pipeline.RDat.FramePost (cfgs 0) (rd m P) (V m)) r ∧ r.2.sem = fun _ => 0) :=
  Pipeline.RDat.θ_run_frame_track (Q' := _) cfgs (0 : Fin 1) launch0 defs₀ Variants.none (rd m P) m ρ main
    (hbody := fun c => body_obligation m hP c) (hshare := fun c => (rd m P c).share_full fun _ => rfl)
    (howed := fun _ _ => rfl) (V := V m) (hmain := hmain m Variants.none) (hA := A_eq m P) (hin := fun _ => .rfl) (hout := fun _ => .rfl)

omit hP in
/-- The arguments end as they began. -/
theorem args_kept {r : PUnit.{1} × MemSt nD τ sig (Elt F)} (h : Pipeline.RDat.FramePost (cfgs 0) (rd m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m P c 2).trans (V_main_arg2 m c))⟩

omit hP in
/-- The arguments end unchanged and every counter at zero. -/
theorem frame_proof : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ hh => ⟨fun c => args_kept m hh.1 c, hh.2⟩)
    (run_main_quiescent m ρ (P := fun _ _ _ => True) fun c t Y _ =>
      (runAt c t (ms0_0 t) (hs0_0 t) (ms0_1 t) (hs0_1 t) (ms0_2 t) (hs0_2 t) (ms0_3 t) (hs0_3 t) (Y 0) (Y 1) (Y 2) (Y 3)).elim fun R => ⟨R, trivial⟩)

end Cert.DaIdeal.Gen

end
-- ==== Proof.DaSpec.lean ====
/- The product of x with t as a plain sum over the extended reals, its partial sums over row blocks, and the equation between
   the sum taken in parts and the plain one. -/
module

public import proofs.«01_k».proof.Proof.MainSpec

@[expose] public section

set_option maxRecDepth 16384

noncomputable section

namespace Cert.DaValue

open Idealize.ShloMosaic
open Cert.MainValue (two rest xR SXa)
open scoped BigOperators

abbrev SX : Shape := ⟨3, ![3, 4096, 7168]⟩
abbrev SXs : Shape := ⟨3, ![3, 4096, 224]⟩
abbrev SDa : Shape := ⟨2, ![32, 7168]⟩

/-- The dequantised input. -/
def xG (x : SX.Idx → EReal) (s : SXs.Idx → EReal) (R n : ℕ) : EReal :=
  if h : R < 12288 ∧ n < 7168 then
    x (ValueIdx.ix3 ⟨R / 4096, by omega⟩ ⟨R % 4096, by omega⟩ ⟨n, h.2⟩)
      * s (ValueIdx.ix3 ⟨R / 4096, by omega⟩ ⟨R % 4096, by omega⟩ ⟨n / 32, by omega⟩)
  else 0

section
variable (x : SX.Idx → EReal) (s : SXs.Idx → EReal) (t : SXa.Idx → EReal)

/-- One row block's contribution. -/
def dPart (mm j n : ℕ) : EReal :=
  two * ((∑ r : Fin 512, xR t (512 * mm + r.val) j * xG x s (512 * mm + r.val) n)
    + (∑ r : Fin 512, rest (xR t (512 * mm + r.val) j) * xG x s (512 * mm + r.val) n)
    + ∑ r : Fin 512, rest (rest (xR t (512 * mm + r.val) j)) * xG x s (512 * mm + r.val) n)

/-- The sum over the first `M` row blocks. -/
def dP (M j n : ℕ) : EReal := ∑ mm ∈ Finset.range M, dPart x s t mm j n

/-- The gradient of the down projection, as a plain sum. -/
def specDa : SDa.Idx → EReal := fun y =>
  two * ∑ R ∈ Finset.range 12288, xR t R (y 0).val * xG x s R (y 1).val

/-- With a finite left operand there are no remainders. -/
theorem dPart_finite (hx : ∀ y, rest (t y) = 0) (mm j n : ℕ) :
    dPart x s t mm j n = two * ∑ q ∈ Finset.range 512, xR t (512 * mm + q) j * xG x s (512 * mm + q) n := by
  have h0 : rest (0 : EReal) = 0 := Cert.MainValue.rest_coe 0
  have h : ∀ R, rest (xR t R j) = 0 := fun R => by
    unfold xR; split
    · exact hx _
    · exact h0
  unfold dPart
  congr 1
  simp only [h, h0, zero_mul, Finset.sum_const_zero, add_zero]
  rw [Finset.sum_range]

theorem dP_all (hx : ∀ y, rest (t y) = 0) (y : SDa.Idx) : dP x s t 24 (y 0).val (y 1).val = specDa x s t y := by
  unfold dP specDa
  simp only [dPart_finite x s t hx]
  rw [← Cert.MainValue.two_mul_sum, Cert.Common.sum_blocks (fun R => xR t R (y 0).val * xG x s R (y 1).val) 512 24]

end

end Cert.DaValue

end
-- ==== Proof.DaIdealPoint.lean ====
/- The kernel of the product of x with t at one grid point: the block it leaves, from the blocks it reads, and these blocks
   read at an index. -/
module

public import proofs.«01_k».proof.Proof.DaIdealRun
public import proofs.«01_k».proof.Proof.DaSpec

@[expose] public section

set_option maxRecDepth 16384

noncomputable section

namespace Cert.DaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The first scale's lane in the block of 128: `16 * k` modulo 128, as the kernel computes it. -/
def fw (i : grid0.Coords) : BitVec 32 :=
  let v4 : BitVec 32 := Scalar.muli (BitVec.ofNat 32 (i 0).val) 16#32
  let v6 : BitVec 32 := Scalar.select (Scalar.cmpi .eq 128#32 0#32) 1#32 128#32
  let v7 : BitVec 32 := Scalar.remsi v4 v6
  Scalar.select (Scalar.andi (Scalar.xori (Scalar.cmpi .slt v7 0#32) (Scalar.cmpi .slt v6 0#32)) (Scalar.cmpi .ne v7 0#32)) (Scalar.addi v7 v6) v7

/-- The dequantised tile of x, from the codes and the block of scales. -/
def dq (i : grid0.Coords) (x0 : Vec F S512x512 .fp8e4m3) (x1 : Vec F S512x128 .f32) : FVec F S512x512 .bf16 :=
  k0_pay8 (k0_pay3 x0) (k0_pay4 x1) (fw i) (k0_pay5 i x0 x1) (k0_pay6 x0) (k0_pay7 i)

theorem hz2 : (![0, 0] : Fin 2 → Nat) = fun _ => 0 := funext fun a => by fin_cases a <;> rfl

theorem fw_fold (i : grid0.Coords) :
    Scalar.select (Scalar.andi (Scalar.xori (Scalar.cmpi .slt (Scalar.remsi (Scalar.muli (BitVec.ofNat 32 (i 0).val) 16#32) 128#32) 0#32) 0#1)
      (Scalar.cmpi .ne (Scalar.remsi (Scalar.muli (BitVec.ofNat 32 (i 0).val) 16#32) 128#32) 0#32))
      (Scalar.addi (Scalar.remsi (Scalar.muli (BitVec.ofNat 32 (i 0).val) 16#32) 128#32) 128#32)
      (Scalar.remsi (Scalar.muli (BitVec.ofNat 32 (i 0).val) 16#32) 128#32) = fw i := rfl

theorem dq_fold (i : grid0.Coords) (x0 : Vec F S512x512 .fp8e4m3) (x1 : Vec F S512x128 .f32) :
    k0_pay8 (k0_pay3 x0) (k0_pay4 x1) (fw i) (k0_pay5 i x0 x1) (k0_pay6 x0) (k0_pay7 i) = dq i x0 x1 := rfl

section
variable (c : Dev nD) (i : grid0.Coords) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole)
  (x0 : Vec F S512x512 .fp8e4m3) (x1 : Vec F S512x128 .f32) (x2 : Vec F S512x32 .f32) (x3 : Vec F S32x512 .f32)

theorem listsA (hc0 : cond0_0 i) (hc1 : ¬cond0_1 i) :
    (runA c i arg2 harg2 arg3 harg3 arg4 harg4 arg5 harg5 hc0 hc1 x0 x1 x2 x3).L3
      = [⟨Rect.unit ![0, 0] S32x512.size inb_S32x512_S32x512_0_0, k0_pay1 (dq i x0 x1) x2⟩] := by
  unfold runA
  dsimp only
  sl_unfold_words
  simp only [View.readAt_eq_ld, harg2.read_unread, harg3.read_unread, harg4.read_unread, harg5.read_unread,
    View.ld_unit_zero (S := S512x512) hz2, View.ld_unit_zero (S := S512x128) hz2, View.ld_unit_zero (S := S512x32) hz2, View.ld_unit_zero (S := S32x512) hz2,
    fw_fold, dq_fold]
  try rfl

theorem listsB (hc0 : ¬cond0_0 i) (hc1 : cond0_1 i) :
    (runB c i arg2 harg2 arg3 harg3 arg4 harg4 arg5 harg5 hc0 hc1 x0 x1 x2 x3).L3
      = [⟨Rect.unit ![0, 0] S32x512.size inb_S32x512_S32x512_0_0, k0_pay2 (dq i x0 x1) x2 x3⟩] := by
  unfold runB
  dsimp only
  sl_unfold_words
  simp only [View.readAt_eq_ld, harg2.read_unread, harg3.read_unread, harg4.read_unread, harg5.read_unread,
    View.ld_unit_zero (S := S512x512) hz2, View.ld_unit_zero (S := S512x128) hz2, View.ld_unit_zero (S := S512x32) hz2, View.ld_unit_zero (S := S32x512) hz2,
    fw_fold, dq_fold]
  try rfl

end

theorem coords1 (t : Fin cfg0.N) : (grid0.coords t 1).val = t.val % 24 := by
  have e1 : (grid0.coords t 1).val = t.val / 1 % 24 := Pipeline.Grid.coords_val t 1 (by decide) rfl
  rw [e1, Nat.div_one]

theorem coords0 (t : Fin cfg0.N) : (grid0.coords t 0).val = t.val / 24 := by
  have e0 : (grid0.coords t 0).val = t.val / 24 % 14 := Pipeline.Grid.coords_val t 0 (by decide) rfl
  have hN : t.val < 336 := Nat.lt_of_lt_of_eq t.isLt N_0
  omega

/-- The block a store of the whole block leaves. -/
theorem read_whole (v : View sig .tc .vmem S32x512 .f32) (f : v.ty.Contents (Elt Ideal)) (w : S32x512.Idx → EReal) :
    v.read (Elt Ideal) (v.writes (Elt Ideal) f [⟨Rect.unit ![0, 0] S32x512.size inb_S32x512_S32x512_0_0, w⟩]) = w := by
  rw [View.read_writes_eq_canon _ _ _ (fun y =>
    View.cover_of_tiledL [(⟨Rect.unit ![0, 0] S32x512.size inb_S32x512_S32x512_0_0, w⟩ : View.Piece (Elt Ideal) S32x512 .f32)] S32x512.size (by sl_kernel_rfl) y)]
  exact View.canon_cons_unit_zero (Val := Elt Ideal) (e := .f32) (S := S32x512) hz2 _ w []

theorem d_eq (D : S512x512.Idx → EReal) (x2 : S512x32.Idx → EReal) : k0_pay1 (F := Ideal) D x2 = Cert.MainValue.dNew D x2 := by
  refine Eq.trans ?_ (Cert.MainValue.d_eq D x2)
  rfl

/-- Every grid point has a run that leaves the point's product, added to what the block held after the first row block. -/
theorem step (c : Dev nD) (t : Fin cfg0.N) (arg2 : Memref sig .tc .vmem S512x512 .fp8e4m3) (harg2 : arg2.IsWhole) (arg3 : Memref sig .tc .vmem S512x128 .f32) (harg3 : arg3.IsWhole) (arg4 : Memref sig .tc .vmem S512x32 .f32) (harg4 : arg4.IsWhole) (arg5 : Memref sig .tc .vmem S32x512 .f32) (harg5 : arg5.IsWhole)
    (x0 : Vec Ideal S512x512 .fp8e4m3) (x1 : Vec Ideal S512x128 .f32) (x2 : Vec Ideal S512x32 .f32) (x3 : Vec Ideal S32x512 .f32) :
    ∃ R : Run (F := Ideal) c (grid0.coords t) arg2 harg2 arg3 harg3 arg4 harg4 arg5 harg5 x0 x1 x2 x3,
      R.y3 = fun y => (if t.val % 24 = 0 then 0 else x3 y : EReal) + Cert.MainValue.dNew (dq (F := Ideal) (grid0.coords t) x0 x1) x2 y := by
  by_cases h0 : t.val % 24 = 0
  · have h1 : ¬1 ≤ t.val % 24 := by omega
    refine ⟨runA c (grid0.coords t) arg2 harg2 arg3 harg3 arg4 harg4 arg5 harg5 ((hcond0_0 t).mpr h0) (fun h => h1 ((hcond0_1 t).mp h)) x0 x1 x2 x3, ?_⟩
    unfold Run.y3
    rw [listsA, read_whole, d_eq]
    funext y
    rw [if_pos h0, zero_add]
  · have h1 : 1 ≤ t.val % 24 := by omega
    refine ⟨runB c (grid0.coords t) arg2 harg2 arg3 harg3 arg4 harg4 arg5 harg5 (fun h => h0 ((hcond0_0 t).mp h)) ((hcond0_1 t).mpr h1) x0 x1 x2 x3, ?_⟩
    unfold Run.y3
    rw [listsB, read_whole]
    have e : shapeCast S32x512 x3 shapeCasts_S32x512_S32x512 = x3 := shapeCast_self _ _
    unfold k0_pay2
    dsimp only
    rw [e, d_eq]
    funext y
    rw [if_neg h0]
    rfl

theorem fw_toNat (i : grid0.Coords) : (fw i).toNat = 16 * ((i 0).val % 8) := by
  have h : ∀ k : Fin 14,
      (let v4 : BitVec 32 := Scalar.muli (BitVec.ofNat 32 k.val) 16#32
       let v6 : BitVec 32 := Scalar.select (Scalar.cmpi .eq 128#32 0#32) 1#32 128#32
       let v7 : BitVec 32 := Scalar.remsi v4 v6
       Scalar.select (Scalar.andi (Scalar.xori (Scalar.cmpi .slt v7 0#32) (Scalar.cmpi .slt v6 0#32)) (Scalar.cmpi .ne v7 0#32)) (Scalar.addi v7 v6) v7).toNat
        = 16 * (k.val % 8) := by decide +kernel
  exact h (i 0)

theorem dq_eq (i : grid0.Coords) (x0 : Vec F S512x512 .fp8e4m3) (x1 : Vec F S512x128 .f32) :
    dq i x0 x1 = Cert.Common.tile (F := F) (φ := .fp8e4m3) x0 x1 (fw i) slices_S512x512_o0_0_S512x128 slices_S512x512_o0_128_S512x128
      slices_S512x512_o0_256_S512x128 slices_S512x512_o0_384_S512x128 bitsLt_fp8e4m3_bf16 bitsLt_bf16_f32 iota_S512x128_d1_w32
      shapeCasts_S512x128_S512x128x1 shapeCasts_S512x128x1_S512x128 concatenates_S512x128_S512x128_S512x128_S512x128_S512x512_d1 := by
  have e0 : k0_pay3 (F := F) x0 = x0 := shapeCast_self _ _
  have e1 : k0_pay4 (F := F) x1 = x1 := shapeCast_self _ _
  unfold dq k0_pay5 k0_pay6
  rw [e0, e1]
  rfl

/-- The tile of x at an index: the code times its block's scale. -/
theorem dq_apply (i : grid0.Coords) (x0 : Vec F S512x512 .fp8e4m3) (x1 : Vec F S512x128 .f32) (r q : Fin 512) (p : Fin 128)
    (hp : p.val = 16 * ((i 0).val % 8) + q.val / 32) :
    dq i x0 x1 (ValueIdx.ix2 r q) = FloatOps.mulf (FloatOps.extf .bf16 bitsLt_fp8e4m3_bf16 (x0 (ValueIdx.ix2 r q)))
      (FloatOps.truncf .bf16 bitsLt_bf16_f32 (x1 (ValueIdx.ix2 r p))) := by
  rw [dq_eq]
  exact Cert.Common.tile_apply (F := F) (φ := .fp8e4m3) x0 x1 _ _ _ _ _ _ _ _ _ _ _ r q (by rw [fw_toNat]; omega) p (by rw [fw_toNat]; exact hp)

theorem clip0_1_eq (s t : Fin cfg0.N) (h : (cfg0.win 1).index s = (cfg0.win 1).index t) :
    (cfg0.win 1).clip (cfg0.grid.coords s) = (cfg0.win 1).clip (cfg0.grid.coords t) := by
  have h' : cc0_transform_1 (grid0.coords s) = cc0_transform_1 (grid0.coords t) := h
  funext a
  show Pipeline.Clip.of (cc0_transform_1 (grid0.coords s) a) _ _ = Pipeline.Clip.of (cc0_transform_1 (grid0.coords t) a) _ _
  rw [h']

/-- The windows' block indices: the row block and the column block, and one block of 128 scales for every eight column blocks. -/
theorem tidx0 (i : grid0.Coords) : cc0_transform_0 i 0 = (i 1).val ∧ cc0_transform_0 i 1 = (i 0).val := by
  have h0 : ∀ k : Fin 24, cc0_transform_0 (fun a => match a with | ⟨0, _⟩ => (⟨0, by decide⟩ : Fin 14) | ⟨1, _⟩ => k) 0 = k.val := by decide +kernel
  have h1 : ∀ k : Fin 14, cc0_transform_0 (fun a => match a with | ⟨0, _⟩ => k | ⟨1, _⟩ => (⟨0, by decide⟩ : Fin 24)) 1 = k.val := by decide +kernel
  exact ⟨h0 (i 1), h1 (i 0)⟩
theorem tidx1 (i : grid0.Coords) : cc0_transform_1 i 0 = (i 1).val ∧ cc0_transform_1 i 1 = (i 0).val / 8 := by
  have h0 : ∀ k : Fin 24, cc0_transform_1 (fun a => match a with | ⟨0, _⟩ => (⟨0, by decide⟩ : Fin 14) | ⟨1, _⟩ => k) 0 = k.val := by decide +kernel
  have h1 : ∀ k : Fin 14, cc0_transform_1 (fun a => match a with | ⟨0, _⟩ => k | ⟨1, _⟩ => (⟨0, by decide⟩ : Fin 24)) 1 = k.val / 8 := by decide +kernel
  exact ⟨h0 (i 1), h1 (i 0)⟩
theorem tidx2 (i : grid0.Coords) : cc0_transform_2 i 0 = (i 1).val ∧ cc0_transform_2 i 1 = 0 := by
  have h0 : ∀ k : Fin 24, cc0_transform_2 (fun a => match a with | ⟨0, _⟩ => (⟨0, by decide⟩ : Fin 14) | ⟨1, _⟩ => k) 0 = k.val := by decide +kernel
  exact ⟨h0 (i 1), rfl⟩
theorem tidx3 (i : grid0.Coords) : cc0_transform_3 i 0 = 0 ∧ cc0_transform_3 i 1 = (i 0).val := by
  have h1 : ∀ k : Fin 14, cc0_transform_3 (fun a => match a with | ⟨0, _⟩ => k | ⟨1, _⟩ => (⟨0, by decide⟩ : Fin 24)) 1 = k.val := by decide +kernel
  exact ⟨rfl, h1 (i 0)⟩

/-- The columns of the block of scales the tile reads lie inside the array. -/
theorem moved1 (i : grid0.Coords) (r : Fin 512) (p : Fin 128) (hp : p.val < 16 * ((i 0).val % 8) + 16) :
    win0_1.moved i (ValueIdx.ix2 r p) = true := by
  have hk : (i 0).val < 14 := (i 0).isLt
  have hi0 : (i 1).val < 24 := (i 1).isLt
  rw [Pipeline.Window.moved_iff]
  intro a
  match a with
  | ⟨0, _⟩ =>
    show r.val < (Pipeline.Clip.of (cc0_transform_1 i 0) 512 12288).extent 512
    rw [(tidx1 i).1]; unfold Pipeline.Clip.of
    have := r.isLt
    split <;> simp only [Pipeline.Clip.extent] <;> omega
  | ⟨1, _⟩ =>
    show p.val < (Pipeline.Clip.of (cc0_transform_1 i 1) 128 224).extent 128
    rw [(tidx1 i).2]; unfold Pipeline.Clip.of
    have := p.isLt
    split <;> simp only [Pipeline.Clip.extent] <;> omega

end Cert.DaIdeal.Gen

namespace Cert.DaValue

open Idealize.ShloMosaic Idealize.ShloMosaic.TcCoe Idealize.SL.Sem Idealize.ShloMosaic.StableHlo
open Cert.DaIdeal Cert.DaIdeal.Gen
open Cert.MainValue (two rest xR SXa)
open scoped BigOperators

variable (m : (ℓ : Loc nD τ sig) → Buf (Elt Ideal) ℓ)

abbrev aX (c : Dev nD) : SX.Idx → EReal := m ((c.tc : Thread nD τ).loc main_arg0)
abbrev aXs (c : Dev nD) : SXs.Idx → EReal := m ((c.tc : Thread nD τ).loc main_arg1)
abbrev aT (c : Dev nD) : SXa.Idx → EReal := m ((c.tc : Thread nD τ).loc main_arg2)

theorem V_main_v0 (c : Dev nD) : V m c main_v0 = shapeCast _ (m ((c.tc : Thread nD τ).loc main_arg0)) shapeCasts_S3x4096x7168_S12288x7168 := by
  unfold V
  simp only [hostOps0, List.flatten_cons, List.flatten_nil, List.append_nil, List.cons_append, List.nil_append]
  after_results <;> rfl

theorem V_main_v1 (c : Dev nD) : V m c main_v1 = shapeCast _ (m ((c.tc : Thread nD τ).loc main_arg1)) shapeCasts_S3x4096x224_S12288x224 := by
  unfold V
  simp only [hostOps0, List.flatten_cons, List.flatten_nil, List.append_nil, List.cons_append, List.nil_append]
  after_results <;> rfl

theorem V0_apply (c : Dev nD) (R : Fin 12288) (j : Fin 7168) : V m c main_v0 (ValueIdx.ix2 R j)
    = aX m c (ValueIdx.ix3 ⟨R.val / 4096, by omega⟩ ⟨R.val % 4096, by omega⟩ j) := by
  rw [V_main_v0]
  exact shapeCast_apply _ shapeCasts_S3x4096x7168_S12288x7168 (ValueIdx.ix2 R j) (ValueIdx.ix3 ⟨R.val / 4096, by omega⟩ ⟨R.val % 4096, by omega⟩ j)
    (by rewrite [Shape.rowMajor_val_three, Shape.rowMajor_val_two]; show (R.val / 4096 * 4096 + R.val % 4096) * 7168 + j.val = R.val * 7168 + j.val; omega)

theorem V1_apply (c : Dev nD) (R : Fin 12288) (j : Fin 224) : V m c main_v1 (ValueIdx.ix2 R j)
    = aXs m c (ValueIdx.ix3 ⟨R.val / 4096, by omega⟩ ⟨R.val % 4096, by omega⟩ j) := by
  rw [V_main_v1]
  exact shapeCast_apply _ shapeCasts_S3x4096x224_S12288x224 (ValueIdx.ix2 R j) (ValueIdx.ix3 ⟨R.val / 4096, by omega⟩ ⟨R.val % 4096, by omega⟩ j)
    (by rewrite [Shape.rowMajor_val_three, Shape.rowMajor_val_two]; show (R.val / 4096 * 4096 + R.val % 4096) * 224 + j.val = R.val * 224 + j.val; omega)

/-- The tile of x at a point. -/
theorem iblk0_apply (c : Dev nD) (t : Fin cfg0.N) (a : Fin 512) (q : Fin 512) (R : Fin 12288) (j : Fin 7168) (hR : R.val = 512 * (t.val % 24) + a.val) (hj : j.val = 512 * (t.val / 24) + q.val) :
    (iblk m c 0 t : S512x512.Idx → EReal) (ValueIdx.ix2 a q) = V m c main_v0 (ValueIdx.ix2 R j) := by
  have hi := tidx0 (grid0.coords t)
  unfold iblk
  rw [View.read_apply]
  show V m c main_v0 _ = _
  congr 1
  funext b
  apply Fin.ext
  match b with
  | ⟨0, _⟩ => show cc0_transform_0 (grid0.coords t) 0 * 512 + 1 * a.val = R.val; rw [hi.1, coords1]; omega
  | ⟨1, _⟩ => show cc0_transform_0 (grid0.coords t) 1 * 512 + 1 * q.val = j.val; rw [hi.2, coords0]; omega

/-- The block of t at a point. -/
theorem iblk2_apply (c : Dev nD) (t : Fin cfg0.N) (a : Fin 512) (q : Fin 32) (R : Fin 12288) (hR : R.val = 512 * (t.val % 24) + a.val) :
    (iblk m c 2 t : S512x32.Idx → EReal) (ValueIdx.ix2 a q) = aT m c (ValueIdx.ix2 R q) := by
  have hi := tidx2 (grid0.coords t)
  unfold iblk
  rw [View.read_apply]
  show V m c main_arg2 _ = _
  rw [V_main_arg2]
  show aT m c _ = _
  congr 1
  funext b
  apply Fin.ext
  match b with
  | ⟨0, _⟩ => show cc0_transform_2 (grid0.coords t) 0 * 512 + 1 * a.val = R.val; rw [hi.1, coords1]; omega
  | ⟨1, _⟩ => show cc0_transform_2 (grid0.coords t) 1 * 32 + 1 * q.val = q.val; rw [hi.2]; omega

/-- The block of x's scales at a point, in the columns the tile reads. -/
theorem fill1_apply (c : Dev nD) (t : Fin cfg0.N) (d : S512x128.Idx → EReal) (a : Fin 512) (p : Fin 128) (hp : p.val < 16 * (t.val / 24 % 8) + 16) (R : Fin 12288) (j : Fin 224)
    (hR : R.val = 512 * (t.val % 24) + a.val) (hj : j.val = 128 * (t.val / 24 / 8) + p.val) :
    (win0_1.fill (α := Elt Ideal .f32) (grid0.coords t) d (iblk m c 1 t) : S512x128.Idx → EReal) (ValueIdx.ix2 a p) = V m c main_v1 (ValueIdx.ix2 R j) := by
  have hm : win0_1.moved (grid0.coords t) (ValueIdx.ix2 a p) = true := moved1 _ a p (by rw [coords0]; exact hp)
  have hi := tidx1 (grid0.coords t)
  unfold Pipeline.Window.fill
  rw [dif_pos hm]
  unfold iblk
  rw [View.read_apply]
  show V m c main_v1 _ = _
  congr 1
  funext b
  apply Fin.ext
  match b with
  | ⟨0, _⟩ => show cc0_transform_1 (grid0.coords t) 0 * 512 + 1 * a.val = R.val; rw [hi.1, coords1]; omega
  | ⟨1, _⟩ => show cc0_transform_1 (grid0.coords t) 1 * 128 + 1 * p.val = j.val; rw [hi.2, coords0]; omega

abbrev tX (c : Dev nD) (t : Fin cfg0.N) : S512x512.Idx → EReal := iblk m c 0 t
abbrev tT (c : Dev nD) (t : Fin cfg0.N) : S512x32.Idx → EReal := iblk m c 2 t
abbrev tS (c : Dev nD) (t : Fin cfg0.N) (d : S512x128.Idx → EReal) : S512x128.Idx → EReal := win0_1.fill (α := Elt Ideal .f32) (grid0.coords t) d (iblk m c 1 t)
/-- The dequantised tile of x at a point. -/
abbrev tD (c : Dev nD) (t : Fin cfg0.N) (d : S512x128.Idx → EReal) : S512x512.Idx → EReal := dq (F := Ideal) (grid0.coords t) (iblk m c 0 t) (tS m c t d)

/-- The dequantised tile at an index. -/
theorem tD_apply (c : Dev nD) (t : Fin cfg0.N) (d : S512x128.Idx → EReal) (a q : Fin 512) :
    tD m c t d (ValueIdx.ix2 a q) = xG (aX m c) (aXs m c) (512 * (t.val % 24) + a.val) (512 * (t.val / 24) + q.val) := by
  have ht : t.val < 336 := Nat.lt_of_lt_of_eq t.isLt N_0
  have ha := a.isLt
  have hq := q.isLt
  have hc := coords0 t
  have hp : 16 * ((grid0.coords t 0).val % 8) + q.val / 32 < 128 := by omega
  refine (dq_apply _ _ _ a q ⟨_, hp⟩ rfl).trans ?_
  show tX m c t (ValueIdx.ix2 a q) * tS m c t d (ValueIdx.ix2 a ⟨_, hp⟩) = _
  unfold tX tS
  rw [iblk0_apply m c t a q ⟨512 * (t.val % 24) + a.val, by omega⟩ ⟨512 * (t.val / 24) + q.val, by omega⟩ rfl rfl,
    fill1_apply m c t d a ⟨_, hp⟩ (by dsimp only; omega) ⟨512 * (t.val % 24) + a.val, by omega⟩ ⟨(512 * (t.val / 24) + q.val) / 32, by omega⟩ rfl (by dsimp only; omega),
    V0_apply, V1_apply]
  unfold xG
  rw [dif_pos ⟨by omega, by omega⟩]

theorem tT_apply (c : Dev nD) (t : Fin cfg0.N) (a : Fin 512) (j : Fin 32) :
    tT m c t (ValueIdx.ix2 a j) = xR (aT m c) (512 * (t.val % 24) + a.val) j.val := by
  have ht : t.val < 336 := Nat.lt_of_lt_of_eq t.isLt N_0
  have ha := a.isLt
  have hj := j.isLt
  unfold tT
  rw [iblk2_apply m c t a j ⟨512 * (t.val % 24) + a.val, by omega⟩ rfl]
  unfold xR
  rw [dif_pos ⟨by omega, hj⟩]

/-- The block of the result after point `n`: the sum over the row blocks seen. -/
def dAt (c : Dev nD) (n : ℕ) : S32x512.Idx → EReal := fun y =>
  dP (aX m c) (aXs m c) (aT m c) (n % 24 + 1) (y 0).val (512 * (n / 24) + (y 1).val)

/-- What a point adds is its row block's contribution. -/
theorem dNew_apply (c : Dev nD) (t : Fin cfg0.N) (d : S512x128.Idx → EReal) (j : Fin 32) (q : Fin 512) :
    Cert.MainValue.dNew (tD m c t d) (tT m c t) (ValueIdx.ix2 j q) = dPart (aX m c) (aXs m c) (aT m c) (t.val % 24) j.val (512 * (t.val / 24) + q.val) := by
  show two * ((∑ r : Fin 512, tT m c t (ValueIdx.ix2 r j) * tD m c t d (ValueIdx.ix2 r q))
    + (∑ r : Fin 512, rest (tT m c t (ValueIdx.ix2 r j)) * tD m c t d (ValueIdx.ix2 r q))
    + ∑ r : Fin 512, rest (rest (tT m c t (ValueIdx.ix2 r j))) * tD m c t d (ValueIdx.ix2 r q)) = _
  refine congrArg (two * ·) (congrArg₂ (· + ·) (congrArg₂ (· + ·) ?_ ?_) ?_) <;> exact Finset.sum_congr rfl fun r _ => by rw [tT_apply, tD_apply]

theorem d_step (c : Dev nD) (t : Fin cfg0.N) (d : S512x128.Idx → EReal) (x3 : S32x512.Idx → EReal) (hx : t.val % 24 ≠ 0 → x3 = dAt m c (t.val - 1)) :
    (fun y => (if t.val % 24 = 0 then 0 else x3 y : EReal) + Cert.MainValue.dNew (tD m c t d) (tT m c t) y) = dAt m c t.val := by
  funext y
  obtain ⟨j, q, rfl⟩ : ∃ (j : Fin 32) (q : Fin 512), y = ValueIdx.ix2 j q := ⟨y 0, y 1, ValueIdx.eq_ix2 y⟩
  rw [dNew_apply]
  show _ = dP _ _ _ (t.val % 24 + 1) j.val (512 * (t.val / 24) + q.val)
  unfold dP
  rw [Finset.sum_range_succ]
  congr 1
  split
  · rename_i h0; rw [h0]; simp
  · rename_i h0
    rw [hx h0]
    show dP _ _ _ ((t.val - 1) % 24 + 1) j.val (512 * ((t.val - 1) / 24) + q.val) = _
    rw [show (t.val - 1) % 24 + 1 = t.val % 24 by omega, show (t.val - 1) / 24 = t.val / 24 by omega]
    rfl

end Cert.DaValue

end
-- ==== Proof.DaValue.lean ====
/- The frame of the kernel of the product of x with t over the extended reals, with what its result's buffer holds after each
   grid point, and what it leaves in its result: the plain sum. -/
module

public import proofs.«01_k».proof.Proof.DaIdealPoint

@[expose] public section

set_option maxRecDepth 16384

noncomputable section

namespace Cert.DaValue

open Idealize.ShloMosaic Idealize.ShloMosaic.TcCoe Idealize.SL.Sem Idealize.ShloMosaic.StableHlo
open Idealize.ShloMosaic.Pipeline (Dat RDat Cfg Window)
open Cert.DaIdeal Cert.DaIdeal.Gen

variable (m : (ℓ : Loc nD τ sig) → Buf (Elt Ideal) ℓ) (ρ : Dev nD → PrngReg)

/-- After each point the block of the result holds the sum over the row blocks seen. -/
def Pd (c : Dev nD) (t : Fin cfg0.N) (X : Vec Ideal S32x512 .f32) : Prop := X = dAt m c t.val

theorem finds_0 (c : Dev nD) (t : Fin cfg0.N) (Y) (h : (rd m (Pd m) c).Finds 0 t Y) : Y = iblk m c 0 t := by
  obtain ⟨d, rfl⟩ := (rd m (Pd m) c).finds_in_eq_fetched 0 rfl (fun _ _ _ => rfl) (fun t Y X h => by rwa [after_0] at h) t Y h
  unfold RDat.fetched RDat.blockOf iblk; rw [A_eq]; try rfl
theorem finds_2 (c : Dev nD) (t : Fin cfg0.N) (Y) (h : (rd m (Pd m) c).Finds 2 t Y) : Y = iblk m c 2 t := by
  obtain ⟨d, rfl⟩ := (rd m (Pd m) c).finds_in_eq_fetched 2 rfl (fun _ _ _ => rfl) (fun t Y X h => by rwa [after_2] at h) t Y h
  unfold RDat.fetched RDat.blockOf iblk; rw [A_eq]; try rfl
theorem finds_1 (c : Dev nD) (t : Fin cfg0.N) (Y) (h : (rd m (Pd m) c).Finds 1 t Y) : ∃ d, Y = tS m c t d := by
  obtain ⟨d, rfl⟩ := (rd m (Pd m) c).finds_in_eq_fetched 1 rfl (fun s t h => clip0_1_eq s t h) (fun t Y X h => by rwa [after_1] at h) t Y h
  refine ⟨d, ?_⟩
  unfold RDat.fetched RDat.blockOf tS iblk; rw [A_eq]; try rfl

/-- The result's buffer holds what the point before left, after the first row block. -/
theorem finds_3 (c : Dev nD) (t : Fin cfg0.N) (Y) (h : (rd m (Pd m) c).Finds 3 t Y) (h0 : t.val % 24 ≠ 0) : Y = dAt m c (t.val - 1) := by
  have hN : t.val < 336 := Nat.lt_of_lt_of_eq t.isLt N_0
  rcases ((rd m (Pd m) c).finds_of_pos (w := 3) (t := t) rfl (by omega) Y).mp h with hf | ⟨Y', _, hR⟩
  · have := (flush0_3 _).mp hf; dsimp only at this; omega
  · rw [after_3] at hR; exact hR

theorem hasRuns : HasRuns m (Pd m) := fun c t Y hY => by
  have e0 := finds_0 m c t _ (hY 0)
  obtain ⟨d, e1⟩ := finds_1 m c t _ (hY 1)
  have e2 := finds_2 m c t _ (hY 2)
  have e3 := finds_3 m c t _ (hY 3)
  obtain ⟨R, hR⟩ := step c t (ms0_0 t) (hs0_0 t) (ms0_1 t) (hs0_1 t) (ms0_2 t) (hs0_2 t) (ms0_3 t) (hs0_3 t) (Y 0) (Y 1) (Y 2) (Y 3)
  refine ⟨R, hR.trans ?_⟩
  rw [e0, e1, e2]
  exact d_step m c t d (Y 3) e3

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := frame_proof m ρ

/-- The result: the sum over all row blocks. -/
abbrev resDa (c : Dev nD) : S32x7168.Idx → EReal := fun y => dP (aX m c) (aXs m c) (aT m c) 24 (y 0).val (y 1).val

section
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rd m (Pd m) c).Leaves w u (after w u))
include hL

theorem flushed_3 (t : Fin cfg0.N) (hf : (cfg0.win 3).flush t = true) :
    ((rd m (Pd m) c).withAfter after).flushed 3 t = ((cfg0.win 3).blk t).view.read (Elt Ideal) (resDa m c) := by
  have ht : t.val < 336 := Nat.lt_of_lt_of_eq t.isLt N_0
  have h23 : t.val % 24 = 23 := (flush0_3 t).mp hf
  have hi := tidx3 (grid0.coords t)
  obtain ⟨Y, _, hR⟩ := hL 3 t hf
  rw [after_3] at hR
  show (cfg0.win 3).cut (grid0.coords t) (after 3 t) = _
  funext j
  obtain ⟨a, q, rfl⟩ : ∃ (a : Fin 32) (q : Fin 512), j = ValueIdx.ix2 a q := ⟨j 0, j 1, ValueIdx.eq_ix2 j⟩
  have hj : (((cfg0.win 3).blk t).view.emb (ValueIdx.ix2 a q) : S32x7168.Idx) = ValueIdx.ix2 a ⟨512 * (t.val / 24) + q.val, by omega⟩ := by
    funext b
    apply Fin.ext
    match b with
    | ⟨0, _⟩ => show cc0_transform_3 (grid0.coords t) 0 * 32 + 1 * a.val = a.val; rw [hi.1]; omega
    | ⟨1, _⟩ => show cc0_transform_3 (grid0.coords t) 1 * 512 + 1 * q.val = 512 * (t.val / 24) + q.val; rw [hi.2, coords0]; omega
  have hv : ∀ G : S32x7168.Idx → EReal, ((cfg0.win 3).blk t).view.read (Elt Ideal) G (ValueIdx.ix2 a q) = G (ValueIdx.ix2 a ⟨512 * (t.val / 24) + q.val, by omega⟩) := fun G => by
    rw [View.read_apply]
    show G (((cfg0.win 3).blk t).view.emb (ValueIdx.ix2 a q)) = _
    rw [hj]
  refine Eq.trans ?_ (hv (resDa m c)).symm
  refine (congrFun hR (ValueIdx.ix2 a q)).trans ?_
  show dP _ _ _ (t.val % 24 + 1) a.val (512 * (t.val / 24) + q.val) = _
  rw [h23]

theorem final_3 : ((rd m (Pd m) c).withAfter after).arrAt 3 cfg0.N = resDa m c :=
  ((rd m (Pd m) c).withAfter after).arrAt_eq_of_cover 3 (resDa m c) (flushed_3 m c after hL) fun i => by
    have h0 : (i 0 : Nat) < 32 := (i 0).isLt
    have h1 : (i 1 : Nat) < 7168 := (i 1).isLt
    have hN : cfg0.N = 336 := N_0
    refine ⟨⟨24 * ((i 1 : Nat) / 512) + 23, by omega⟩, (flush0_3 _).mpr (by dsimp only; omega), ?_⟩
    generalize ht : (⟨24 * ((i 1 : Nat) / 512) + 23, _⟩ : Fin cfg0.N) = t
    have ht' : t.val = 24 * ((i 1 : Nat) / 512) + 23 := by rw [← ht]
    have hi := tidx3 (grid0.coords t)
    show i ∈ ((View.whole main_v2).slice (win0_3.rect t)).set
    rw [View.set_slice_whole, Rect.mem_set_unit]
    intro a
    match a with
    | ⟨0, _⟩ =>
      show cc0_transform_3 (grid0.coords t) 0 * 32 ≤ (i 0 : Nat) ∧ (i 0 : Nat) < cc0_transform_3 (grid0.coords t) 0 * 32 + 32
      rw [hi.1]; omega
    | ⟨1, _⟩ =>
      show cc0_transform_3 (grid0.coords t) 1 * 512 ≤ (i 1 : Nat) ∧ (i 1 : Nat) < cc0_transform_3 (grid0.coords t) 1 * 512 + 512
      rw [hi.2, coords0]; omega

end

/-- The kernel's run, read: the result at the sum, the arguments unchanged. -/
theorem run : θ_run defs (onTc (τ := τ) (main (F := Ideal))) ⟨m, fun _ => 0, ρ⟩ fun r => ∀ c : Dev nD,
      r.2.mem ((c.tc : Thread nD τ).loc main_v2) = resDa m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨after, hL, hA⟩ := RDat.FramePost.exists_exact h.1 c
    exact ⟨(hA 3).trans (final_3 m c after hL), args_kept m h.1 c⟩)
    (run_main_quiescent m ρ (hasRuns m))

end Cert.DaValue

end
-- ==== Proof.DaRefValue.lean ====
/- What the reference of the product of x with t computes over the reals: the plain sum over the rows. -/
module

public import proofs.«01_k».proof.Proof.Gen.DaRefIdeal.Read
public import proofs.«01_k».proof.Proof.DaSpec
public import Idealize.ShloMosaic.Lib.TwoAxisContraction

@[expose] public section

set_option maxRecDepth 16384

noncomputable section

namespace Cert.DaValue

open Idealize.ShloMosaic Idealize.ShloMosaic.TcCoe Idealize.SL.Sem
open Cert.DaRefIdeal Cert.DaRefIdeal.Gen
open Cert.MainValue (two rest xR SXa)
open scoped BigOperators

variable (m : (ℓ : Loc nD τ sig) → Buf (Elt Ideal) ℓ)

/-- The reference's own cast of the operand is the identity over the reals. -/
theorem reg_eq (c : Dev nD) : Value.reg_main_v0 m c = (m ((c.tc : Thread nD τ).loc main_arg0) : SX.Idx → EReal) := by
  unfold Value.reg_main_v0
  have hz3 : (![0, 0, 0] : Fin 3 → ℕ) = fun _ => 0 := funext fun a => by fin_cases a <;> rfl
  have hout : ∀ x0 : Vec Ideal S3x4096x7168 .fp8e4m3, out0_1 x0 = k0_pay1 x0 := fun x0 => by
    unfold out0_1
    rw [View.canon_unit_zero (S := S3x4096x7168) hz3, View.ld_unit_zero (S := S3x4096x7168) hz3]
  refine (dats m 0 c).arrAt_eq_of_cover 1 _ (fun t _ => ?_) fun i => ⟨t0_0, flush0_1 t0_0, ?_⟩
  · obtain rfl := fin_N0 t
    show (cfg0.win 1).cut (grid0.coords t0_0) ((dats m 0 c).after 1 t0_0) = _
    rw [after0_1, hout]
    have hz1 : (fun a => win0_1.index t0_0 a * main_v0.ty.shape.size a) = fun _ => 0 := funext fun a => by fin_cases a <;> decide
    have hz0 : (fun a => win0_0.index t0_0 a * main_arg0.ty.shape.size a) = fun _ => 0 := funext fun a => by fin_cases a <;> decide
    refine Eq.trans ?_ (Memref.read_access_unit_zero (Elt Ideal) main_v0 hz1 (fun a => by rw [congrFun hz1 a]; simp) _).symm
    have e0 : iblk m c 0 t0_0 = V m c main_arg0 :=
      Memref.read_access_unit_zero (Elt Ideal) main_arg0 hz0 (fun a => by rw [congrFun hz0 a]; simp) _
    rw [e0, V_main_arg0]
    rfl
  · show i ∈ ((View.whole main_v0).slice (win0_1.rect t0_0)).set
    rw [View.set_slice_whole, Rect.mem_set_unit]
    intro a
    have h0 : (i 0 : Nat) < 3 := (i 0).isLt
    have h1 : (i 1 : Nat) < 4096 := (i 1).isLt
    have h2 : (i 2 : Nat) < 7168 := (i 2).isLt
    match a with
    | ⟨0, _⟩ =>
      show win0_1.index t0_0 0 * win0_1.size 0 ≤ (i 0 : Nat) ∧ (i 0 : Nat) < win0_1.index t0_0 0 * win0_1.size 0 + win0_1.xsize (grid0.coords t0_0) 0
      rw [show win0_1.index t0_0 0 * win0_1.size 0 = 0 from by decide +kernel, show win0_1.xsize (grid0.coords t0_0) 0 = 3 from by decide +kernel]; omega
    | ⟨1, _⟩ =>
      show win0_1.index t0_0 1 * win0_1.size 1 ≤ (i 1 : Nat) ∧ (i 1 : Nat) < win0_1.index t0_0 1 * win0_1.size 1 + win0_1.xsize (grid0.coords t0_0) 1
      rw [show win0_1.index t0_0 1 * win0_1.size 1 = 0 from by decide +kernel, show win0_1.xsize (grid0.coords t0_0) 1 = 4096 from by decide +kernel]; omega
    | ⟨2, _⟩ =>
      show win0_1.index t0_0 2 * win0_1.size 2 ≤ (i 2 : Nat) ∧ (i 2 : Nat) < win0_1.index t0_0 2 * win0_1.size 2 + win0_1.xsize (grid0.coords t0_0) 2
      rw [show win0_1.index t0_0 2 * win0_1.size 2 = 0 from by decide +kernel, show win0_1.xsize (grid0.coords t0_0) 2 = 7168 from by decide +kernel]; omega

section Values
variable (x1 : (⟨S3x4096x224, .f32⟩ : BufTy).Contents (Elt Ideal)) (x2 : (⟨S12288x32, .f32⟩ : BufTy).Contents (Elt Ideal))
  (r0 : (⟨S3x4096x7168, .f32⟩ : BufTy).Contents (Elt Ideal))

theorem v5_at (i : S3x4096x7168.Idx) (R n : ℕ) (hR : R = 4096 * (i 0).val + (i 1).val) (hn : n = (i 2).val) :
    Read.val_main_v5 (F := Ideal) x1 r0 i = xG r0 x1 R n := by
  have h0 : (i 0).val < 3 := (i 0).isLt
  have h1 : (i 1).val < 4096 := (i 1).isLt
  have h2 : (i 2).val < 7168 := (i 2).isLt
  rw [Read.val_main_v5_apply, Read.val_main_v4_apply, Read.val_main_v1_apply, Read.val_main_v3_apply, Read.val_main_v2_apply]
  unfold xG
  rw [dif_pos ⟨by omega, by omega⟩]
  refine congrArg₂ (· * ·) (congrArg r0 ?_) (congrArg x1 ?_) <;> funext a <;> apply Fin.ext
  · match a with
    | ⟨0, _⟩ => dsimp only [Read.idx_main_v1, Read.idx_main_v5]; omega
    | ⟨1, _⟩ => dsimp only [Read.idx_main_v1, Read.idx_main_v5]; omega
    | ⟨2, _⟩ => dsimp only [Read.idx_main_v1, Read.idx_main_v5]; omega
  · match a with
    | ⟨0, _⟩ => dsimp only [Read.idx_main_v2, Read.idx_main_v3, Read.idx_main_v5]; omega
    | ⟨1, _⟩ => dsimp only [Read.idx_main_v2, Read.idx_main_v3, Read.idx_main_v5]; omega
    | ⟨2, _⟩ => dsimp only [Read.idx_main_v2, Read.idx_main_v3, Read.idx_main_v5]; omega

theorem v6_at (i : S3x4096x32.Idx) (R : ℕ) (hR : R = 4096 * (i 0).val + (i 1).val) :
    Read.val_main_v6 (F := Ideal) x2 i = xR x2 R (i 2).val := by
  have h0 : (i 0).val < 3 := (i 0).isLt
  have h1 : (i 1).val < 4096 := (i 1).isLt
  have h2 : (i 2).val < 32 := (i 2).isLt
  rw [Read.val_main_v6_apply]
  unfold xR
  rw [dif_pos ⟨by omega, h2⟩]
  refine congrArg x2 (funext fun a => Fin.ext ?_)
  match a with
  | ⟨0, _⟩ => show (((i 0).val * 4096 + (i 1).val) * 32 + (i 2).val) / 32 = R; omega
  | ⟨1, _⟩ => show (((i 0).val * 4096 + (i 1).val) * 32 + (i 2).val) % 32 = (i 2).val; omega

/-- The reference's product over the rows, a sum over batch and position, as one sum over the rows. -/
theorem v7_at (y : S7168x32.Idx) : Read.val_main_v7 (F := Ideal) x1 x2 r0 y
    = ∑ R ∈ Finset.range 12288, xR x2 R (y 1).val * xG r0 x1 R (y 0).val := by
  unfold Read.val_main_v7
  have hd : ∀ (A : (⟨S3x4096x7168, .f32⟩ : BufTy).Contents (Elt Ideal)) (B : (⟨S3x4096x32, .f32⟩ : BufTy).Contents (Elt Ideal)),
      Host.dotGeneral (F := Ideal) dot_S3x4096x7168_S3x4096x32_S7168x32_01_01_2_2_n_n (some .fp32) A B y
        = ∑ a : Fin 3, ∑ b : Fin 4096, A (ValueIdx.ix3 a b (y 0)) * B (ValueIdx.ix3 a b (y 1)) := fun A B => by
    simp only [Host.dotGeneral]
    rw [Ideal.dotGeneral_apply, ValueIdx.sum_contr2 dot_S3x4096x7168_S3x4096x32_S7168x32_01_01_2_2_n_n 3 4096 rfl rfl rfl]
    refine Finset.sum_congr rfl fun a _ => Finset.sum_congr rfl fun b _ => ?_
    have k0 := ValueIdx.contrEquiv2_symm_val0 dot_S3x4096x7168_S3x4096x32_S7168x32_01_01_2_2_n_n 3 4096 rfl rfl rfl (a, b)
    have k1 := ValueIdx.contrEquiv2_symm_val1 dot_S3x4096x7168_S3x4096x32_S7168x32_01_01_2_2_n_n 3 4096 rfl rfl rfl (a, b)
    generalize (ValueIdx.contrEquiv2 dot_S3x4096x7168_S3x4096x32_S7168x32_01_01_2_2_n_n 3 4096 rfl rfl rfl).symm (a, b) = q at k0 k1
    refine congrArg₂ (· * ·) (congrArg A ?_) (congrArg B ?_) <;> funext e <;> apply Fin.ext
    · match e with
      | ⟨0, _⟩ => exact k0
      | ⟨1, _⟩ => exact k1
      | ⟨2, _⟩ => rfl
    · match e with
      | ⟨0, _⟩ => exact k0
      | ⟨1, _⟩ => exact k1
      | ⟨2, _⟩ => rfl
  rw [hd, ← Cert.Common.sum_blocks (fun R => xR x2 R (y 1).val * xG r0 x1 R (y 0).val) 4096 3, Finset.sum_range]
  refine Finset.sum_congr rfl fun a _ => ?_
  rw [Finset.sum_range]
  refine Finset.sum_congr rfl fun b _ => ?_
  rw [v6_at x2 _ (4096 * a.val + b.val) rfl, v5_at x1 r0 _ (4096 * a.val + b.val) (y 0).val rfl rfl]
  exact mul_comm _ _

/-- The reference's result. -/
theorem v10_eq : Read.val_main_v10 (F := Ideal) x1 x2 r0 = specDa r0 x1 x2 := by
  funext y
  rw [Read.val_main_v10_apply, Read.val_main_v9_apply, Read.val_main_v8_apply, v7_at]
  rfl

end Values

/-- The reference's run, read: the result at the plain sum, the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v10) = specDa (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      have e := Read.val_main_v10_eq (F := Ideal) (Value.exitV m c)
      rw [Value.exit_main_arg1, Value.exit_main_arg2, Value.exit_main_v0] at e
      rw [e, v10_eq, reg_eq]), (h c).2⟩) (Value.run m ρ)

end Cert.DaValue

end
-- ==== Proof.DaClaim.lean ====
/- The claim about the last call of the kernel: over the reals its result is the reference's when its argument t is finite, so
   that t has no remainders. -/
module

public import proofs.«01_k».proof.Defs
public import proofs.«01_k».proof.Proof.DaValue
public import proofs.«01_k».proof.Proof.DaRefValue
public import proofs.«01_k».proof.Proof.Finite

@[expose] public section

noncomputable section

namespace Cert.DaValue

open Idealize.ShloMosaic Idealize.ShloMosaic.TcCoe Idealize.SL.Sem
open Cert.MainValue (rest rest_coe SXa)

/-- Under the precondition t has no remainder. -/
theorem rest_t [Cert.Pre_finite_t.Facts] (m : (ℓ : Loc Cert.DaIdeal.nD Cert.DaIdeal.τ Cert.DaIdeal.sig) → Buf (Elt Ideal) ℓ)
    (h : Cert.Pre_DaIdeal_finite_t m) (c : Dev Cert.DaIdeal.nD) (y : SXa.Idx) :
    rest ((m ((c.tc : Thread Cert.DaIdeal.nD Cert.DaIdeal.τ).loc Cert.DaIdeal.main_arg2) : SXa.Idx → EReal) y) = 0 := by
  have e := congrFun (h c) y
  unfold Cert.Pre_finite_t.fn at e
  obtain ⟨r, hr⟩ := Cert.Common.coe_of_finite _ e
  exact (congrArg rest hr).trans (rest_coe r)

theorem algebraic [Cert.DaIdeal.Facts] [Cert.DaRefIdeal.Facts] [Cert.Pre_finite_t.Facts] :
    Cert.algebraic_DaIdeal_DaRefIdeal_pre_finite_t := fun m g m' g' hp h =>
  ⟨fun c => resDa m c, run m g,
    (θ_run _ _ _).mono (fun _ hr c => by
      obtain ⟨e0, e1, e2⟩ := h c
      obtain ⟨r0, ra⟩ := hr c
      refine ⟨r0.trans ?_, ra⟩
      rw [e0, e1, e2]
      exact funext fun y => (dP_all _ _ _ (rest_t m hp c) y).symm) (ref_run m' g')⟩

end Cert.DaValue

end
-- ==== Proof.lean ====
/- The proof of the certificate's claim: each part is a theorem of the module it names. -/
module

public import proofs.«01_k».proof.Defs
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaRefIdeal
public import proofs.«01_k».proof.Proof.Gen.XaRefIdeal.Skeleton
public import proofs.«01_k».proof.Proof.Gen.XaRefIdeal.Launch
public import proofs.«01_k».proof.Proof.Gen.XaRefIdeal.Points
public import proofs.«01_k».proof.Proof.Gen.XaRefIdeal.Frame
public import proofs.«01_k».proof.Proof.Gen.XaRefIdeal.Run
public import proofs.«01_k».proof.Proof.Gen.XaRefIdeal.Read
public import proofs.«01_k».proof.Proof.XaFrame
public import proofs.«01_k».proof.Proof.XaValue
public import proofs.«01_k».proof.Proof.Gen.Pre_finite_xa
public import proofs.«01_k».proof.Proof.MainFrame
public import proofs.«01_k».proof.Proof.MainIdealFrame
public import proofs.«01_k».proof.Proof.MainClaim
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.DaRefIdeal.Skeleton
public import proofs.«01_k».proof.Proof.Gen.DaRefIdeal.Launch
public import proofs.«01_k».proof.Proof.Gen.DaRefIdeal.Points
public import proofs.«01_k».proof.Proof.Gen.DaRefIdeal.Frame
public import proofs.«01_k».proof.Proof.Gen.DaRefIdeal.Run
public import proofs.«01_k».proof.Proof.Gen.DaRefIdeal.Read
public import proofs.«01_k».proof.Proof.Gen.Pre_finite_t
public import proofs.«01_k».proof.Proof.DaRun
public import proofs.«01_k».proof.Proof.DaClaim

@[expose] public section

noncomputable section

namespace Cert.Proof

open Idealize.ShloMosaic Idealize.ShloMosaic.TcCoe Idealize.SL.Sem

theorem algebraic_Xa [Cert.XaIdeal.Facts] [Cert.XaRefIdeal.Facts] : Cert.algebraic_XaIdeal_XaRefIdeal := fun m g m' g' _ h =>
  ⟨fun c => Cert.XaValue.result m c, Cert.XaValue.run m g,
    (θ_run _ _ _).mono (fun _ hr c => ⟨(hr c).1.trans (by rw [(h c).1, (h c).2.1, (h c).2.2]), (hr c).2⟩) (Cert.XaValue.ref_run m' g')⟩

theorem claim : Cert.Claim :=
  ⟨Cert.Xa.Gen.facts, Cert.XaIdeal.Gen.facts, Cert.XaRefIdeal.Gen.facts,
    Cert.Main.Gen.facts, Cert.MainIdeal.Gen.facts, Cert.MainRefIdeal.Gen.facts,
    Cert.Da.Gen.facts, Cert.DaIdeal.Gen.facts, Cert.DaRefIdeal.Gen.facts, Cert.Pre_finite_xa.Gen.facts, Cert.Pre_finite_t.Gen.facts,
    fun m ρ _ => Cert.Xa.Gen.frame m ρ, fun m ρ _ => Cert.XaIdeal.Gen.frame m ρ, fun m ρ _ => Cert.XaRefIdeal.Gen.frame m ρ,
    fun m ρ _ => Cert.Main.Gen.frame_proof m ρ, fun m ρ _ => Cert.MainValue.frame m ρ, fun m ρ _ => Cert.MainValue.frame m ρ,
    fun m ρ _ => Cert.MainRefIdeal.Gen.frame m ρ, fun m ρ _ => Cert.MainRefIdeal.Gen.frame m ρ,
    fun m ρ _ => Cert.Da.Gen.frame_proof m ρ, fun m ρ _ => Cert.DaValue.frame m ρ, fun m ρ _ => Cert.DaValue.frame m ρ,
    fun m ρ _ => Cert.DaRefIdeal.Gen.frame m ρ, fun m ρ _ => Cert.DaRefIdeal.Gen.frame m ρ,
    trivial, algebraic_Xa, trivial, Cert.MainValue.algebraic, trivial, Cert.DaValue.algebraic⟩

end Cert.Proof

end
